-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_nonzero [hPre_nonzero : Cert.Pre_nonzero.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_nonzero.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_nonzero [hPre_nonzero : Cert.Pre_nonzero.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_nonzero.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_nonzero [hKernel5Ideal : Cert.Kernel5Ideal.Facts] [hPre_nonzero : Cert.Pre_nonzero.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_nonzero m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_nonzero [hReference5Ideal : Cert.Reference5Ideal.Facts] [hPre_nonzero : Cert.Pre_nonzero.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_nonzero m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_nonzero [hKernel5Ideal : Cert.Kernel5Ideal.Facts] [hReference5Ideal : Cert.Reference5Ideal.Facts] [hPre_nonzero : Cert.Pre_nonzero.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_nonzero m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_v41) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)) (v3 : (c : Dev Cert.Kernel6Ideal.nD) → Buf (Elt Ideal) ((c.tc : Thread Cert.Kernel6Ideal.nD Cert.Kernel6Ideal.τ).loc Cert.Kernel6Ideal.main_v18_3)) (v4 : (c : Dev Cert.Kernel6Ideal.nD) → Buf (Elt Ideal) ((c.tc : Thread Cert.Kernel6Ideal.nD Cert.Kernel6Ideal.τ).loc Cert.Kernel6Ideal.main_v18_4)) (v5 : (c : Dev Cert.Kernel6Ideal.nD) → Buf (Elt Ideal) ((c.tc : Thread Cert.Kernel6Ideal.nD Cert.Kernel6Ideal.τ).loc Cert.Kernel6Ideal.main_v18_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_v18_3) = v3 c
          ∧ r.2.mem ((c.tc : Thread Cert.Kernel6Ideal.nD Cert.Kernel6Ideal.τ).loc Cert.Kernel6Ideal.main_v18_4) = v4 c
          ∧ r.2.mem ((c.tc : Thread Cert.Kernel6Ideal.nD Cert.Kernel6Ideal.τ).loc Cert.Kernel6Ideal.main_v18_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_v29) = v3 c
          ∧ r.2.mem ((c.tc : Thread Cert.Reference6Ideal.nD Cert.Reference6Ideal.τ).loc Cert.Reference6Ideal.main_v32) = v4 c
          ∧ r.2.mem ((c.tc : Thread Cert.Reference6Ideal.nD Cert.Reference6Ideal.τ).loc Cert.Reference6Ideal.main_v35) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_nonzero : Cert.Pre_nonzero.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_nonzero (hKernel5Ideal := hKernel5Ideal) (hPre_nonzero := hPre_nonzero)
    ∧ quiescent_Reference5Ideal (hReference5Ideal := hReference5Ideal)
    ∧ quiescent_Reference5Ideal_pre_nonzero (hReference5Ideal := hReference5Ideal) (hPre_nonzero := hPre_nonzero)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_nonzero (hKernel5Ideal := hKernel5Ideal) (hReference5Ideal := hReference5Ideal) (hPre_nonzero := hPre_nonzero)
    ∧ preserves_Kernel6_Kernel6Ideal
    ∧ algebraic_Kernel6Ideal_Reference6Ideal (hKernel6Ideal := hKernel6Ideal) (hReference6Ideal := hReference6Ideal)
-- ==== Pre_finite.lean ====
abbrev S16x2048x5120 : Shape := ⟨3, ![16, 2048, 5120]⟩
abbrev S16x2048 : Shape := ⟨2, ![16, 2048]⟩
abbrev S64 : Shape := ⟨1, ![64]⟩
abbrev S8 : Shape := ⟨1, ![8]⟩
abbrev S2x5632x2048 : Shape := ⟨3, ![2, 5632, 2048]⟩
abbrev S16x2048x640 : Shape := ⟨3, ![16, 2048, 640]⟩
abbrev S_ : Shape := ⟨0, ![]⟩

class Facts : Prop where
  slices_S16x2048x5120_S16x2048x640_0_0_1792 : S16x2048x5120.Slices ![0, 0, 1792] S16x2048x640
  bitsLt_bf16_f32 : FTy.bits .bf16 < FTy.bits .f32
  bcast_S_S16x2048x640 : S_.BroadcastsInDim S16x2048x640 (![] : Fin 0 → Fin S16x2048x640.rank)
  reducesTo_S16x2048x640_S_d0_1_2 : S16x2048x640.ReducesTo [0, 1, 2] S_
  h_S_ : 0 < S_.numel
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v15 : IVec S_ 1) (main_v16 : FVec F S8 .f32) : IVec S_ 1 :=
  let main_v17 : IVec S8 1 := cmpf .olt main_arg4 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v15 main_v18
  main_v19

def fn {F : FTy → Type} [FloatOps F] (main_arg0 : FVec F S16x2048x5120 .bf16) (main_arg1 : IVec S16x2048 32) (main_arg2 : FVec F S64 .f32) (main_arg3 : FVec F S64 .f32) (main_arg4 : FVec F S8 .f32) (main_arg5 : FVec F S2x5632x2048 .f32) (main_arg6 : FVec F S2x5632x2048 .f32) : IVec S_ 1 :=
  let main_v0 : FVec F S16x2048x640 .bf16 := (extractStridedSlice S16x2048x640 ![0, 0, 1792] · slices_S16x2048x5120_S16x2048x640_0_0_1792) main_arg0
  let main_v1 : FVec F S16x2048x640 .f32 := (extf .f32 · bitsLt_bf16_f32) main_v0
  let main_v2 : FVec F S16x2048x640 .f32 := Host.absf main_v1
  let main_cst : FVec F S_ .f32 := constant S_ .f32 0x7F800000#32
  let main_v3 : FVec F S16x2048x640 .f32 := broadcastInDim S16x2048x640 ![] bcast_S_S16x2048x640 main_cst
  let main_v4 : IVec S16x2048x640 1 := cmpf .olt main_v2 main_v3
  let main_c : IVec S_ 1 := constantI S_ 1 1#1
  let main_v5 : IVec S_ 1 := (fun x v => Host.reduce IntOp.andi x v reducesTo_S16x2048x640_S_d0_1_2 h_S_) main_v4 main_c
  let main_v6 : FVec F S64 .f32 := Host.absf main_arg2
  let main_cst_0 : FVec F S_ .f32 := constant S_ .f32 0x7F800000#32
  let main_v7 : FVec F S64 .f32 := broadcastInDim S64 ![] bcast_S_S64 main_cst_0
  let main_v8 : IVec S64 1 := cmpf .olt main_v6 main_v7
  let main_c_1 : IVec S_ 1 := constantI S_ 1 1#1
  let main_v9 : IVec S_ 1 := (fun x v => Host.reduce IntOp.andi x v reducesTo_S64_S_d0 h_S_) main_v8 main_c_1
  let main_v10 : IVec S_ 1 := andi main_v5 main_v9
  let main_v11 : FVec F S64 .f32 := Host.absf main_arg3
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_cst_4 : FVec F S_ .f32 := constant S_ .f32 0x7F800000#32
  let main_v16 : FVec F S8 .f32 := broadcastInDim S8 ![] bcast_S_S8 main_cst_4
  fn_part1 (F := F) main_arg4 main_v15 main_v16
-- ==== Pre_nonzero.lean ====
abbrev S32x64 : Shape := ⟨2, ![32, 64]⟩
abbrev S32 : Shape := ⟨1, ![32]⟩
abbrev S32x64x16 : Shape := ⟨3, ![32, 64, 16]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel

variable [Facts]

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) : IVec S_ 1 :=
  let main_v0 : FVec F S32x64 .f32 := mulf main_arg0 main_arg0
  let main_v1 : FVec F S32x64 .f32 := mulf main_arg1 main_arg1
  let main_v2 : FVec F S32x64 .f32 := addf main_v0 main_v1
  let main_cst : FVec F S_ .f32 := constant S_ .f32 0x00000000#32
  let main_v3 : FVec F S32x64 .f32 := broadcastInDim S32x64 ![] bcast_S_S32x64 main_cst
  let main_v4 : IVec S32x64 1 := cmpf .ogt main_v2 main_v3
  let main_c : IVec S_ 1 := constantI S_ 1 1#1
  let main_v5 : IVec S_ 1 := (fun x v => Host.reduce IntOp.andi x v reducesTo_S32x64_S_d0_1 h_S_) main_v4 main_c
  main_v5
-- ==== Kernel.lean ====
abbrev S16x2048x5120 : Shape := ⟨3, ![16, 2048, 5120]⟩
abbrev S16x2048 : Shape := ⟨2, ![16, 2048]⟩
abbrev S64 : Shape := ⟨1, ![64]⟩
abbrev S8 : Shape := ⟨1, ![8]⟩
abbrev S2x5632x2048 : Shape := ⟨3, ![2, 5632, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S32768x1 : Shape := ⟨2, ![32768, 1]⟩
abbrev S32768x128 : Shape := ⟨2, ![32768, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S4x4 : Shape := ⟨2, ![4, 4]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S2x4 : Shape := ⟨2, ![2, 4]⟩
abbrev S2x4x128 : Shape := ⟨3, ![2, 4, 128]⟩
abbrev S2x512 : Shape := ⟨2, ![2, 512]⟩
abbrev S2x512x1 : Shape := ⟨3, ![2, 512, 1]⟩
abbrev S1x2x1x512x1x1 : Shape := ⟨6, ![1, 2, 1, 512, 1, 1]⟩
abbrev S8x2x1x512x1x1 : Shape := ⟨6, ![8, 2, 1, 512, 1, 1]⟩
abbrev S16x512x1 : Shape := ⟨3, ![16, 512, 1]⟩
abbrev S16x2048x128 : Shape := ⟨3, ![16, 2048, 128]⟩
abbrev S16x2048x512 : Shape := ⟨3, ![16, 2048, 512]⟩
abbrev S5632x2048 : Shape := ⟨2, ![5632, 2048]⟩
abbrev S8x128x128 : Shape := ⟨3, ![8, 128, 128]⟩
abbrev S8x128x256 : Shape := ⟨3, ![8, 128, 256]⟩
abbrev S1x176x2048 : Shape := ⟨3, ![1, 176, 2048]⟩
abbrev S8x128x512 : Shape := ⟨3, ![8, 128, 512]⟩
abbrev S176x2048 : Shape := ⟨2, ![176, 2048]⟩
abbrev S1024x128 : Shape := ⟨2, ![1024, 128]⟩
abbrev S1024x256 : Shape := ⟨2, ![1024, 256]⟩
abbrev S128x128 : Shape := ⟨2, ![128, 128]⟩
abbrev S128x64 : Shape := ⟨2, ![128, 64]⟩
abbrev S512x64 : Shape := ⟨2, ![512, 64]⟩
abbrev S1x512x64 : Shape := ⟨3, ![1, 512, 64]⟩
abbrev S16x512x64 : Shape := ⟨3, ![16, 512, 64]⟩
abbrev S512x128 : Shape := ⟨2, ![512, 128]⟩
abbrev S1x128x64 : Shape := ⟨3, ![1, 128, 64]⟩
abbrev S16x128x64 : Shape := ⟨3, ![16, 128, 64]⟩
abbrev S16x512x128 : Shape := ⟨3, ![16, 512, 128]⟩
abbrev S1x512x128 : Shape := ⟨3, ![1, 512, 128]⟩
abbrev S16x512 : Shape := ⟨2, ![16, 512]⟩

abbrev nBuf : Space → Nat
  | .hbm => 78
  | .vmem => 26
  | .smem => 0
  | _ => 0

abbrev bufTy : (tb : Table) → Fin (tcTables nBuf tb) → BufTy
  | .hbm, ⟨0, _⟩ => ⟨S16x2048x5120, .bf16⟩
  | .hbm, ⟨1, _⟩ => ⟨S16x2048, .i32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S2x5632x2048, .f32⟩
  | .hbm, ⟨6, _⟩ => ⟨S2x5632x2048, .f32⟩
  | .hbm, ⟨7, _⟩ => ⟨S128, .i32⟩
  | .hbm, ⟨8, _⟩ => ⟨S128, .i1⟩
  | .hbm, ⟨9, _⟩ => ⟨S128, .i1⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S128, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S32768x1, .i32⟩
  | .hbm, ⟨36, _⟩ => ⟨S32768x1, .f32⟩
  | .hbm, ⟨37, _⟩ => ⟨S32768x128, .f32⟩
  | .hbm, ⟨38, _⟩ => ⟨S32768x128, .f32⟩
  | .hbm, ⟨39, _⟩ => ⟨S32768x128, .f32⟩
  | .hbm, ⟨40, _⟩ => ⟨S32768x128, .f32⟩
  | .hbm, ⟨41, _⟩ => ⟨S32768x128, .f32⟩
  | .hbm, ⟨42, _⟩ => ⟨S1x64, .f32⟩
  | .hbm, ⟨43, _⟩ => ⟨S4x64, .f32⟩
  | .hbm, ⟨44, _⟩ => ⟨S256, .f32⟩
  | .hbm, ⟨45, _⟩ => ⟨S1x256, .f32⟩
  | .hbm, ⟨46, _⟩ => ⟨S1x64, .f32⟩
  | .hbm, ⟨47, _⟩ => ⟨S4x64, .f32⟩
  | .hbm, ⟨48, _⟩ => ⟨S256, .f32⟩
  | .hbm, ⟨49, _⟩ => ⟨S1x256, .f32⟩
  | .hbm, ⟨50, _⟩ => ⟨S4x4, .i32⟩
  | .hbm, ⟨51, _⟩ => ⟨S4x4, .i32⟩
  | .hbm, ⟨52, _⟩ => ⟨S_, .i32⟩
  | .hbm, ⟨53, _⟩ => ⟨S4x4, .i32⟩
  | .hbm, ⟨54, _⟩ => ⟨S4x4, .i32⟩
  | .hbm, ⟨55, _⟩ => ⟨S4x4, .i1⟩
  | .hbm, ⟨56, _⟩ => ⟨S4x4, .f32⟩
  | .hbm, ⟨57, _⟩ => ⟨S_, .f32⟩
  | .hbm, ⟨58, _⟩ => ⟨S64x64, .f32⟩
  | .hbm, ⟨59, _⟩ => ⟨S4x1x4x1, .f32⟩
  | .hbm, ⟨60, _⟩ => ⟨S1x64x1x64, .f32⟩
  | .hbm, ⟨61, _⟩ => ⟨S4x64x4x64, .f32⟩
  | .hbm, ⟨62, _⟩ => ⟨S4x64x4x64, .f32⟩
  | .hbm, ⟨63, _⟩ => ⟨S4x64x4x64, .f32⟩
  | .hbm, ⟨64, _⟩ => ⟨S256x256, .f32⟩
  | .hbm, ⟨65, _⟩ => ⟨S256x256, .bf16⟩
  | .hbm, ⟨66, _⟩ => ⟨S2x4, .f32⟩
  | .hbm, ⟨67, _⟩ => ⟨S2x4x128, .f32⟩
  | .hbm, ⟨68, _⟩ => ⟨S2x512, .f32⟩
  | .hbm, ⟨69, _⟩ => ⟨S2x512x1, .f32⟩
  | .hbm, ⟨70, _⟩ => ⟨S1x2x1x512x1x1, .f32⟩
  | .hbm, ⟨71, _⟩ => ⟨S8x2x1x512x1x1, .f32⟩
  | .hbm, ⟨72, _⟩ => ⟨S16x512x1, .f32⟩
  | .hbm, ⟨73, _⟩ => ⟨S16x2048x128, .f32⟩
  | .hbm, ⟨74, _⟩ => ⟨S16x2048x128, .f32⟩
  | .hbm, ⟨75, _⟩ => ⟨S16x2048x512, .bf16⟩
  | .hbm, ⟨76, _⟩ => ⟨S5632x2048, .bf16⟩
  | .hbm, ⟨77, _⟩ => ⟨S5632x2048, .bf16⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x256, .bf16⟩
  | .local _ .vmem, ⟨5, _⟩ => ⟨S8x128x256, .bf16⟩
  | .local _ .vmem, ⟨6, _⟩ => ⟨S8x128x256, .bf16⟩
  | .local _ .vmem, ⟨7, _⟩ => ⟨S8x128x256, .bf16⟩
  | .local _ .vmem, ⟨8, _⟩ => ⟨S8x128x256, .bf16⟩
  | .local _ .vmem, ⟨9, _⟩ => ⟨S8x128x256, .bf16⟩
  | .local _ .vmem, ⟨10, _⟩ => ⟨S1x256, .f32⟩
  | .local _ .vmem, ⟨11, _⟩ => ⟨S1x256, .f32⟩
  | .local _ .vmem, ⟨12, _⟩ => ⟨S16x512x1, .f32⟩
  | .local _ .vmem, ⟨13, _⟩ => ⟨S256x256, .bf16⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .vmem, ⟨18, _⟩ => ⟨S8x128x512, .bf16⟩
  | .local _ .vmem, ⟨19, _⟩ => ⟨S8x128x512, .bf16⟩
  | .local _ .vmem, ⟨20, _⟩ => ⟨S176x2048, .bf16⟩
  | .local _ .vmem, ⟨21, _⟩ => ⟨S176x2048, .bf16⟩
  | .local _ .vmem, ⟨22, _⟩ => ⟨S176x2048, .bf16⟩
  | .local _ .vmem, ⟨23, _⟩ => ⟨S176x2048, .bf16⟩
  | .local _ .vmem, ⟨24, _⟩ => ⟨S1024x128, .f32⟩
  | .local _ .vmem, ⟨25, _⟩ => ⟨S1024x128, .f32⟩
  | _, _ => ⟨S16x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_c_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S176x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S16x2048x5120 : Shape := ⟨3, ![16, 2048, 5120]⟩
abbrev S16x2048 : Shape := ⟨2, ![16, 2048]⟩
abbrev S64 : Shape := ⟨1, ![64]⟩
abbrev S8 : Shape := ⟨1, ![8]⟩
abbrev S2x5632x2048 : Shape := ⟨3, ![2, 5632, 2048]⟩
abbrev S16x2048x768 : Shape := ⟨3, ![16, 2048, 768]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x1 : Shape := ⟨3, ![16, 2048, 1]⟩
abbrev S1x1x8 : Shape := ⟨3, ![1, 1, 8]⟩
abbrev S16x2048x1x8 : Shape := ⟨4, ![16, 2048, 1, 8]⟩
abbrev S16x2048x8x8 : Shape := ⟨4, ![16, 2048, 8, 8]⟩
abbrev S16x2048x8x48 : Shape := ⟨4, ![16, 2048, 8, 48]⟩
abbrev S16x2048x2x8 : Shape := ⟨4, ![16, 2048, 2, 8]⟩
abbrev S16x2048x2x48 : Shape := ⟨4, ![16, 2048, 2, 48]⟩
abbrev S16x16x128x2x4x64 : Shape := ⟨6, ![16, 16, 128, 2, 4, 64]⟩
abbrev S16x16x128x2x64 : Shape := ⟨5, ![16, 16, 128, 2, 64]⟩
abbrev S16x17x128x2x64 : Shape := ⟨5, ![16, 17, 128, 2, 64]⟩
abbrev S16x16x256x2x64 : Shape := ⟨5, ![16, 16, 256, 2, 64]⟩
abbrev S16x16x2x256x128x4 : Shape := ⟨6, ![16, 16, 2, 256, 128, 4]⟩
abbrev S16x16x2x4x128x256 : Shape := ⟨6, ![16, 16, 2, 4, 128, 256]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S16x16x2x4x128x1 : Shape := ⟨6, ![16, 16, 2, 4, 128, 1]⟩
abbrev S16x16x2x4x128x257 : Shape := ⟨6, ![16, 16, 2, 4, 128, 257]⟩
abbrev S16x16x2x4x128 : Shape := ⟨5, ![16, 16, 2, 4, 128]⟩
abbrev S16x16x2x64x4x128 : Shape := ⟨6, ![16, 16, 2, 64, 4, 128]⟩
abbrev S1x5632x2048 : Shape := ⟨3, ![1, 5632, 2048]⟩
abbrev S5632x2048 : Shape := ⟨2, ![5632, 2048]⟩

abbrev nBuf : Space → Nat
  | .hbm => 187
  | .vmem => 0
  | .smem => 0
  | _ => 0

abbrev hbmTy0_0 (i : Nat) : BufTy := match i % 128 with
  | 0 => ⟨S16x2048x5120, .bf16⟩
  | 1 => ⟨S16x2048, .i32⟩
  | 2 => ⟨S64, .f32⟩
  | 3 => ⟨S64, .f32⟩
  | 4 => ⟨S8, .f32⟩
  | 5 => ⟨S2x5632x2048, .f32⟩
  | 6 => ⟨S2x5632x2048, .f32⟩
  | 7 => ⟨S16x2048x768, .bf16⟩
  | 8 => ⟨S16x2048x768, .f32⟩
  | 9 => ⟨S16x2048x512, .f32⟩
  | 10 => ⟨S16x2048x128, .f32⟩
  | 11 => ⟨S16x2048x128, .f32⟩
  | 12 => ⟨S16x2048x8x64, .f32⟩
  | 13 => ⟨S16x2048x8x64, .f32⟩
  | 14 => ⟨S_, .f32⟩
  | 15 => ⟨S16x2048x8, .f32⟩
  | 16 => ⟨S16x2048x8x1, .f32⟩
  | 17 => ⟨S_, .f32⟩
  | 18 => ⟨S16x2048x8x1, .f32⟩
  | 19 => ⟨S16x2048x8x1, .f32⟩
  | 20 => ⟨S_, .f32⟩
  | 21 => ⟨S16x2048x8x1, .f32⟩
  | 22 => ⟨S16x2048x8x1, .f32⟩
  | 23 => ⟨S16x2048x8x1, .f32⟩
  | 24 => ⟨S16x2048x8x64, .f32⟩
  | 25 => ⟨S16x2048x8x64, .f32⟩
  | 26 => ⟨S1x1x1x64, .f32⟩
  | 27 => ⟨S16x2048x8x64, .f32⟩
  | 28 => ⟨S16x2048x8x64, .f32⟩
  | 29 => ⟨S16x2048x2x64, .f32⟩
  | 30 => ⟨S16x2048x2x64, .f32⟩
  | 31 => ⟨S_, .f32⟩
  | 32 => ⟨S16x2048x2, .f32⟩
  | 33 => ⟨S16x2048x2x1, .f32⟩
  | 34 => ⟨S_, .f32⟩
  | 35 => ⟨S16x2048x2x1, .f32⟩
  | 36 => ⟨S16x2048x2x1, .f32⟩
  | 37 => ⟨S_, .f32⟩
  | 38 => ⟨S16x2048x2x1, .f32⟩
  | 39 => ⟨S16x2048x2x1, .f32⟩
  | 40 => ⟨S16x2048x2x1, .f32⟩
  | 41 => ⟨S16x2048x2x64, .f32⟩
  | 42 => ⟨S16x2048x2x64, .f32⟩
  | 43 => ⟨S1x1x1x64, .f32⟩
  | 44 => ⟨S16x2048x2x64, .f32⟩
  | 45 => ⟨S16x2048x2x64, .f32⟩
  | 46 => ⟨S16x2048x2x64, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S16x2048, .f32⟩
  | 62 => ⟨S16x2048x1, .f32⟩
  | 63 => ⟨S1x1x8, .f32⟩
  | 64 => ⟨S16x2048x8, .f32⟩
  | 65 => ⟨S16x2048x8, .f32⟩
  | 66 => ⟨S16x2048x8, .f32⟩
  | 67 => ⟨S16x2048x8, .f32⟩
  | 68 => ⟨S16x2048x1x8, .f32⟩
  | 69 => ⟨S16x2048x8, .f32⟩
  | 70 => ⟨S16x2048x1x8, .f32⟩
  | 71 => ⟨S16x2048x8x8, .f32⟩
  | 72 => ⟨S16x2048x8x8, .f32⟩
  | 73 => ⟨S16x2048x8x48, .f32⟩
  | 74 => ⟨S16x2048x8x8, .f32⟩
  | 75 => ⟨S16x2048x8x8, .f32⟩
  | 76 => ⟨S16x2048x8x8, .f32⟩
  | 77 => ⟨S16x2048x8x8, .f32⟩
  | 78 => ⟨S16x2048x8x8, .f32⟩
  | 79 => ⟨S16x2048x8x8, .f32⟩
  | 80 => ⟨S16x2048x8x8, .f32⟩
  | 81 => ⟨S16x2048x8x8, .f32⟩
  | 82 => ⟨S16x2048x8x8, .f32⟩
  | 83 => ⟨S16x2048x8x8, .f32⟩
  | 84 => ⟨S16x2048x8x64, .f32⟩
  | 85 => ⟨S16x2048x2x8, .f32⟩
  | 86 => ⟨S16x2048x2x8, .f32⟩
  | 87 => ⟨S16x2048x2x48, .f32⟩
  | 88 => ⟨S16x2048x2x8, .f32⟩
  | 89 => ⟨S16x2048x2x8, .f32⟩
  | 90 => ⟨S16x2048x2x8, .f32⟩
  | 91 => ⟨S16x2048x2x8, .f32⟩
  | 92 => ⟨S16x2048x2x8, .f32⟩
  | 93 => ⟨S16x2048x2x8, .f32⟩
  | 94 => ⟨S16x2048x2x8, .f32⟩
  | 95 => ⟨S16x2048x2x8, .f32⟩
  | 96 => ⟨S16x2048x2x8, .f32⟩
  | 97 => ⟨S16x2048x2x8, .f32⟩
  | 98 => ⟨S16x2048x2x64, .f32⟩
  | 99 => ⟨S16x16x128x2x4x64, .f32⟩
  | 100 => ⟨S_, .f32⟩
  | 101 => ⟨S16x16x128x2x4x64, .f32⟩
  | 102 => ⟨S16x16x128x2x4x64, .f32⟩
  | 103 => ⟨S16x16x128x2x64, .f32⟩
  | 104 => ⟨S16x16x128x2x64, .f32⟩
  | 105 => ⟨S_, .i32⟩
  | 106 => ⟨S_, .f32⟩
  | 107 => ⟨S16x17x128x2x64, .f32⟩
  | 108 => ⟨S16x16x128x2x64, .f32⟩
  | 109 => ⟨S16x16x256x2x64, .f32⟩
  | 110 => ⟨S_, .i32⟩
  | 111 => ⟨S_, .f32⟩
  | 112 => ⟨S16x17x128x2x64, .f32⟩
  | 113 => ⟨S16x16x128x2x64, .f32⟩
  | 114 => ⟨S16x16x256x2x64, .f32⟩
  | 115 => ⟨S16x16x2x256x128x4, .f32⟩
  | 116 => ⟨S16x16x2x4x128x256, .f32⟩
  | 117 => ⟨S16, .i32⟩
  | 118 => ⟨S16x1, .i32⟩
  | 119 => ⟨S_, .i32⟩
  | 120 => ⟨S16x1, .i32⟩
  | 121 => ⟨S16x1, .i32⟩
  | 122 => ⟨S128, .i32⟩
  | 123 => ⟨S1x128, .i32⟩
  | 124 => ⟨S16x128, .i32⟩
  | 125 => ⟨S16x128, .i32⟩
  | 126 => ⟨S16x128, .i32⟩
  | 127 => ⟨S_, .i32⟩
  | _ => ⟨S16x2048x5120, .bf16⟩

abbrev hbmTy0_1 (i : Nat) : BufTy := match i % 128 with
  | 0 => ⟨S16x1, .i32⟩
  | 1 => ⟨S16x1, .i32⟩
  | 2 => ⟨S256, .i32⟩
  | 3 => ⟨S1x256, .i32⟩
  | 4 => ⟨S16x256, .i32⟩
  | 5 => ⟨S16x256, .i32⟩
  | 6 => ⟨S16x256, .i32⟩
  | 7 => ⟨S16x128x1, .i32⟩
  | 8 => ⟨S16x1x256, .i32⟩
  | 9 => ⟨S16x128x256, .i32⟩
  | 10 => ⟨S16x128x256, .i32⟩
  | 11 => ⟨S16x128x256, .i32⟩
  | 12 => ⟨S_, .i32⟩
  | 13 => ⟨S16x128x256, .i32⟩
  | 14 => ⟨S16x128x256, .i1⟩
  | 15 => ⟨S_, .i32⟩
  | 16 => ⟨S16x128x256, .i32⟩
  | 17 => ⟨S16x128x256, .i1⟩
  | 18 => ⟨S16x128x256, .i1⟩
  | 19 => ⟨S16x1x256, .i32⟩
  | 20 => ⟨S_, .i32⟩
  | 21 => ⟨S16x1x256, .i32⟩
  | 22 => ⟨S16x1x256, .i1⟩
  | 23 => ⟨S16x128x256, .i1⟩
  | 24 => ⟨S16x128x256, .i1⟩
  | 25 => ⟨S1x16x1x1x128x256, .i1⟩
  | 26 => ⟨S_, .f32⟩
  | 27 => ⟨S_, .f32⟩
  | 28 => ⟨S16x16x2x4x128x256, .i1⟩
  | 29 => ⟨S16x16x2x4x128x256, .f32⟩
  | 30 => ⟨S16x16x2x4x128x256, .f32⟩
  | 31 => ⟨S1x1x2x4x1x1, .f32⟩
  | 32 => ⟨S16x16x2x4x128x1, .f32⟩
  | 33 => ⟨S16x16x2x4x128x257, .f32⟩
  | 34 => ⟨S_, .f32⟩
  | 35 => ⟨S16x16x2x4x128, .f32⟩
  | 36 => ⟨S_, .f32⟩
  | 37 => ⟨S16x16x2x4x128, .f32⟩
  | 38 => ⟨S16x16x2x4x128, .f32⟩
  | 39 => ⟨S16x16x2x4x128x1, .f32⟩
  | 40 => ⟨S16x16x2x4x128x257, .f32⟩
  | 41 => ⟨S16x16x2x4x128x257, .f32⟩
  | 42 => ⟨S16x16x2x4x128x257, .f32⟩
  | 43 => ⟨S_, .f32⟩
  | 44 => ⟨S16x16x2x4x128, .f32⟩
  | 45 => ⟨S16x16x2x4x128x1, .f32⟩
  | 46 => ⟨S16x16x2x4x128x257, .f32⟩
  | 47 => ⟨S16x16x2x4x128x257, .f32⟩
  | 48 => ⟨S16x16x2x4x128x256, .f32⟩
  | 49 => ⟨S16x16x2x64x4x128, .f32⟩
  | 50 => ⟨S16x16x128x2x4x64, .f32⟩
  | 51 => ⟨S16x2048x512, .f32⟩
  | 52 => ⟨S16x2048x512, .bf16⟩
  | 53 => ⟨S1x5632x2048, .f32⟩
  | 54 => ⟨S5632x2048, .f32⟩
  | 55 => ⟨S5632x2048, .bf16⟩
  | 56 => ⟨S1x5632x2048, .f32⟩
  | 57 => ⟨S5632x2048, .f32⟩
  | 58 => ⟨S5632x2048, .bf16⟩
  | _ => ⟨S16x2048x5120, .bf16⟩

abbrev hbmTy (i : Nat) : BufTy := match i / 128 with
  | 0 => hbmTy0_0 i
  | 1 => hbmTy0_1 i
  | _ => ⟨S16x2048x5120, .bf16⟩

abbrev bufTy : (tb : Table) → Fin (tcTables nBuf tb) → BufTy
  | .hbm, ⟨i, _⟩ => hbmTy i
  | _, _ => ⟨S16x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_c : Ref sig .tc := ⟨.hbm, 105, rfl⟩
abbrev main_call0_v0 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c_10 : Ref sig .tc := ⟨.hbm, 110, rfl⟩
abbrev main_call1_v0 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_c_11 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_c_12 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_c_13 : Ref sig .tc := ⟨.hbm, 140, rfl⟩
abbrev main_v116 : Ref sig .tc := ⟨.hbm, 141, rfl⟩
abbrev main_v117 : Ref sig .tc := ⟨.hbm, 142, rfl⟩
abbrev main_c_14 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_c_15 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_16 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_17 : Ref sig .tc := ⟨.hbm, 162, rfl⟩
abbrev main_v131 : Ref sig .tc := ⟨.hbm, 163, rfl⟩
abbrev main_cst_18 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_19 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩

abbrev nD : Nat := 1
abbrev τ : Topo := Topo.v7x

variable {F : FTy → Type} [FloatOps F]
-- ==== Kernel2.lean ====
abbrev S16x2048x2048 : Shape := ⟨3, ![16, 2048, 2048]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S32768x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2048x2048 : Shape := ⟨3, ![16, 2048, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x5632 : Shape := ⟨3, ![16, 2048, 5632]⟩
abbrev S32768x2048 : Shape := ⟨2, ![32768, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S16x2048x5632, .f32⟩
  | .hbm, ⟨22, _⟩ => ⟨S16x2048x5632, .f32⟩
  | .hbm, ⟨23, _⟩ => ⟨S16x2048x5632, .f32⟩
  | .hbm, ⟨24, _⟩ => ⟨S_, .f32⟩
  | .hbm, ⟨25, _⟩ => ⟨S16x2048x5632, .f32⟩
  | .hbm, ⟨26, _⟩ => ⟨S16x2048x5632, .f32⟩
  | .hbm, ⟨27, _⟩ => ⟨S_, .f32⟩
  | .hbm, ⟨28, _⟩ => ⟨S16x2048x5632, .f32⟩
  | .hbm, ⟨29, _⟩ => ⟨S16x2048x5632, .f32⟩
  | .hbm, ⟨30, _⟩ => ⟨S16x2048x5632, .f32⟩
  | .hbm, ⟨31, _⟩ => ⟨S16x2048x5632, .f32⟩
  | .hbm, ⟨32, _⟩ => ⟨S16x2048x5632, .f32⟩
  | .hbm, ⟨33, _⟩ => ⟨S16x2048x2048, .f32⟩
  | .hbm, ⟨34, _⟩ => ⟨S_, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S16x2048x2048 : Shape := ⟨3, ![16, 2048, 2048]⟩
abbrev S2048 : Shape := ⟨1, ![2048]⟩
abbrev S2048x5120 : Shape := ⟨2, ![2048, 5120]⟩
abbrev S32768x2048 : Shape := ⟨2, ![32768, 2048]⟩
abbrev S1x2048 : Shape := ⟨2, ![1, 2048]⟩
abbrev S32768x5120 : Shape := ⟨2, ![32768, 5120]⟩
abbrev S1024x2048 : Shape := ⟨2, ![1024, 2048]⟩
abbrev S2048x2560 : Shape := ⟨2, ![2048, 2560]⟩
abbrev S1024x2560 : Shape := ⟨2, ![1024, 2560]⟩
abbrev S256x2048 : Shape := ⟨2, ![256, 2048]⟩
abbrev S256 : Shape := ⟨1, ![256]⟩
abbrev S256x1 : Shape := ⟨2, ![256, 1]⟩
abbrev S256x2560 : Shape := ⟨2, ![256, 2560]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5120, .f32⟩
  | .hbm, ⟨3, _⟩ => ⟨S32768x2048, .f32⟩
  | .hbm, ⟨4, _⟩ => ⟨S2048x5120, .bf16⟩
  | .hbm, ⟨5, _⟩ => ⟨S1x2048, .f32⟩
  | .hbm, ⟨6, _⟩ => ⟨S32768x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2560, .bf16⟩
  | .local _ .vmem, ⟨4, _⟩ => ⟨S2048x2560, .bf16⟩
  | .local _ .vmem, ⟨5, _⟩ => ⟨S1024x2560, .bf16⟩
  | .local _ .vmem, ⟨6, _⟩ => ⟨S1024x2560, .bf16⟩
  | .local _ .vmem, ⟨7, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x2048x2048 : Shape := ⟨3, ![16, 2048, 2048]⟩
abbrev S2048 : Shape := ⟨1, ![2048]⟩
abbrev S2048x5120 : Shape := ⟨2, ![2048, 5120]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x5120 : Shape := ⟨3, ![16, 2048, 5120]⟩
abbrev S32768x5120 : Shape := ⟨2, ![32768, 5120]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5120, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x5120, .f32⟩
  | .hbm, ⟨20, _⟩ => ⟨S32768x5120, .f32⟩
  | .hbm, ⟨21, _⟩ => ⟨S32768x5120, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S16x2048x2048 : Shape := ⟨3, ![16, 2048, 2048]⟩
abbrev S16x2048x512 : Shape := ⟨3, ![16, 2048, 512]⟩
abbrev S2048x2048 : Shape := ⟨2, ![2048, 2048]⟩
abbrev S32768x512 : Shape := ⟨2, ![32768, 512]⟩
abbrev S32768x2048 : Shape := ⟨2, ![32768, 2048]⟩
abbrev S512x2048 : Shape := ⟨2, ![512, 2048]⟩
abbrev S512x512 : Shape := ⟨2, ![512, 512]⟩

abbrev nBuf : Space → Nat
  | .hbm => 13
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S16x2048x512, .bf16⟩
  | .hbm, ⟨5, _⟩ => ⟨S2048x2048, .f32⟩
  | .hbm, ⟨6, _⟩ => ⟨S32768x512, .bf16⟩
  | .hbm, ⟨7, _⟩ => ⟨S32768x512, .bf16⟩
  | .hbm, ⟨8, _⟩ => ⟨S32768x512, .bf16⟩
  | .hbm, ⟨9, _⟩ => ⟨S32768x512, .bf16⟩
  | .hbm, ⟨10, _⟩ => ⟨S32768x2048, .f32⟩
  | .hbm, ⟨11, _⟩ => ⟨S2048x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16x2048x2048 : Shape := ⟨3, ![16, 2048, 2048]⟩
abbrev S16x2048x512 : Shape := ⟨3, ![16, 2048, 512]⟩
abbrev S2048x2048 : Shape := ⟨2, ![2048, 2048]⟩
abbrev S32768x2048 : Shape := ⟨2, ![32768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S16x2048x512, .bf16⟩
  | .hbm, ⟨5, _⟩ => ⟨S2048x2048, .f32⟩
  | .hbm, ⟨6, _⟩ => ⟨S16x2048x512, .f32⟩
  | .hbm, ⟨7, _⟩ => ⟨S16x2048x512, .f32⟩
  | .hbm, ⟨8, _⟩ => ⟨S16x2048x512, .f32⟩
  | .hbm, ⟨9, _⟩ => ⟨S16x2048x512, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel5.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x16x64, .f32⟩
  | .hbm, ⟨7, _⟩ => ⟨S32x16x64, .f32⟩
  | .hbm, ⟨8, _⟩ => ⟨S32x64, .f32⟩
  | .hbm, ⟨9, _⟩ => ⟨S32x64, .f32⟩
  | .hbm, ⟨10, _⟩ => ⟨S32x16x64, .f32⟩
  | .hbm, ⟨11, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference5Ideal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 49
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64x1, .f32⟩
  | .hbm, ⟨29, _⟩ => ⟨S32x64, .f32⟩
  | .hbm, ⟨30, _⟩ => ⟨S_, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64x1, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S32x16x64, .f32⟩
  | .hbm, ⟨48, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel6.lean ====
abbrev S16x2048 : Shape := ⟨2, ![16, 2048]⟩
abbrev S2x2048x5632 : Shape := ⟨3, ![2, 2048, 5632]⟩
abbrev S2x5632x2048 : Shape := ⟨3, ![2, 5632, 2048]⟩
abbrev S2x2048x5120 : Shape := ⟨3, ![2, 2048, 5120]⟩
abbrev S128 : Shape := ⟨1, ![128]⟩
abbrev S8 : Shape := ⟨1, ![8]⟩
abbrev S_ : Shape := ⟨0, ![]⟩
abbrev S128x1 : Shape := ⟨2, ![128, 1]⟩
abbrev S1x128 : Shape := ⟨2, ![1, 128]⟩
abbrev S32768x1 : Shape := ⟨2, ![32768, 1]⟩
abbrev S32768x128 : Shape := ⟨2, ![32768, 128]⟩
abbrev S2048x5632 : Shape := ⟨2, ![2048, 5632]⟩
abbrev S5632x2048 : Shape := ⟨2, ![5632, 2048]⟩
abbrev S2048x5120 : Shape := ⟨2, ![2048, 5120]⟩
abbrev S1024x1 : Shape := ⟨2, ![1024, 1]⟩
abbrev S1x64x5632 : Shape := ⟨3, ![1, 64, 5632]⟩
abbrev S1x176x2048 : Shape := ⟨3, ![1, 176, 2048]⟩
abbrev S1x64x5120 : Shape := ⟨3, ![1, 64, 5120]⟩
abbrev S1024x128 : Shape := ⟨2, ![1024, 128]⟩
abbrev S64x5632 : Shape := ⟨2, ![64, 5632]⟩
abbrev S176x2048 : Shape := ⟨2, ![176, 2048]⟩
abbrev S64x5120 : Shape := ⟨2, ![64, 5120]⟩

abbrev nBuf : Space → Nat
  | .hbm => 40
  | .vmem => 23
  | .smem => 0
  | _ => 0

abbrev bufTy : (tb : Table) → Fin (tcTables nBuf tb) → BufTy
  | .hbm, ⟨0, _⟩ => ⟨S16x2048, .i32⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S2x2048x5120, .f32⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S32768x1, .i32⟩
  | .hbm, ⟨34, _⟩ => ⟨S32768x128, .f32⟩
  | .hbm, ⟨35, _⟩ => ⟨S32768x128, .f32⟩
  | .hbm, ⟨36, _⟩ => ⟨S2048x5632, .bf16⟩
  | .hbm, ⟨37, _⟩ => ⟨S2048x5632, .bf16⟩
  | .hbm, ⟨38, _⟩ => ⟨S5632x2048, .bf16⟩
  | .hbm, ⟨39, _⟩ => ⟨S2048x5120, .bf16⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x64x5632, .f32⟩
  | .local _ .vmem, ⟨4, _⟩ => ⟨S1x64x5632, .f32⟩
  | .local _ .vmem, ⟨5, _⟩ => ⟨S1x64x5632, .f32⟩
  | .local _ .vmem, ⟨6, _⟩ => ⟨S1x64x5632, .f32⟩
  | .local _ .vmem, ⟨7, _⟩ => ⟨S1x176x2048, .f32⟩
  | .local _ .vmem, ⟨8, _⟩ => ⟨S1x176x2048, .f32⟩
  | .local _ .vmem, ⟨9, _⟩ => ⟨S1x64x5120, .f32⟩
  | .local _ .vmem, ⟨10, _⟩ => ⟨S1x64x5120, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S64x5632, .bf16⟩
  | .local _ .vmem, ⟨16, _⟩ => ⟨S64x5632, .bf16⟩
  | .local _ .vmem, ⟨17, _⟩ => ⟨S64x5632, .bf16⟩
  | .local _ .vmem, ⟨18, _⟩ => ⟨S64x5632, .bf16⟩
  | .local _ .vmem, ⟨19, _⟩ => ⟨S176x2048, .bf16⟩
  | .local _ .vmem, ⟨20, _⟩ => ⟨S176x2048, .bf16⟩
  | .local _ .vmem, ⟨21, _⟩ => ⟨S64x5120, .bf16⟩
  | .local _ .vmem, ⟨22, _⟩ => ⟨S64x5120, .bf16⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_c_5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v18_3 : Ref sig .tc := ⟨.hbm, 37, rfl⟩
abbrev main_v18_4 : Ref sig .tc := ⟨.hbm, 38, rfl⟩
abbrev main_v18_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S16x2048 : Shape := ⟨2, ![16, 2048]⟩
abbrev S2x2048x5632 : Shape := ⟨3, ![2, 2048, 5632]⟩
abbrev S2x5632x2048 : Shape := ⟨3, ![2, 5632, 2048]⟩
abbrev S2x2048x5120 : Shape := ⟨3, ![2, 2048, 5120]⟩
abbrev S8 : Shape := ⟨1, ![8]⟩
abbrev S_ : Shape := ⟨0, ![]⟩
abbrev S16x2048x1 : Shape := ⟨3, ![16, 2048, 1]⟩
abbrev S1x1x8 : Shape := ⟨3, ![1, 1, 8]⟩
abbrev S16x2048x8 : Shape := ⟨3, ![16, 2048, 8]⟩
abbrev S16x2048x48 : Shape := ⟨3, ![16, 2048, 48]⟩
abbrev S16x2048x128 : Shape := ⟨3, ![16, 2048, 128]⟩
abbrev S32768x128 : Shape := ⟨2, ![32768, 128]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S1x2048x5120 : Shape := ⟨3, ![1, 2048, 5120]⟩
abbrev S2048x5120 : Shape := ⟨2, ![2048, 5120]⟩

abbrev nBuf : Space → Nat
  | .hbm => 47
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S2x2048x5120, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S16x2048, .f32⟩
  | .hbm, ⟨20, _⟩ => ⟨S16x2048x1, .f32⟩
  | .hbm, ⟨21, _⟩ => ⟨S1x1x8, .f32⟩
  | .hbm, ⟨22, _⟩ => ⟨S16x2048x8, .f32⟩
  | .hbm, ⟨23, _⟩ => ⟨S16x2048x8, .f32⟩
  | .hbm, ⟨24, _⟩ => ⟨S16x2048x8, .f32⟩
  | .hbm, ⟨25, _⟩ => ⟨S16x2048x8, .f32⟩
  | .hbm, ⟨26, _⟩ => ⟨S16x2048x8, .f32⟩
  | .hbm, ⟨27, _⟩ => ⟨S_, .f32⟩
  | .hbm, ⟨28, _⟩ => ⟨S16x2048x48, .f32⟩
  | .hbm, ⟨29, _⟩ => ⟨S_, .f32⟩
  | .hbm, ⟨30, _⟩ => ⟨S16x2048x48, .f32⟩
  | .hbm, ⟨31, _⟩ => ⟨S16x2048x128, .f32⟩
  | .hbm, ⟨32, _⟩ => ⟨S32768x128, .f32⟩
  | .hbm, ⟨33, _⟩ => ⟨S16x2048x128, .f32⟩
  | .hbm, ⟨34, _⟩ => ⟨S32768x128, .f32⟩
  | .hbm, ⟨35, _⟩ => ⟨S1x2048x5632, .f32⟩
  | .hbm, ⟨36, _⟩ => ⟨S2048x5632, .f32⟩
  | .hbm, ⟨37, _⟩ => ⟨S2048x5632, .bf16⟩
  | .hbm, ⟨38, _⟩ => ⟨S1x2048x5632, .f32⟩
  | .hbm, ⟨39, _⟩ => ⟨S2048x5632, .f32⟩
  | .hbm, ⟨40, _⟩ => ⟨S2048x5632, .bf16⟩
  | .hbm, ⟨41, _⟩ => ⟨S1x5632x2048, .f32⟩
  | .hbm, ⟨42, _⟩ => ⟨S5632x2048, .f32⟩
  | .hbm, ⟨43, _⟩ => ⟨S5632x2048, .bf16⟩
  | .hbm, ⟨44, _⟩ => ⟨S1x2048x5120, .f32⟩
  | .hbm, ⟨45, _⟩ => ⟨S2048x5120, .f32⟩
  | .hbm, ⟨46, _⟩ => ⟨S2048x5120, .bf16⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Sums.lean ====
/- Sums cut into equal blocks. -/
module

public import Idealize.ShloMosaic.Lib.Pointwise

@[expose] public section

noncomputable section

namespace Cert.Proof.Sums

/-- The zero offsets of a rank-two rectangle. -/
theorem hz : (![0, 0] : Fin 2 → Nat) = fun _ => 0 := funext fun a => by fin_cases a <;> rfl

/-- A sum over `n = a * b` places is the sum over `a` blocks of `b` places each. -/
theorem sum_blocks {M : Type*} [AddCommMonoid M] {n : ℕ} (a b : ℕ) (h : n = a * b) (f : Fin n → M) :
    ∑ k : Fin n, f k = ∑ i : Fin a, ∑ j : Fin b, f ⟨b * i + j, by
      subst h
      calc b * i.val + j.val < b * i.val + b := by omega
        _ = b * (i.val + 1) := by ring
        _ ≤ b * a := Nat.mul_le_mul_left _ i.isLt
        _ = a * b := by ring⟩ := by
  subst h
  rw [← Fintype.sum_prod_type', ← Equiv.sum_comp finProdFinEquiv]
  refine Finset.sum_congr rfl fun p _ => congrArg f (Fin.ext ?_)
  simp [finProdFinEquiv, add_comm]

end Cert.Proof.Sums

end
-- ==== Proof.Norm.lean ====
/- The root-mean-square norm of one row, the gated product, and the half-step, on extended reals. -/
module

public import proofs.«01_k».proof.Proof.Sums
public import Idealize.ShloMosaic.Lib.IdealHost

@[expose] public section

noncomputable section

namespace Cert.Proof

open Idealize.ShloMosaic

/-- Entry `k` of the row `x` divided by its root mean square, times the gain `g`. -/
def normed (x g : Fin 2048 → EReal) (k : Fin 2048) : EReal :=
  x k * Ideal.rsqrt (Ideal.div (∑ q : Fin 2048, x q * x q) (Ideal.ofBits FTy.f32 0x45000000#32) + Ideal.ofBits FTy.f32 0x358637BD#32)
    * g k

/-- The gated product of the row `h` with one gate column and one up column. -/
def gated (h wg wu : Fin 2048 → EReal) : EReal :=
  (∑ q : Fin 2048, h q * wg q) * Ideal.logistic (∑ q : Fin 2048, h q * wg q) * ∑ q : Fin 2048, h q * wu q

/-- The half-step weight. -/
abbrev half : EReal := Ideal.ofBits FTy.f32 0x3F000000#32

theorem half_eq : half = (((1 : ℝ) / 2 : ℝ) : EReal) := by
  unfold half; simp [Ideal.ofBits, Ideal.ieee, -EReal.coe_mul]; norm_num

theorem half_add (a b : EReal) : half * (a + b) = half * a + half * b := by
  rw [half_eq]
  exact EReal.left_distrib_of_nonneg_of_ne_top (by exact_mod_cast (by norm_num : (0 : ℝ) ≤ 1 / 2)) (EReal.coe_ne_top _) a b

theorem half_sum {ι : Type*} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

end Cert.Proof

end
-- ==== Proof.Reads.lean ====
/- Loads from a whole block, element by element: the block itself, and a run of its rows. -/
module

public import Idealize.ShloMosaic.Lib.WholeRead
public import Idealize.ShloMosaic.Lib.ValueIdx
public import Idealize.ShloMosaic.Lib.Pointwise

@[expose] public section

namespace Cert.Proof.Reads

open Idealize.ShloMosaic

theorem read_all {σ : RefSig} {R C : Nat} {e : EltTy} (a : Memref σ .tc .vmem ⟨2, ![R, C]⟩ e) (ha : a.IsWhole)
    (z : (⟨2, ![R, C]⟩ : Shape).Idx → Elt Ideal e) (inb) :
    View.readAt (Elt Ideal) a.view (Rect.unit (s := ⟨2, ![R, C]⟩) ![0, 0] ![R, C] inb).toLoadRect (ha.unread z) = z := by
  funext x
  rw [ha.readAt_unread]
  refine congrArg z (funext fun d => Fin.ext ?_)
  match d with
  | ⟨0, _⟩ => show 0 + 1 * (x 0).val = _; simp
  | ⟨1, _⟩ => show 0 + 1 * (x 1).val = _; simp

theorem read_rows {σ : RefSig} {R C T off : Nat} {e : EltTy} (a : Memref σ .tc .vmem ⟨2, ![R, C]⟩ e) (ha : a.IsWhole)
    (z : (⟨2, ![R, C]⟩ : Shape).Idx → Elt Ideal e) (inb) (r : Fin T) (k : Fin C) (r' : Fin R) (hr : r'.val = off + r.val) :
    View.readAt (Elt Ideal) a.view (Rect.unit (s := ⟨2, ![R, C]⟩) ![off, 0] ![T, C] inb).toLoadRect (ha.unread z) (ix2 r k)
      = z (ix2 r' k) := by
  rw [ha.readAt_unread]
  refine congrArg z (funext fun d => Fin.ext ?_)
  match d with
  | ⟨0, _⟩ => show off + 1 * r.val = r'.val; omega
  | ⟨1, _⟩ => show 0 + 1 * k.val = k.val; omega

end Cert.Proof.Reads

end
-- ==== Proof.FfnBlock.lean ====
/- The feed-forward half-step: what one grid point computes, element by element. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.StableHlo.ReadAt
public import Idealize.ShloMosaic.Lib.Pipeline.ValueKit.Tiles
public import proofs.«01_k».proof.Proof.Sums
public import proofs.«01_k».proof.Proof.Norm
public import proofs.«01_k».proof.Proof.Reads
public import proofs.«01_k».proof.Defs
public import Idealize.ShloMosaic.Lib.Quiescent

@[expose] public section

set_option maxRecDepth 16384

noncomputable section

namespace Cert.Proof.Ffn

open Idealize.ShloMosaic Idealize.ShloMosaic.TcCoe Idealize.SL.Sem
open Cert.Kernel2Ideal Cert.Kernel2Ideal.Gen Cert.Proof.Sums Cert.Proof.Reads

/-! ### The stored payloads -/

variable (w0 : Vec Ideal S256x2048 .f32) (w1 : Vec Ideal S1x2048 .f32) (w2 w3 : Vec Ideal S2048x512 .bf16) (w4 : Vec Ideal S512x2048 .bf16)

/-- One gated column block times the down rows, for one row `h`. -/
abbrev part (h : Fin 2048 → EReal) (w2 w3 : Vec Ideal S2048x512 .bf16) (w4 : Vec Ideal S512x2048 .bf16) (k : Fin 2048) : EReal :=
  half * ∑ f : Fin 512, gated h (fun q => w2 (ix2 q f)) (fun q => w3 (ix2 q f)) * w4 (ix2 f k)

theorem norm_apply (r : Fin 256) (k : Fin 2048) :
    k0_pay3 (F := Ideal) w0 w1 (ix2 r k) = normed (fun q => w0 (ix2 r q)) (fun q => w1 (ix2 0 q)) k := by
  unfold normed
  pointwise [k0_pay3, k0_pay2]

theorem norm_keep (r : Fin 256) (k : Fin 2048) :
    k0_pay4 (F := Ideal) w0 w1 (ix2 r k) = normed (fun q => w0 (ix2 r q)) (fun q => w1 (ix2 0 q)) k := by
  rw [← norm_apply]
  pointwise [k0_pay4]

theorem step_first (r : Fin 256) (k : Fin 2048) :
    k0_pay5 (F := Ideal) w0 w1 w2 w3 w4 (ix2 r k)
      = w0 (ix2 r k) + part (normed (fun q => w0 (ix2 r q)) (fun q => w1 (ix2 0 q))) w2 w3 w4 k := by
  unfold part gated
  simp only [← norm_apply]
  pointwise [k0_pay5, k0_pay2]

theorem step_next (v6 : Vec Ideal S1024x2048 .bf16) (v7 : Vec Ideal S1024x2048 .f32) (r : Fin 1024) (k : Fin 2048) :
    k0_pay1 (F := Ideal) v6 v7 w2 w3 w4 (ix2 r k) = v7 (ix2 r k) + part (fun q => v6 (ix2 r q)) w2 w3 w4 k := by
  unfold part gated
  pointwise [k0_pay1]

/-! ### What a point leaves in the output block and in the carried rows -/

theorem outB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : cond0_1 i) (x0 : Vec Ideal S1024x2048 .f32) (x1 : Vec Ideal S1x2048 .f32) (x2 x3 : Vec Ideal S2048x512 .bf16) (x4 : Vec Ideal S512x2048 .bf16)
    (xo5 : Vec Ideal S1024x2048 .f32) (xs0 : Vec Ideal S1024x2048 .bf16) (r : Fin 1024) (k : Fin 2048) :
    out0_B_5 (F := Ideal) c i arg2 harg2 arg3 harg3 arg4 harg4 arg5 harg5 arg6 harg6 arg7 harg7 arg8 harg8 hc0 hc1 x0 x1 x2 x3 x4 xo5 xs0 (ix2 r k)
      = xo5 (ix2 r k) + part (fun q => xs0 (ix2 r q)) x2 x3 x4 k := by
  unfold out0_B_5
  rw [View.read_writes_junk_eq_canon]
  unfold kernelRun0_B
  dsimp only
  rw [View.canon_unit_zero hz, read_all, read_all, read_all, read_all, read_all, step_next]

/-- Rows `off` to `off + 255` of the first point's output block. -/
theorem tile_out {off : Nat} (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole)
    (x0 : Vec Ideal S1024x2048 .f32) (x1 : Vec Ideal S1x2048 .f32) (x2 x3 : Vec Ideal S2048x512 .bf16) (x4 : Vec Ideal S512x2048 .bf16) (inb inb1 inb2 inb4)
    (r : Fin 1024) (k : Fin 2048) :
    View.TileAt (Val := Elt Ideal) (S := S1024x2048) (e := .f32) (ix2 r k) ![off, 0] ![256, 2048]
      (k0_pay5 (F := Ideal) (View.readAt (Elt Ideal) arg2.view (Rect.unit (s := S1024x2048) ![off, 0] ![256, 2048] inb).toLoadRect (harg2.unread x0))
        (View.readAt (Elt Ideal) arg3.view (Rect.unit (s := S1x2048) ![0, 0] ![1, 2048] inb1).toLoadRect (harg3.unread x1))
        (View.readAt (Elt Ideal) arg4.view (Rect.unit (s := S2048x512) ![0, 0] ![2048, 512] inb2).toLoadRect (harg4.unread x2))
        (View.readAt (Elt Ideal) arg5.view (Rect.unit (s := S2048x512) ![0, 0] ![2048, 512] inb2).toLoadRect (harg5.unread x3))
        (View.readAt (Elt Ideal) arg6.view (Rect.unit (s := S512x2048) ![0, 0] ![512, 2048] inb4).toLoadRect (harg6.unread x4)))
      (x0 (ix2 r k) + part (normed (fun q => x0 (ix2 r q)) (fun q => x1 (ix2 0 q))) x2 x3 x4 k) := by
  intro x hx
  obtain ⟨r', k', rfl⟩ : ∃ (r' : Fin 256) (k' : Fin 2048), x = ix2 r' k' := ⟨x 0, x 1, eq_ix2 x⟩
  have h0 : r.val = off + r'.val := hx 0
  have h1 : k.val = 0 + k'.val := hx 1
  obtain rfl : k = k' := Fin.ext (by omega)
  rw [read_all, read_all, read_all, read_all]
  refine (step_first _ _ _ _ _ r' k).trans ?_
  simp only [read_rows arg2 harg2 x0 inb r' _ r h0]

/-- Rows `off` to `off + 255` of the carried normed rows. -/
theorem tile_norm {off : Nat} (arg2 : Memref sig .tc .vmem S1024x2048 .f32) (harg2 : arg2.IsWhole) (arg3 : Memref sig .tc .vmem S1x2048 .f32) (harg3 : arg3.IsWhole)
    (x0 : Vec Ideal S1024x2048 .f32) (x1 : Vec Ideal S1x2048 .f32) (inb inb1) (r : Fin 1024) (k : Fin 2048) :
    View.TileAt (Val := Elt Ideal) (S := S1024x2048) (e := .bf16) (ix2 r k) ![off, 0] ![256, 2048]
      (k0_pay4 (F := Ideal) (View.readAt (Elt Ideal) arg2.view (Rect.unit (s := S1024x2048) ![off, 0] ![256, 2048] inb).toLoadRect (harg2.unread x0))
        (View.readAt (Elt Ideal) arg3.view (Rect.unit (s := S1x2048) ![0, 0] ![1, 2048] inb1).toLoadRect (harg3.unread x1)))
      (normed (fun q => x0 (ix2 r q)) (fun q => x1 (ix2 0 q)) k) := by
  intro x hx
  obtain ⟨r', k', rfl⟩ : ∃ (r' : Fin 256) (k' : Fin 2048), x = ix2 r' k' := ⟨x 0, x 1, eq_ix2 x⟩
  have h0 : r.val = off + r'.val := hx 0
  have h1 : k.val = 0 + k'.val := hx 1
  obtain rfl : k = k' := Fin.ext (by omega)
  rw [read_all]
  refine (norm_keep _ _ r' k).trans ?_
  simp only [read_rows arg2 harg2 x0 inb r' _ r h0]

theorem outA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i) (x0 : Vec Ideal S1024x2048 .f32) (x1 : Vec Ideal S1x2048 .f32) (x2 x3 : Vec Ideal S2048x512 .bf16) (x4 : Vec Ideal S512x2048 .bf16) (r : Fin 1024) (k : Fin 2048) :
    out0_A_5 (F := Ideal) c i arg2 harg2 arg3 harg3 arg4 harg4 arg5 harg5 arg6 harg6 arg7 harg7 arg8 harg8 hc0 hc1 x0 x1 x2 x3 x4 (ix2 r k)
      = x0 (ix2 r k) + part (normed (fun q => x0 (ix2 r q)) (fun q => x1 (ix2 0 q))) x2 x3 x4 k := by
  have hcov := cover0_A_5 (F := Ideal) c i arg2 harg2 arg3 harg3 arg4 harg4 arg5 harg5 arg6 harg6 arg7 harg7 arg8 harg8 hc0 hc1 x0 x1 x2 x3 x4 (ix2 r k)
  unfold out0_A_5
  rw [View.read_writes_junk_eq_canon]
  revert hcov
  unfold kernelRun0_A
  dsimp only
  intro hcov
  refine View.canon_eq_of_allAt _ _ _ hcov ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals exact tile_out _ _ _ _ _ _ _ _ _ _ _ _ _ _ _ _ _ _ _ _ _

theorem soutA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i) (x0 : Vec Ideal S1024x2048 .f32) (x1 : Vec Ideal S1x2048 .f32) (x2 x3 : Vec Ideal S2048x512 .bf16) (x4 : Vec Ideal S512x2048 .bf16) (r : Fin 1024) (k : Fin 2048) :
    sout0_A_0 (F := Ideal) c i arg2 harg2 arg3 harg3 arg4 harg4 arg5 harg5 arg6 harg6 arg7 harg7 arg8 harg8 hc0 hc1 x0 x1 x2 x3 x4 (ix2 r k)
      = normed (fun q => x0 (ix2 r q)) (fun q => x1 (ix2 0 q)) k := by
  have hcov := scover0_A_0 (F := Ideal) c i arg2 harg2 arg3 harg3 arg4 harg4 arg5 harg5 arg6 harg6 arg7 harg7 arg8 harg8 hc0 hc1 x0 x1 x2 x3 x4 (ix2 r k)
  unfold sout0_A_0
  rw [View.read_writes_junk_eq_canon]
  revert hcov
  unfold kernelRun0_A
  dsimp only
  intro hcov
  refine View.canon_eq_of_allAt _ _ _ hcov ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals exact tile_norm _ _ _ _ _ _ _ _ _ _

end Cert.Proof.Ffn

end
-- ==== Proof.Ffn.lean ====
/- The feed-forward half-step: the whole result array, and the claims. -/
module

public import proofs.«01_k».proof.Proof.FfnBlock

@[expose] public section

set_option maxRecDepth 16384

noncomputable section

namespace Cert.Proof.Ffn

open Idealize.ShloMosaic Idealize.ShloMosaic.TcCoe Idealize.SL.Sem
open Cert.Kernel2Ideal Cert.Kernel2Ideal.Gen Cert.Proof.Sums

/-- The batch member and the position of a row of the flattened array. -/
abbrev bat (i : Fin 32768) : Fin 16 := ⟨i.val / 2048, by omega⟩
abbrev pos (i : Fin 32768) : Fin 2048 := ⟨i.val % 2048, by omega⟩

/-! ### The reference -/

theorem norm_ref (x : S16x2048x2048.Idx → EReal) (g : S2048.Idx → EReal) (b : Fin 16) (s : Fin 2048) (q : Fin 2048) :
    Cert.Reference2Ideal.Read.val_main_v12 (F := Ideal) x g (ix3 b s q)
      = normed (fun q => x (ix3 b s q)) (fun q => g (ix1 q)) q := by
  unfold Cert.Reference2Ideal.Read.val_main_v12 Cert.Reference2Ideal.Read.val_main_v11 Cert.Reference2Ideal.Read.val_main_v10
    Cert.Reference2Ideal.Read.val_main_v9 Cert.Reference2Ideal.Read.val_main_v8 Cert.Reference2Ideal.Read.val_main_v7
    Cert.Reference2Ideal.Read.val_main_v6 Cert.Reference2Ideal.Read.val_main_v5 Cert.Reference2Ideal.Read.val_main_cst_1
    Cert.Reference2Ideal.Read.val_main_v4 Cert.Reference2Ideal.Read.val_main_v3 Cert.Reference2Ideal.Read.val_main_cst_0
    Cert.Reference2Ideal.Read.val_main_v2 Cert.Reference2Ideal.Read.val_main_v1 Cert.Reference2Ideal.Read.val_main_cst
    Cert.Reference2Ideal.Read.val_main_v0
  unfold normed
  pointwise

/-- The whole result array as one function of the arrays. -/
abbrev result (x : S16x2048x2048.Idx → EReal) (g : S2048.Idx → EReal) (wg wu : S2048x5632.Idx → EReal)
    (wd : S5632x2048.Idx → EReal) : S32768x2048.Idx → EReal :=
  Cert.Reference2Ideal.Read.val_main_v21 (F := Ideal) x g wg wu wd

theorem one_eq : Ideal.ofBits FTy.f32 0x3F800000#32 = (1 : EReal) := by
  simp [Ideal.ofBits, Ideal.ieee, -EReal.coe_mul]; norm_num

theorem result_apply (x : S16x2048x2048.Idx → EReal) (g : S2048.Idx → EReal) (wg wu : S2048x5632.Idx → EReal)
    (wd : S5632x2048.Idx → EReal) (i : Fin 32768) (k : Fin 2048) :
    result x g wg wu wd (ix2 i k)
      = x (ix3 (bat i) (pos i) k)
        + half * ∑ f : Fin 5632, gated (normed (fun q => x (ix3 (bat i) (pos i) q)) (fun q => g (ix1 q)))
            (fun q => wg (ix2 q f)) (fun q => wu (ix2 q f)) * wd (ix2 f k) := by
  unfold result Cert.Reference2Ideal.Read.val_main_v21 Cert.Reference2Ideal.Read.val_main_v20 Cert.Reference2Ideal.Read.val_main_v19
    Cert.Reference2Ideal.Read.val_main_v18 Cert.Reference2Ideal.Read.val_main_v17 Cert.Reference2Ideal.Read.val_main_v16
    Cert.Reference2Ideal.Read.val_main_v15 Cert.Reference2Ideal.Read.val_main_v14 Cert.Reference2Ideal.Read.val_main_v13
    Cert.Reference2Ideal.Read.val_main_cst_2 Cert.Reference2Ideal.Read.val_main_call0_v5 Cert.Reference2Ideal.Read.val_main_call0_v4
    Cert.Reference2Ideal.Read.val_main_call0_v3 Cert.Reference2Ideal.Read.val_main_call0_v2 Cert.Reference2Ideal.Read.val_main_call0_v1
    Cert.Reference2Ideal.Read.val_main_call0_v0 Cert.Reference2Ideal.Read.val_main_call0_cst_0 Cert.Reference2Ideal.Read.val_main_call0_cst
    Cert.Reference2Ideal.Read.val_main_v13
  generalize hn : Cert.Reference2Ideal.Read.val_main_v12 (F := Ideal) x g = h
  have hh : ∀ q, h (ix3 (bat i) (pos i) q) = normed (fun q => x (ix3 (bat i) (pos i) q)) (fun q => g (ix1 q)) q := by
    intro q; rw [← hn]; exact norm_ref x g _ _ q
  pointwise
  unfold gated Ideal.logistic
  simp only [hh]

variable (m : (ℓ : Loc nD τ sig) → Buf (Elt Ideal) ℓ)

/-! ### The arrays as the kernel's call finds them -/

theorem V0 (c : Dev nD) (i : Fin 32768) (k : Fin 2048) :
    (V m c main_v0 : S32768x2048.Idx → EReal) (ix2 i k)
      = (m (c.tc.loc main_arg0) : S16x2048x2048.Idx → EReal) (ix3 (bat i) (pos i) k) := by
  unfold V
  after_reads_at

theorem V4 (c : Dev nD) (k : Fin 2048) :
    (V m c main_v4 : S1x2048.Idx → EReal) (ix2 0 k) = (m (c.tc.loc main_arg1) : S2048.Idx → EReal) (ix1 k) := by
  unfold V
  after_reads_at

theorem V1 (c : Dev nD) (i : Fin 2048) (k : Fin 5632) :
    (V m c main_v1 : S2048x5632.Idx → EReal) (ix2 i k) = (m (c.tc.loc main_arg2) : S2048x5632.Idx → EReal) (ix2 i k) := by
  unfold V
  after_reads_at

theorem V2 (c : Dev nD) (i : Fin 2048) (k : Fin 5632) :
    (V m c main_v2 : S2048x5632.Idx → EReal) (ix2 i k) = (m (c.tc.loc main_arg3) : S2048x5632.Idx → EReal) (ix2 i k) := by
  unfold V
  after_reads_at

theorem V3 (c : Dev nD) (i : Fin 5632) (k : Fin 2048) :
    (V m c main_v3 : S5632x2048.Idx → EReal) (ix2 i k) = (m (c.tc.loc main_arg4) : S5632x2048.Idx → EReal) (ix2 i k) := by
  unfold V
  after_reads_at

/-! ### The windows' blocks -/

/-- Row `r` of the block point `n` works on, as a row of the flattened array. -/
abbrev row (n : ℕ) (hn : n < cfg0.N) (r : Fin 1024) : Fin 32768 :=
  ⟨1024 * (n / 11) + r, by have hN : cfg0.N = 352 := N_0; omega⟩

/-- Column `f` of the inner column block `j`. -/
abbrev col (j : ℕ) (f : Fin 512) : Fin 5632 := ⟨(512 * (j % 11) + f) % 5632, by omega⟩

theorem idx0 : ∀ t : Fin cfg0.N, win0_0.index t = ![t.val / 11, 0] := (by decide +kernel : ∀ t : Fin grid0.N, win0_0.index t = ![t.val / 11, 0])
theorem idx1 : ∀ t : Fin cfg0.N, win0_1.index t = ![0, 0] := (by decide +kernel : ∀ t : Fin grid0.N, win0_1.index t = ![0, 0])
theorem idx2 : ∀ t : Fin cfg0.N, win0_2.index t = ![0, t.val % 11] := (by decide +kernel : ∀ t : Fin grid0.N, win0_2.index t = ![0, t.val % 11])
theorem idx3 : ∀ t : Fin cfg0.N, win0_3.index t = ![0, t.val % 11] := (by decide +kernel : ∀ t : Fin grid0.N, win0_3.index t = ![0, t.val % 11])
theorem idx4 : ∀ t : Fin cfg0.N, win0_4.index t = ![t.val % 11, 0] := (by decide +kernel : ∀ t : Fin grid0.N, win0_4.index t = ![t.val % 11, 0])
theorem idx5 : ∀ t : Fin cfg0.N, win0_5.index t = ![t.val / 11, 0] := (by decide +kernel : ∀ t : Fin grid0.N, win0_5.index t = ![t.val / 11, 0])

theorem blk0 (c : Dev nD) (t : Fin cfg0.N) (r : Fin 1024) (k : Fin 2048) :
    (iblk m c 0 t : Vec Ideal S1024x2048 .f32) (ix2 r k) = (m (c.tc.loc main_arg0) : S16x2048x2048.Idx → EReal) (ix3 (bat (row t.val t.isLt r)) (pos (row t.val t.isLt r)) k) := by
  refine Eq.trans ?_ (V0 m c (row t.val t.isLt r) k)
  unfold iblk
  rw [View.read_apply]
  show V m c main_v0 _ = V m c main_v0 _
  congr 1
  funext a
  apply Fin.ext
  match a with
  | ⟨0, _⟩ => show win0_0.index t 0 * 1024 + 1 * r.val = 1024 * (t.val / 11) + r.val; rw [idx0]; simp; omega
  | ⟨1, _⟩ => show win0_0.index t 1 * 2048 + 1 * k.val = k.val; rw [idx0]; simp

theorem blk1 (c : Dev nD) (t : Fin cfg0.N) (k : Fin 2048) :
    (iblk m c 1 t : Vec Ideal S1x2048 .f32) (ix2 0 k) = (m (c.tc.loc main_arg1) : S2048.Idx → EReal) (ix1 k) := by
  refine Eq.trans ?_ (V4 m c k)
  unfold iblk
  rw [View.read_apply]
  show V m c main_v4 _ = V m c main_v4 _
  congr 1
  funext a
  apply Fin.ext
  match a with
  | ⟨0, _⟩ => show win0_1.index t 0 * 1 + 1 * 0 = 0; rw [idx1]; simp
  | ⟨1, _⟩ => show win0_1.index t 1 * 2048 + 1 * k.val = k.val; rw [idx1]; simp

theorem blk2 (c : Dev nD) (t : Fin cfg0.N) (q : Fin 2048) (f : Fin 512) :
    (iblk m c 2 t : Vec Ideal S2048x512 .bf16) (ix2 q f) = (m (c.tc.loc main_arg2) : S2048x5632.Idx → EReal) (ix2 q (col t.val f)) := by
  refine Eq.trans ?_ (V1 m c q (col t.val f))
  unfold iblk
  rw [View.read_apply]
  show V m c main_v1 _ = V m c main_v1 _
  congr 1
  funext a
  apply Fin.ext
  match a with
  | ⟨0, _⟩ => show win0_2.index t 0 * 2048 + 1 * q.val = q.val; rw [idx2]; simp
  | ⟨1, _⟩ => show win0_2.index t 1 * 512 + 1 * f.val = (512 * (t.val % 11) + f.val) % 5632; rw [idx2]; simp; omega

theorem blk3 (c : Dev nD) (t : Fin cfg0.N) (q : Fin 2048) (f : Fin 512) :
    (iblk m c 3 t : Vec Ideal S2048x512 .bf16) (ix2 q f) = (m (c.tc.loc main_arg3) : S2048x5632.Idx → EReal) (ix2 q (col t.val f)) := by
  refine Eq.trans ?_ (V2 m c q (col t.val f))
  unfold iblk
  rw [View.read_apply]
  show V m c main_v2 _ = V m c main_v2 _
  congr 1
  funext a
  apply Fin.ext
  match a with
  | ⟨0, _⟩ => show win0_3.index t 0 * 2048 + 1 * q.val = q.val; rw [idx3]; simp
  | ⟨1, _⟩ => show win0_3.index t 1 * 512 + 1 * f.val = (512 * (t.val % 11) + f.val) % 5632; rw [idx3]; simp; omega

theorem blk4 (c : Dev nD) (t : Fin cfg0.N) (f : Fin 512) (k : Fin 2048) :
    (iblk m c 4 t : Vec Ideal S512x2048 .bf16) (ix2 f k) = (m (c.tc.loc main_arg4) : S5632x2048.Idx → EReal) (ix2 (col t.val f) k) := by
  refine Eq.trans ?_ (V3 m c (col t.val f) k)
  unfold iblk
  rw [View.read_apply]
  show V m c main_v3 _ = V m c main_v3 _
  congr 1
  funext a
  apply Fin.ext
  match a with
  | ⟨0, _⟩ => show win0_4.index t 0 * 512 + 1 * f.val = (512 * (t.val % 11) + f.val) % 5632; rw [idx4]; simp; omega
  | ⟨1, _⟩ => show win0_4.index t 1 * 2048 + 1 * k.val = k.val; rw [idx4]; simp

/-! ### One row block's sweep over the inner columns -/

/-- The residual at row `i`, column `k`. -/
abbrev xat (c : Dev nD) (i : Fin 32768) (k : Fin 2048) : EReal :=
  (m (c.tc.loc main_arg0) : S16x2048x2048.Idx → EReal) (ix3 (bat i) (pos i) k)

/-- The normed row `i`. -/
abbrev hrow (c : Dev nD) (i : Fin 32768) : Fin 2048 → EReal :=
  normed (fun q => (m (c.tc.loc main_arg0) : S16x2048x2048.Idx → EReal) (ix3 (bat i) (pos i) q))
    (fun q => (m (c.tc.loc main_arg1) : S2048.Idx → EReal) (ix1 q))

/-- One inner column's product in row `i`, column `k`. -/
abbrev term (c : Dev nD) (i : Fin 32768) (k : Fin 2048) (f : Fin 5632) : EReal :=
  gated (hrow m c i) (fun q => (m (c.tc.loc main_arg2) : S2048x5632.Idx → EReal) (ix2 q f))
    (fun q => (m (c.tc.loc main_arg3) : S2048x5632.Idx → EReal) (ix2 q f))
    * (m (c.tc.loc main_arg4) : S5632x2048.Idx → EReal) (ix2 f k)

theorem part_blk (c : Dev nD) (t : Fin cfg0.N) (i : Fin 32768) (k : Fin 2048) :
    part (hrow m c i) (iblk m c 2 t) (iblk m c 3 t) (iblk m c 4 t) k
      = half * ∑ f : Fin 512, term m c i k (col t.val f) := by
  unfold part term
  simp only [blk2, blk3, blk4]

theorem norm_blk (c : Dev nD) (t : Fin cfg0.N) (r : Fin 1024) :
    normed (fun q => (iblk m c 0 t : Vec Ideal S1024x2048 .f32) (ix2 r q)) (fun q => (iblk m c 1 t : Vec Ideal S1x2048 .f32) (ix2 0 q))
      = hrow m c (row t.val t.isLt r) := by
  unfold hrow
  simp only [blk0, blk1]

theorem first_out (c : Dev nD) (t : Fin cfg0.N) (h0 : t.val % 11 = 0) (r : Fin 1024) (k : Fin 2048) :
    (outsAt0 m c t.val t.isLt).1 (ix2 r k)
      = xat m c (row t.val t.isLt r) k + half * ∑ f : Fin 512, term m c (row t.val t.isLt r) k (col t.val f) := by
  rw [outsAt0_A m c t h0 (by omega)]
  dsimp only
  rw [outA, norm_blk, part_blk, blk0]

theorem first_norm (c : Dev nD) (t : Fin cfg0.N) (h0 : t.val % 11 = 0) (r : Fin 1024) (k : Fin 2048) :
    (outsAt0 m c t.val t.isLt).2 (ix2 r k) = hrow m c (row t.val t.isLt r) k := by
  rw [outsAt0_A m c t h0 (by omega)]
  dsimp only
  rw [soutA, norm_blk]

theorem next_out (c : Dev nD) (t : Fin cfg0.N) (h0 : ¬t.val % 11 = 0) (hb : t.val - 1 < cfg0.N) (r : Fin 1024) (k : Fin 2048)
    (hs : ∀ q, (outsAt0 m c (t.val - 1) hb).2 (ix2 r q) = hrow m c (row t.val t.isLt r) q) :
    (outsAt0 m c t.val t.isLt).1 (ix2 r k)
      = (outsAt0 m c (t.val - 1) hb).1 (ix2 r k) + half * ∑ f : Fin 512, term m c (row t.val t.isLt r) k (col t.val f) := by
  rw [outsAt0_B m c t h0 (by omega)]
  dsimp only
  rw [outB, funext hs, part_blk]

theorem next_norm (c : Dev nD) (t : Fin cfg0.N) (h0 : ¬t.val % 11 = 0) (hb : t.val - 1 < cfg0.N) :
    (outsAt0 m c t.val t.isLt).2 = (outsAt0 m c (t.val - 1) hb).2 := by
  rw [outsAt0_B m c t h0 (by omega)]
  rfl

/-- What the point `n` leaves: the residual plus the column blocks so far, and the normed rows. -/
theorem sweep (c : Dev nD) : ∀ (n : ℕ) (hn : n < cfg0.N),
    (∀ (r : Fin 1024) (k : Fin 2048), (outsAt0 m c n hn).1 (ix2 r k)
      = xat m c (row n hn r) k
        + ∑ j ∈ Finset.range (n % 11 + 1), half * ∑ f : Fin 512, term m c (row n hn r) k (col j f))
    ∧ ∀ (r : Fin 1024) (k : Fin 2048), (outsAt0 m c n hn).2 (ix2 r k) = hrow m c (row n hn r) k := by
  have hA : ∀ (n : ℕ) (hn : n < cfg0.N), n % 11 = 0 →
      (∀ (r : Fin 1024) (k : Fin 2048), (outsAt0 m c n hn).1 (ix2 r k)
        = xat m c (row n hn r) k
          + ∑ j ∈ Finset.range (n % 11 + 1), half * ∑ f : Fin 512, term m c (row n hn r) k (col j f))
      ∧ ∀ (r : Fin 1024) (k : Fin 2048), (outsAt0 m c n hn).2 (ix2 r k) = hrow m c (row n hn r) k := by
    intro n hn h0
    refine ⟨fun r k => ?_, fun r k => first_norm m c ⟨n, hn⟩ h0 r k⟩
    refine (first_out m c ⟨n, hn⟩ h0 r k).trans ?_
    rw [h0, Finset.sum_range_succ, Finset.sum_range_zero, zero_add]
    refine congrArg _ (congrArg _ (Finset.sum_congr rfl fun f _ => congrArg (term m c _ k) (Fin.ext ?_)))
    simp only [h0, Nat.zero_mod]
  intro n
  induction n with
  | zero => exact fun hn => hA 0 hn rfl
  | succ n ih =>
    intro hn
    by_cases h0 : (n + 1) % 11 = 0
    · exact hA _ hn h0
    · obtain ⟨ih1, ih2⟩ := ih (Nat.lt_of_succ_lt hn)
      have hq : (n + 1) / 11 = n / 11 := by omega
      have hm : (n + 1) % 11 = n % 11 + 1 := by omega
      have hr : ∀ r, row (n + 1) hn r = row n (Nat.lt_of_succ_lt hn) r := fun r => Fin.ext (by simp only [hq])
      refine ⟨fun r k => ?_, fun r k => ?_⟩
      · refine (next_out m c ⟨n + 1, hn⟩ h0 (Nat.lt_of_succ_lt hn) r k fun q => ?_).trans ?_
        · exact (ih2 r q).trans (congrArg (fun i => hrow m c i q) (hr r).symm)
        refine (congrArg₂ (· + ·) (ih1 r k) rfl).trans ?_
        show _ + half * ∑ f : Fin 512, term m c (row (n + 1) hn r) k (col (n + 1) f) = _
        rw [hr r, hm, Finset.sum_range_succ _ (n % 11 + 1), add_assoc]
        refine congrArg _ (congrArg _ (congrArg _ (Finset.sum_congr rfl fun f _ => congrArg (term m c _ k) (Fin.ext ?_))))
        show (512 * ((n + 1) % 11) + f.val) % 5632 = (512 * ((n % 11 + 1) % 11) + f.val) % 5632
        omega
      · exact ((congrFun (next_norm m c ⟨n + 1, hn⟩ h0 (Nat.lt_of_succ_lt hn)) (ix2 r k)).trans (ih2 r k)).trans
          (congrArg (fun i => hrow m c i k) (hr r).symm)

/-! ### The result array -/

/-- The result as a function of the argument arrays at launch. -/
abbrev G (c : Dev nD) : S32768x2048.Idx → EReal :=
  result (m (c.tc.loc main_arg0)) (m (c.tc.loc main_arg1)) (m (c.tc.loc main_arg2)) (m (c.tc.loc main_arg3))
    (m (c.tc.loc main_arg4))

theorem G_apply (c : Dev nD) (i : Fin 32768) (k : Fin 2048) :
    G m c (ix2 i k) = xat m c i k
      + ∑ j ∈ Finset.range 11, half * ∑ f : Fin 512, term m c i k (col j f) := by
  unfold G
  rw [result_apply, ← half_sum, Finset.sum_range]
  refine congrArg _ (congrArg _ ?_)
  refine (sum_blocks 11 512 rfl (fun f => term m c i k f)).trans ?_
  refine Finset.sum_congr rfl fun j _ => Finset.sum_congr rfl fun f _ => ?_
  refine congrArg (term m c i k) (Fin.ext ?_)
  show 512 * j.val + f.val = (512 * (j.val % 11) + f.val) % 5632
  omega

theorem flushed_eq (c : Dev nD) (t : Fin cfg0.N) (hf : (cfg0.win 5).flush t = true) :
    (dats m 0 c).flushed 5 t = ((cfg0.win 5).blk t).view.read (Elt Ideal) (G m c) := by
  have hm : t.val % 11 = 10 := (flush0_5 t).mp hf
  rw [Value.flushed5]
  funext j
  obtain ⟨r, k, rfl⟩ : ∃ (r : Fin 1024) (k : Fin 2048), j = ix2 r k := ⟨j 0, j 1, eq_ix2 j⟩
  rw [View.read_apply, cast_eq]
  have hi : ((cfg0.win 5).blk t).view.emb (ix2 r k) = ix2 (row t.val t.isLt r) k := by
    funext a
    apply Fin.ext
    match a with
    | ⟨0, _⟩ => show win0_5.index t 0 * 1024 + 1 * r.val = 1024 * (t.val / 11) + r.val; rw [idx5]; simp; omega
    | ⟨1, _⟩ => show win0_5.index t 1 * 2048 + 1 * k.val = k.val; rw [idx5]; simp
  rw [hi, G_apply]
  refine ((sweep m c t.val t.isLt).1 r k).trans ?_
  rw [hm]

theorem covered (i : S32768x2048.Idx) (t : Fin cfg0.N) (ht : t.val / 11 = (i 0 : Nat) / 1024) :
    i ∈ ((cfg0.win 5).blk t).view.set := by
  have h0 : (i 0 : Nat) < 32768 := (i 0).isLt
  have h1 : (i 1 : Nat) < 2048 := (i 1).isLt
  show i ∈ ((View.whole main_v5).slice (win0_5.rect t)).set
  rw [View.set_slice_whole, Rect.mem_set_unit]
  intro a
  match a with
  | ⟨0, _⟩ =>
    show win0_5.index t 0 * 1024 ≤ (i 0 : Nat) ∧ (i 0 : Nat) < win0_5.index t 0 * 1024 + 1024
    rw [idx5]; simp; omega
  | ⟨1, _⟩ =>
    show win0_5.index t 1 * 2048 ≤ (i 1 : Nat) ∧ (i 1 : Nat) < win0_5.index t 1 * 2048 + 2048
    rw [idx5]; simp; omega

theorem final (c : Dev nD) : (dats m 0 c).arrAt 5 cfg0.N = G m c :=
  (dats m 0 c).arrAt_eq_of_cover 5 (G m c) (flushed_eq m c) fun i =>
    ⟨⟨11 * ((i 0 : Nat) / 1024) + 10, by
      have h0 : (i 0 : Nat) < 32768 := (i 0).isLt
      have hN : cfg0.N = 352 := N_0
      omega⟩, (flush0_5 _).mpr (by simp only; omega), covered i _ (by simp only; omega)⟩

/-! ### The claims -/

/-- The reference runs, leaves its arguments as they were, and has no semaphore. -/
theorem frame_r : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

/-- From equal arguments the kernel and its reference end with equal results. -/
theorem algebraic : Cert.algebraic_Kernel2Ideal_Reference2Ideal := fun m ρ m' ρ' _ hag =>
  ⟨fun c => G m c,
    (θ_run _ _ _).mono (fun _ h c => ⟨(h c).1.trans (final m c), (h c).2⟩) (Value.run_blocks (F := Ideal) m ρ),
    (θ_run _ _ _).mono
      (fun _ h c => ⟨by
        refine (h c).1.trans ?_
        obtain ⟨h0, h1, h2, h3, h4⟩ := hag c
        rw [h0, h1, h2, h3, h4]
        exact Cert.Reference2Ideal.Read.val_main_v21_eq _ _ _ _ _, (h c).2⟩)
      (Cert.Reference2Ideal.Value.run (F := Ideal) m' ρ')⟩

end Cert.Proof.Ffn

end
-- ==== Proof.InProjBlock.lean ====
/- The input projection: what one grid point computes, element by element. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.StableHlo.ReadAt
public import Idealize.ShloMosaic.Lib.Pipeline.ValueKit.Tiles
public import proofs.«01_k».proof.Proof.Sums
public import proofs.«01_k».proof.Proof.Norm
public import proofs.«01_k».proof.Proof.Reads
public import proofs.«01_k».proof.Defs
public import Idealize.ShloMosaic.Lib.Quiescent

@[expose] public section

set_option maxRecDepth 16384

noncomputable section

namespace Cert.Proof.InProj

open Idealize.ShloMosaic Idealize.ShloMosaic.TcCoe Idealize.SL.Sem
open Cert.Kernel3Ideal Cert.Kernel3Ideal.Gen Cert.Proof.Sums Cert.Proof.Reads

/-! ### The stored payloads -/

variable (w0 : Vec Ideal S256x2048 .f32) (w1 : Vec Ideal S1x2048 .f32) (w2 : Vec Ideal S2048x2560 .bf16)

theorem norm_apply (r : Fin 256) (k : Fin 2048) :
    k0_pay5 (F := Ideal) w0 w1 (ix2 r k) = normed (fun q => w0 (ix2 r q)) (fun q => w1 (ix2 0 q)) k := by
  unfold normed
  pointwise [k0_pay5]

theorem norm_keep (r : Fin 256) (k : Fin 2048) :
    k0_pay6 (F := Ideal) w0 w1 (ix2 r k) = normed (fun q => w0 (ix2 r q)) (fun q => w1 (ix2 0 q)) k := by
  rw [← norm_apply]
  pointwise [k0_pay6]

theorem step_first (r : Fin 256) (k : Fin 2560) :
    k0_pay7 (F := Ideal) w0 w1 w2 (ix2 r k)
      = ∑ q : Fin 2048, normed (fun q => w0 (ix2 r q)) (fun q => w1 (ix2 0 q)) q * w2 (ix2 q k) := by
  simp only [← norm_apply]
  pointwise [k0_pay7]

theorem step_next (v6 : Vec Ideal S1024x2048 .bf16) (r : Fin 1024) (k : Fin 2560) :
    k0_pay4 (F := Ideal) v6 w2 (ix2 r k) = ∑ q : Fin 2048, v6 (ix2 r q) * w2 (ix2 q k) := by
  pointwise [k0_pay4]

/-! ### What a point leaves in the output block and in the carried rows -/

theorem outB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2560 .bf16) (harg4 : arg4.IsWhole) (arg5 : Memref sig .tc .vmem S1024x2560 .bf16) (harg5 : arg5.IsWhole) (arg6 : Memref sig .tc .vmem S1024x2048 .bf16) (harg6 : arg6.IsWhole) (hc0 : ¬cond0_0 i) (hc1 : cond0_1 i)
    (x0 : Vec Ideal S1024x2048 .f32) (x1 : Vec Ideal S1x2048 .f32) (x2 : Vec Ideal S2048x2560 .bf16) (xs0 : Vec Ideal S1024x2048 .bf16) (r : Fin 1024) (k : Fin 2560) :
    out0_B_3 (F := Ideal) c i arg2 harg2 arg3 harg3 arg4 harg4 arg5 harg5 arg6 harg6 hc0 hc1 x0 x1 x2 xs0 (ix2 r k) = ∑ q : Fin 2048, xs0 (ix2 r q) * x2 (ix2 q k) := by
  unfold out0_B_3
  rw [View.read_writes_junk_eq_canon]
  unfold kernelRun0_B
  dsimp only
  rw [View.canon_unit_zero hz, read_all, read_all, step_next]

/-- Rows `off` to `off + 255` of the first point's output block. -/
theorem tile_out {off : Nat} (arg2 : Memref sig .tc .vmem S1024x2048 .f32) (harg2 : arg2.IsWhole) (arg3 : Memref sig .tc .vmem S1x2048 .f32) (harg3 : arg3.IsWhole) (arg4 : Memref sig .tc .vmem S2048x2560 .bf16) (harg4 : arg4.IsWhole)
    (x0 : Vec Ideal S1024x2048 .f32) (x1 : Vec Ideal S1x2048 .f32) (x2 : Vec Ideal S2048x2560 .bf16) (inb inb1 inb2)
    (r : Fin 1024) (k : Fin 2560) :
    View.TileAt (Val := Elt Ideal) (S := S1024x2560) (e := .bf16) (ix2 r k) ![off, 0] ![256, 2560]
      (k0_pay7 (F := Ideal) (View.readAt (Elt Ideal) arg2.view (Rect.unit (s := S1024x2048) ![off, 0] ![256, 2048] inb).toLoadRect (harg2.unread x0))
        (View.readAt (Elt Ideal) arg3.view (Rect.unit (s := S1x2048) ![0, 0] ![1, 2048] inb1).toLoadRect (harg3.unread x1))
        (View.readAt (Elt Ideal) arg4.view (Rect.unit (s := S2048x2560) ![0, 0] ![2048, 2560] inb2).toLoadRect (harg4.unread x2)))
      (∑ q : Fin 2048, normed (fun q => x0 (ix2 r q)) (fun q => x1 (ix2 0 q)) q * x2 (ix2 q k)) := by
  intro x hx
  obtain ⟨r', k', rfl⟩ : ∃ (r' : Fin 256) (k' : Fin 2560), x = ix2 r' k' := ⟨x 0, x 1, eq_ix2 x⟩
  have h0 : r.val = off + r'.val := hx 0
  have h1 : k.val = 0 + k'.val := hx 1
  obtain rfl : k = k' := Fin.ext (by omega)
  rw [read_all, read_all]
  refine (step_first _ _ _ r' k).trans ?_
  simp only [read_rows arg2 harg2 x0 inb r' _ r h0]

/-- Rows `off` to `off + 255` of the carried normed rows. -/
theorem tile_norm {off : Nat} (arg2 : Memref sig .tc .vmem S1024x2048 .f32) (harg2 : arg2.IsWhole) (arg3 : Memref sig .tc .vmem S1x2048 .f32) (harg3 : arg3.IsWhole)
    (x0 : Vec Ideal S1024x2048 .f32) (x1 : Vec Ideal S1x2048 .f32) (inb inb1) (r : Fin 1024) (k : Fin 2048) :
    View.TileAt (Val := Elt Ideal) (S := S1024x2048) (e := .bf16) (ix2 r k) ![off, 0] ![256, 2048]
      (k0_pay6 (F := Ideal) (View.readAt (Elt Ideal) arg2.view (Rect.unit (s := S1024x2048) ![off, 0] ![256, 2048] inb).toLoadRect (harg2.unread x0))
        (View.readAt (Elt Ideal) arg3.view (Rect.unit (s := S1x2048) ![0, 0] ![1, 2048] inb1).toLoadRect (harg3.unread x1)))
      (normed (fun q => x0 (ix2 r q)) (fun q => x1 (ix2 0 q)) k) := by
  intro x hx
  obtain ⟨r', k', rfl⟩ : ∃ (r' : Fin 256) (k' : Fin 2048), x = ix2 r' k' := ⟨x 0, x 1, eq_ix2 x⟩
  have h0 : r.val = off + r'.val := hx 0
  have h1 : k.val = 0 + k'.val := hx 1
  obtain rfl : k = k' := Fin.ext (by omega)
  rw [read_all]
  refine (norm_keep _ _ r' k).trans ?_
  simp only [read_rows arg2 harg2 x0 inb r' _ r h0]

theorem outA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2560 .bf16) (harg4 : arg4.IsWhole) (arg5 : Memref sig .tc .vmem S1024x2560 .bf16) (harg5 : arg5.IsWhole) (arg6 : Memref sig .tc .vmem S1024x2048 .bf16) (harg6 : arg6.IsWhole) (hc0 : cond0_0 i) (hc1 : ¬cond0_1 i)
    (x0 : Vec Ideal S1024x2048 .f32) (x1 : Vec Ideal S1x2048 .f32) (x2 : Vec Ideal S2048x2560 .bf16) (r : Fin 1024) (k : Fin 2560) :
    out0_A_3 (F := Ideal) c i arg2 harg2 arg3 harg3 arg4 harg4 arg5 harg5 arg6 harg6 hc0 hc1 x0 x1 x2 (ix2 r k) = ∑ q : Fin 2048, normed (fun q => x0 (ix2 r q)) (fun q => x1 (ix2 0 q)) q * x2 (ix2 q k) := by
  have hcov := cover0_A_3 (F := Ideal) c i arg2 harg2 arg3 harg3 arg4 harg4 arg5 harg5 arg6 harg6 hc0 hc1 x0 x1 x2 (ix2 r k)
  unfold out0_A_3
  rw [View.read_writes_junk_eq_canon]
  revert hcov
  unfold kernelRun0_A
  dsimp only
  intro hcov
  refine View.canon_eq_of_allAt _ _ _ hcov ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals exact tile_out _ _ _ _ _ _ _ _ _ _ _ _ _ _

theorem soutA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2560 .bf16) (harg4 : arg4.IsWhole) (arg5 : Memref sig .tc .vmem S1024x2560 .bf16) (harg5 : arg5.IsWhole) (arg6 : Memref sig .tc .vmem S1024x2048 .bf16) (harg6 : arg6.IsWhole) (hc0 : cond0_0 i) (hc1 : ¬cond0_1 i)
    (x0 : Vec Ideal S1024x2048 .f32) (x1 : Vec Ideal S1x2048 .f32) (x2 : Vec Ideal S2048x2560 .bf16) (r : Fin 1024) (k : Fin 2048) :
    sout0_A_0 (F := Ideal) c i arg2 harg2 arg3 harg3 arg4 harg4 arg5 harg5 arg6 harg6 hc0 hc1 x0 x1 x2 (ix2 r k) = normed (fun q => x0 (ix2 r q)) (fun q => x1 (ix2 0 q)) k := by
  have hcov := scover0_A_0 (F := Ideal) c i arg2 harg2 arg3 harg3 arg4 harg4 arg5 harg5 arg6 harg6 hc0 hc1 x0 x1 x2 (ix2 r k)
  unfold sout0_A_0
  rw [View.read_writes_junk_eq_canon]
  revert hcov
  unfold kernelRun0_A
  dsimp only
  intro hcov
  refine View.canon_eq_of_allAt _ _ _ hcov ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals exact tile_norm _ _ _ _ _ _ _ _ _ _

end Cert.Proof.InProj

end
-- ==== Proof.InProj.lean ====
/- The input projection: the whole result array, and the claims. -/
module

public import proofs.«01_k».proof.Proof.InProjBlock

@[expose] public section

set_option maxRecDepth 16384

noncomputable section

namespace Cert.Proof.InProj

open Idealize.ShloMosaic Idealize.ShloMosaic.TcCoe Idealize.SL.Sem
open Cert.Kernel3Ideal Cert.Kernel3Ideal.Gen Cert.Proof.Sums Cert.Proof.Reads

/-- The batch member and the position of a row of the flattened array. -/
abbrev bat (i : Fin 32768) : Fin 16 := ⟨i.val / 2048, by omega⟩
abbrev pos (i : Fin 32768) : Fin 2048 := ⟨i.val % 2048, by omega⟩

/-! ### The reference -/

theorem norm_ref (x : S16x2048x2048.Idx → EReal) (g : S2048.Idx → EReal) (b : Fin 16) (s : Fin 2048) (q : Fin 2048) :
    Cert.Reference3Ideal.Read.val_main_v12 (F := Ideal) x g (ix3 b s q)
      = normed (fun q => x (ix3 b s q)) (fun q => g (ix1 q)) q := by
  unfold Cert.Reference3Ideal.Read.val_main_v12 Cert.Reference3Ideal.Read.val_main_v11 Cert.Reference3Ideal.Read.val_main_v10
    Cert.Reference3Ideal.Read.val_main_v9 Cert.Reference3Ideal.Read.val_main_v8 Cert.Reference3Ideal.Read.val_main_v7
    Cert.Reference3Ideal.Read.val_main_v6 Cert.Reference3Ideal.Read.val_main_v5 Cert.Reference3Ideal.Read.val_main_cst_1
    Cert.Reference3Ideal.Read.val_main_v4 Cert.Reference3Ideal.Read.val_main_v3 Cert.Reference3Ideal.Read.val_main_cst_0
    Cert.Reference3Ideal.Read.val_main_v2 Cert.Reference3Ideal.Read.val_main_v1 Cert.Reference3Ideal.Read.val_main_cst
    Cert.Reference3Ideal.Read.val_main_v0
  unfold normed
  pointwise

/-- The whole result array as one function of the arrays. -/
abbrev result (x : S16x2048x2048.Idx → EReal) (g : S2048.Idx → EReal) (w : S2048x5120.Idx → EReal) : S32768x5120.Idx → EReal :=
  Cert.Reference3Ideal.Read.val_main_v15 (F := Ideal) x g w

theorem result_apply (x : S16x2048x2048.Idx → EReal) (g : S2048.Idx → EReal) (w : S2048x5120.Idx → EReal) (i : Fin 32768) (k : Fin 5120) :
    result x g w (ix2 i k)
      = ∑ q : Fin 2048, normed (fun q => x (ix3 (bat i) (pos i) q)) (fun q => g (ix1 q)) q * w (ix2 q k) := by
  unfold result Cert.Reference3Ideal.Read.val_main_v15 Cert.Reference3Ideal.Read.val_main_v14 Cert.Reference3Ideal.Read.val_main_v13
  generalize hn : Cert.Reference3Ideal.Read.val_main_v12 (F := Ideal) x g = h
  have hh : ∀ q, h (ix3 (bat i) (pos i) q) = normed (fun q => x (ix3 (bat i) (pos i) q)) (fun q => g (ix1 q)) q := by
    intro q; rw [← hn]; exact norm_ref x g _ _ q
  pointwise
  simp only [hh]

variable (m : (ℓ : Loc nD τ sig) → Buf (Elt Ideal) ℓ)

/-! ### The arrays as the kernel's call finds them -/

theorem V0 (c : Dev nD) (i : Fin 32768) (k : Fin 2048) :
    (V m c main_v0 : S32768x2048.Idx → EReal) (ix2 i k)
      = (m (c.tc.loc main_arg0) : S16x2048x2048.Idx → EReal) (ix3 (bat i) (pos i) k) := by
  unfold V
  after_reads_at

theorem V2 (c : Dev nD) (k : Fin 2048) :
    (V m c main_v2 : S1x2048.Idx → EReal) (ix2 0 k) = (m (c.tc.loc main_arg1) : S2048.Idx → EReal) (ix1 k) := by
  unfold V
  after_reads_at

theorem V1 (c : Dev nD) (i : Fin 2048) (k : Fin 5120) :
    (V m c main_v1 : S2048x5120.Idx → EReal) (ix2 i k) = (m (c.tc.loc main_arg2) : S2048x5120.Idx → EReal) (ix2 i k) := by
  unfold V
  after_reads_at

/-! ### The windows' blocks -/

/-- Row `r` of the block point `n` works on, as a row of the flattened array. -/
abbrev row (n : ℕ) (hn : n < cfg0.N) (r : Fin 1024) : Fin 32768 :=
  ⟨1024 * (n / 2) + r, by have hN : cfg0.N = 64 := N_0; omega⟩

/-- Column `f` of the column block point `n` works on. -/
abbrev col (n : ℕ) (f : Fin 2560) : Fin 5120 := ⟨2560 * (n % 2) + f, by omega⟩

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, 0] := (by decide +kernel : ∀ t : Fin grid0.N, win0_1.index t = ![0, 0])
theorem idx2 : ∀ t : Fin cfg0.N, win0_2.index t = ![0, t.val % 2] := (by decide +kernel : ∀ t : Fin grid0.N, win0_2.index t = ![0, t.val % 2])
theorem idx3 : ∀ t : Fin cfg0.N, win0_3.index t = ![t.val / 2, t.val % 2] := (by decide +kernel : ∀ t : Fin grid0.N, win0_3.index t = ![t.val / 2, t.val % 2])

theorem blk0 (c : Dev nD) (t : Fin cfg0.N) (r : Fin 1024) (k : Fin 2048) :
    (iblk m c 0 t : Vec Ideal S1024x2048 .f32) (ix2 r k) = (m (c.tc.loc main_arg0) : S16x2048x2048.Idx → EReal) (ix3 (bat (row t.val t.isLt r)) (pos (row t.val t.isLt r)) k) := by
  refine Eq.trans ?_ (V0 m c (row t.val t.isLt r) k)
  unfold iblk
  rw [View.read_apply]
  show V m c main_v0 _ = V m c main_v0 _
  congr 1
  funext a
  apply Fin.ext
  match a with
  | ⟨0, _⟩ => show win0_0.index t 0 * 1024 + 1 * r.val = 1024 * (t.val / 2) + r.val; rw [idx0]; simp; omega
  | ⟨1, _⟩ => show win0_0.index t 1 * 2048 + 1 * k.val = k.val; rw [idx0]; simp

theorem blk1 (c : Dev nD) (t : Fin cfg0.N) (k : Fin 2048) :
    (iblk m c 1 t : Vec Ideal S1x2048 .f32) (ix2 0 k) = (m (c.tc.loc main_arg1) : S2048.Idx → EReal) (ix1 k) := by
  refine Eq.trans ?_ (V2 m c k)
  unfold iblk
  rw [View.read_apply]
  show V m c main_v2 _ = V m c main_v2 _
  congr 1
  funext a
  apply Fin.ext
  match a with
  | ⟨0, _⟩ => show win0_1.index t 0 * 1 + 1 * 0 = 0; rw [idx1]; simp
  | ⟨1, _⟩ => show win0_1.index t 1 * 2048 + 1 * k.val = k.val; rw [idx1]; simp

theorem blk2 (c : Dev nD) (t : Fin cfg0.N) (q : Fin 2048) (f : Fin 2560) :
    (iblk m c 2 t : Vec Ideal S2048x2560 .bf16) (ix2 q f) = (m (c.tc.loc main_arg2) : S2048x5120.Idx → EReal) (ix2 q (col t.val f)) := by
  refine Eq.trans ?_ (V1 m c q (col t.val f))
  unfold iblk
  rw [View.read_apply]
  show V m c main_v1 _ = V m c main_v1 _
  congr 1
  funext a
  apply Fin.ext
  match a with
  | ⟨0, _⟩ => show win0_2.index t 0 * 2048 + 1 * q.val = q.val; rw [idx2]; simp
  | ⟨1, _⟩ => show win0_2.index t 1 * 2560 + 1 * f.val = 2560 * (t.val % 2) + f.val; rw [idx2]; simp; omega

/-! ### The points of one row block -/

/-- The normed row `i`. -/
abbrev hrow (c : Dev nD) (i : Fin 32768) : Fin 2048 → EReal :=
  normed (fun q => (m (c.tc.loc main_arg0) : S16x2048x2048.Idx → EReal) (ix3 (bat i) (pos i) q))
    (fun q => (m (c.tc.loc main_arg1) : S2048.Idx → EReal) (ix1 q))

theorem norm_blk (c : Dev nD) (t : Fin cfg0.N) (r : Fin 1024) :
    normed (fun q => (iblk m c 0 t : Vec Ideal S1024x2048 .f32) (ix2 r q)) (fun q => (iblk m c 1 t : Vec Ideal S1x2048 .f32) (ix2 0 q))
      = hrow m c (row t.val t.isLt r) := by
  unfold hrow
  simp only [blk0, blk1]

/-- The result as a function of the argument arrays at launch. -/
abbrev G (c : Dev nD) : S32768x5120.Idx → EReal :=
  result (m (c.tc.loc main_arg0)) (m (c.tc.loc main_arg1)) (m (c.tc.loc main_arg2))

theorem G_apply (c : Dev nD) (i : Fin 32768) (k : Fin 5120) :
    G m c (ix2 i k) = ∑ q : Fin 2048, hrow m c i q * (m (c.tc.loc main_arg2) : S2048x5120.Idx → EReal) (ix2 q k) :=
  result_apply _ _ _ i k

theorem first_out (c : Dev nD) (t : Fin cfg0.N) (h0 : t.val % 2 = 0) (r : Fin 1024) (k : Fin 2560) :
    (outsAt0 m c t.val t.isLt).1 (ix2 r k) = G m c (ix2 (row t.val t.isLt r) (col t.val k)) := by
  rw [outsAt0_A m c t h0 (by omega)]
  dsimp only
  rw [outA, norm_blk, G_apply]
  simp only [blk2]

theorem first_norm (c : Dev nD) (t : Fin cfg0.N) (h0 : t.val % 2 = 0) (r : Fin 1024) (k : Fin 2048) :
    (outsAt0 m c t.val t.isLt).2 (ix2 r k) = hrow m c (row t.val t.isLt r) k := by
  rw [outsAt0_A m c t h0 (by omega)]
  dsimp only
  rw [soutA, norm_blk]

theorem next_out (c : Dev nD) (t : Fin cfg0.N) (h0 : ¬t.val % 2 = 0) (r : Fin 1024) (k : Fin 2560) :
    (outsAt0 m c t.val t.isLt).1 (ix2 r k) = G m c (ix2 (row t.val t.isLt r) (col t.val k)) := by
  have hb : t.val - 1 < cfg0.N := Nat.lt_of_le_of_lt (Nat.sub_le _ _) t.isLt
  have hr : row (t.val - 1) hb r = row t.val t.isLt r :=
    Fin.ext (show 1024 * ((t.val - 1) / 2) + r.val = 1024 * (t.val / 2) + r.val by omega)
  have hs : (fun q => (outsAt0 m c (t.val - 1) hb).2 (ix2 r q)) = hrow m c (row t.val t.isLt r) := funext fun q =>
    (first_norm m c ⟨t.val - 1, hb⟩ (by simp only; omega) r q).trans (congrArg (fun i => hrow m c i q) hr)
  rw [outsAt0_B m c t h0 (by omega)]
  dsimp only
  rw [outB, G_apply]
  simp only [blk2]
  exact Finset.sum_congr rfl fun q _ => congrArg₂ (· * ·) (congrFun hs q) rfl

/-! ### The result array -/

theorem flushed_eq (c : Dev nD) (t : Fin cfg0.N) (_ : (cfg0.win 3).flush t = true) :
    (dats m 0 c).flushed 3 t = ((cfg0.win 3).blk t).view.read (Elt Ideal) (G m c) := by
  rw [Value.flushed3]
  funext j
  obtain ⟨r, k, rfl⟩ : ∃ (r : Fin 1024) (k : Fin 2560), j = ix2 r k := ⟨j 0, j 1, eq_ix2 j⟩
  rw [View.read_apply, cast_eq]
  have hi : ((cfg0.win 3).blk t).view.emb (ix2 r k) = ix2 (row t.val t.isLt r) (col t.val k) := by
    funext a
    apply Fin.ext
    match a with
    | ⟨0, _⟩ => show win0_3.index t 0 * 1024 + 1 * r.val = 1024 * (t.val / 2) + r.val; rw [idx3]; simp; omega
    | ⟨1, _⟩ => show win0_3.index t 1 * 2560 + 1 * k.val = 2560 * (t.val % 2) + k.val; rw [idx3]; simp; omega
  rw [hi]
  by_cases h0 : t.val % 2 = 0
  · exact first_out m c t h0 r k
  · exact next_out m c t h0 r k

theorem covered (i : S32768x5120.Idx) (t : Fin cfg0.N) (h2 : t.val / 2 = (i 0 : Nat) / 1024) (h3 : t.val % 2 = (i 1 : Nat) / 2560) :
    i ∈ ((cfg0.win 3).blk t).view.set := by
  have h0 : (i 0 : Nat) < 32768 := (i 0).isLt
  have h1 : (i 1 : Nat) < 5120 := (i 1).isLt
  show i ∈ ((View.whole main_v3).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [idx3]; simp; omega
  | ⟨1, _⟩ =>
    show win0_3.index t 1 * 2560 ≤ (i 1 : Nat) ∧ (i 1 : Nat) < win0_3.index t 1 * 2560 + 2560
    rw [idx3]; simp; omega

theorem final (c : Dev nD) : (dats m 0 c).arrAt 3 cfg0.N = G m c :=
  (dats m 0 c).arrAt_eq_of_cover 3 (G m c) (flushed_eq m c) fun i =>
    have h0 : (i 0 : Nat) < 32768 := (i 0).isLt
    have h1 : (i 1 : Nat) < 5120 := (i 1).isLt
    ⟨⟨2 * ((i 0 : Nat) / 1024) + (i 1 : Nat) / 2560, by
      have hN : cfg0.N = 64 := N_0
      omega⟩, flush0_3 _, covered i _ (by simp only; omega) (by simp only; omega)⟩

/-! ### The claims -/

/-- The reference runs, leaves its arguments as they were, and has no semaphore. -/
theorem frame_r : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-- From equal arguments the kernel and its reference end with equal results. -/
theorem algebraic : Cert.algebraic_Kernel3Ideal_Reference3Ideal := fun m ρ m' ρ' _ hag =>
  ⟨fun c => G m c,
    (θ_run _ _ _).mono (fun _ h c => ⟨(h c).1.trans (final m c), (h c).2⟩) (Value.run_blocks (F := Ideal) m ρ),
    (θ_run _ _ _).mono
      (fun _ h c => ⟨by
        refine (h c).1.trans ?_
        obtain ⟨h0, h1, h2⟩ := hag c
        rw [h0, h1, h2]
        exact Cert.Reference3Ideal.Read.val_main_v15_eq _ _ _, (h c).2⟩)
      (Cert.Reference3Ideal.Value.run (F := Ideal) m' ρ')⟩

end Cert.Proof.InProj

end
-- ==== Proof.OutProj.lean ====
/- The output projection: one block of the kernel's result, element by element, and the whole array. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.StableHlo.ReadAt
public import proofs.«01_k».proof.Proof.Sums
public import proofs.«01_k».proof.Defs
public import Idealize.ShloMosaic.Lib.Quiescent

@[expose] public section

set_option maxRecDepth 16384

noncomputable section

namespace Cert.Proof.OutProj

open Idealize.ShloMosaic Idealize.ShloMosaic.TcCoe Idealize.SL.Sem
open Cert.Kernel4Ideal Cert.Kernel4Ideal.Gen Cert.Proof.Sums

/-- One row block of the result: the residual plus the four groups' products. -/
theorem out_apply (x0 : Vec Ideal S512x2048 .f32) (x1 x2 x3 x4 : Vec Ideal S512x512 .bf16)
    (x5 : Vec Ideal S2048x2048 .bf16) (r : Fin 512) (c : Fin 2048) :
    out0_6 (F := Ideal) x0 x1 x2 x3 x4 x5 (ix2 r c)
      = x0 (ix2 r c) + ∑ k : Fin 512, x1 (ix2 r k) * x5 (ix2 ⟨k, by omega⟩ c)
        + ∑ k : Fin 512, x2 (ix2 r k) * x5 (ix2 ⟨512 + k, by omega⟩ c)
        + ∑ k : Fin 512, x3 (ix2 r k) * x5 (ix2 ⟨1024 + k, by omega⟩ c)
        + ∑ k : Fin 512, x4 (ix2 r k) * x5 (ix2 ⟨1536 + k, by omega⟩ c) := by
  unfold out0_6
  rw [View.canon_unit_zero hz]
  pointwise [k0_pay1]

/-- The whole result array as one function of the arrays. -/
abbrev result (x : S16x2048x2048.Idx → EReal) (ya yb yc yd : S16x2048x512.Idx → EReal) (w : S2048x2048.Idx → EReal) :
    S32768x2048.Idx → EReal :=
  Cert.Reference4Ideal.Read.val_main_v7 (F := Ideal) x ya yb yc yd w

/-- The batch member and the position of a row of the flattened array. -/
abbrev bat (i : Fin 32768) : Fin 16 := ⟨i.val / 2048, by omega⟩
abbrev pos (i : Fin 32768) : Fin 2048 := ⟨i.val % 2048, by omega⟩

theorem result_apply (x : S16x2048x2048.Idx → EReal) (ya yb yc yd : S16x2048x512.Idx → EReal)
    (w : S2048x2048.Idx → EReal) (i : Fin 32768) (c : Fin 2048) :
    result x ya yb yc yd w (ix2 i c)
      = x (ix3 (bat i) (pos i) c) + ∑ k : Fin 512, ya (ix3 (bat i) (pos i) k) * w (ix2 ⟨k, by omega⟩ c)
        + ∑ k : Fin 512, yb (ix3 (bat i) (pos i) k) * w (ix2 ⟨512 + k, by omega⟩ c)
        + ∑ k : Fin 512, yc (ix3 (bat i) (pos i) k) * w (ix2 ⟨1024 + k, by omega⟩ c)
        + ∑ k : Fin 512, yd (ix3 (bat i) (pos i) k) * w (ix2 ⟨1536 + k, by omega⟩ c) := by
  unfold result Cert.Reference4Ideal.Read.val_main_v7 Cert.Reference4Ideal.Read.val_main_v6
    Cert.Reference4Ideal.Read.val_main_v5 Cert.Reference4Ideal.Read.val_main_v4
    Cert.Reference4Ideal.Read.val_main_v3 Cert.Reference4Ideal.Read.val_main_v2
    Cert.Reference4Ideal.Read.val_main_v1 Cert.Reference4Ideal.Read.val_main_v0
  pointwise
  rw [sum_blocks 4 512 rfl, Fin.sum_univ_four]
  simp only [← add_assoc]
  refine congrArg₂ (· + ·) (congrArg₂ (· + ·) (congrArg₂ (· + ·) (congrArg₂ (· + ·) rfl ?_) ?_) ?_) ?_
  · refine Finset.sum_congr rfl fun k _ => ?_
    rw [dif_pos (by simp)]
    simp
  · refine Finset.sum_congr rfl fun k _ => ?_
    rw [dif_neg (by simp), dif_pos (by simp)]
    simp
  · refine Finset.sum_congr rfl fun k _ => ?_
    rw [dif_neg (by simp; omega), dif_neg (by simp; omega), dif_pos (by simp; omega)]
    exact congrArg₂ (· * ·) (congrArg yc (congrArg (ix3 _ _) (Fin.ext (by simp; omega)))) rfl
  · refine Finset.sum_congr rfl fun k _ => ?_
    rw [dif_neg (by simp; omega), dif_neg (by simp; omega), dif_neg (by simp; omega)]
    exact congrArg₂ (· * ·) (congrArg yd (congrArg (ix3 _ _) (Fin.ext (by simp; omega)))) rfl

variable (m : (ℓ : Loc nD τ sig) → Buf (Elt Ideal) ℓ)

/-! ### The arrays as the kernel's call finds them -/

theorem V4 (c : Dev nD) (i : Fin 32768) (k : Fin 2048) :
    (V m c main_v4 : S32768x2048.Idx → EReal) (ix2 i k)
      = (m (c.tc.loc main_arg0) : S16x2048x2048.Idx → EReal) (ix3 (bat i) (pos i) k) := by
  unfold V
  after_reads_at

theorem V0 (c : Dev nD) (i : Fin 32768) (k : Fin 512) :
    (V m c main_v0 : S32768x512.Idx → EReal) (ix2 i k)
      = (m (c.tc.loc main_arg1) : S16x2048x512.Idx → EReal) (ix3 (bat i) (pos i) k) := by
  unfold V
  after_reads_at

theorem V1 (c : Dev nD) (i : Fin 32768) (k : Fin 512) :
    (V m c main_v1 : S32768x512.Idx → EReal) (ix2 i k)
      = (m (c.tc.loc main_arg2) : S16x2048x512.Idx → EReal) (ix3 (bat i) (pos i) k) := by
  unfold V
  after_reads_at

theorem V2 (c : Dev nD) (i : Fin 32768) (k : Fin 512) :
    (V m c main_v2 : S32768x512.Idx → EReal) (ix2 i k)
      = (m (c.tc.loc main_arg3) : S16x2048x512.Idx → EReal) (ix3 (bat i) (pos i) k) := by
  unfold V
  after_reads_at

theorem V3 (c : Dev nD) (i : Fin 32768) (k : Fin 512) :
    (V m c main_v3 : S32768x512.Idx → EReal) (ix2 i k)
      = (m (c.tc.loc main_arg4) : S16x2048x512.Idx → EReal) (ix3 (bat i) (pos i) k) := by
  unfold V
  after_reads_at

theorem V5 (c : Dev nD) (i k : Fin 2048) :
    (V m c main_v5 : S2048x2048.Idx → EReal) (ix2 i k) = (m (c.tc.loc main_arg5) : S2048x2048.Idx → EReal) (ix2 i k) := by
  unfold V
  after_reads_at

/-! ### The windows' blocks -/

/-- Row `r` of block `t`, as a row of the flattened array. -/
abbrev row (t : Fin cfg0.N) (r : Fin 512) : Fin 32768 := ⟨512 * t.val + r, by have := t.isLt; have hN : cfg0.N = 64 := N_0; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

theorem blk0 (c : Dev nD) (t : Fin cfg0.N) (r : Fin 512) (k : Fin 2048) :
    (iblk m c 0 t : Vec Ideal S512x2048 .f32) (ix2 r k) = (m (c.tc.loc main_arg0) : S16x2048x2048.Idx → EReal) (ix3 (bat (row t r)) (pos (row t r)) k) := by
  refine Eq.trans ?_ (V4 m c (row t r) k)
  unfold iblk
  rw [View.read_apply]
  show V m c main_v4 _ = V m c main_v4 _
  congr 1
  funext a
  apply Fin.ext
  match a with
  | ⟨0, _⟩ => show win0_0.index t 0 * 512 + 1 * r.val = 512 * t.val + r.val; rw [idx0]; simp; omega
  | ⟨1, _⟩ => show win0_0.index t 1 * 2048 + 1 * k.val = k.val; rw [idx0]; simp

theorem blk1 (c : Dev nD) (t : Fin cfg0.N) (r : Fin 512) (k : Fin 512) :
    (iblk m c 1 t : Vec Ideal S512x512 .bf16) (ix2 r k) = (m (c.tc.loc main_arg1) : S16x2048x512.Idx → EReal) (ix3 (bat (row t r)) (pos (row t r)) k) := by
  refine Eq.trans ?_ (V0 m c (row t r) k)
  unfold iblk
  rw [View.read_apply]
  show V m c main_v0 _ = V m c main_v0 _
  congr 1
  funext a
  apply Fin.ext
  match a with
  | ⟨0, _⟩ => show win0_1.index t 0 * 512 + 1 * r.val = 512 * t.val + r.val; rw [idx1]; simp; omega
  | ⟨1, _⟩ => show win0_1.index t 1 * 512 + 1 * k.val = k.val; rw [idx1]; simp

theorem blk2 (c : Dev nD) (t : Fin cfg0.N) (r : Fin 512) (k : Fin 512) :
    (iblk m c 2 t : Vec Ideal S512x512 .bf16) (ix2 r k) = (m (c.tc.loc main_arg2) : S16x2048x512.Idx → EReal) (ix3 (bat (row t r)) (pos (row t r)) k) := by
  refine Eq.trans ?_ (V1 m c (row t r) k)
  unfold iblk
  rw [View.read_apply]
  show V m c main_v1 _ = V m c main_v1 _
  congr 1
  funext a
  apply Fin.ext
  match a with
  | ⟨0, _⟩ => show win0_2.index t 0 * 512 + 1 * r.val = 512 * t.val + r.val; rw [idx2]; simp; omega
  | ⟨1, _⟩ => show win0_2.index t 1 * 512 + 1 * k.val = k.val; rw [idx2]; simp

theorem blk3 (c : Dev nD) (t : Fin cfg0.N) (r : Fin 512) (k : Fin 512) :
    (iblk m c 3 t : Vec Ideal S512x512 .bf16) (ix2 r k) = (m (c.tc.loc main_arg3) : S16x2048x512.Idx → EReal) (ix3 (bat (row t r)) (pos (row t r)) k) := by
  refine Eq.trans ?_ (V2 m c (row t r) k)
  unfold iblk
  rw [View.read_apply]
  show V m c main_v2 _ = V m c main_v2 _
  congr 1
  funext a
  apply Fin.ext
  match a with
  | ⟨0, _⟩ => show win0_3.index t 0 * 512 + 1 * r.val = 512 * t.val + r.val; rw [idx3]; simp; omega
  | ⟨1, _⟩ => show win0_3.index t 1 * 512 + 1 * k.val = k.val; rw [idx3]; simp

theorem blk4 (c : Dev nD) (t : Fin cfg0.N) (r : Fin 512) (k : Fin 512) :
    (iblk m c 4 t : Vec Ideal S512x512 .bf16) (ix2 r k) = (m (c.tc.loc main_arg4) : S16x2048x512.Idx → EReal) (ix3 (bat (row t r)) (pos (row t r)) k) := by
  refine Eq.trans ?_ (V3 m c (row t r) k)
  unfold iblk
  rw [View.read_apply]
  show V m c main_v3 _ = V m c main_v3 _
  congr 1
  funext a
  apply Fin.ext
  match a with
  | ⟨0, _⟩ => show win0_4.index t 0 * 512 + 1 * r.val = 512 * t.val + r.val; rw [idx4]; simp; omega
  | ⟨1, _⟩ => show win0_4.index t 1 * 512 + 1 * k.val = k.val; rw [idx4]; simp

theorem blk5 (c : Dev nD) (t : Fin cfg0.N) (r : Fin 2048) (k : Fin 2048) :
    (iblk m c 5 t : Vec Ideal S2048x2048 .bf16) (ix2 r k) = (m (c.tc.loc main_arg5) : S2048x2048.Idx → EReal) (ix2 r k) := by
  refine Eq.trans ?_ (V5 m c r k)
  unfold iblk
  rw [View.read_apply]
  show V m c main_v5 _ = V m c main_v5 _
  congr 1
  funext a
  apply Fin.ext
  match a with
  | ⟨0, _⟩ => show win0_5.index t 0 * 2048 + 1 * r.val = r.val; rw [idx5]; simp
  | ⟨1, _⟩ => show win0_5.index t 1 * 2048 + 1 * k.val = k.val; rw [idx5]; simp

/-! ### The result array -/

/-- The result as a function of the argument arrays at launch. -/
abbrev G (c : Dev nD) : S32768x2048.Idx → EReal :=
  result (m (c.tc.loc main_arg0)) (m (c.tc.loc main_arg1)) (m (c.tc.loc main_arg2)) (m (c.tc.loc main_arg3))
    (m (c.tc.loc main_arg4)) (m (c.tc.loc main_arg5))

theorem flushed_eq (c : Dev nD) (t : Fin cfg0.N) (_ : (cfg0.win 6).flush t = true) :
    (dats m 0 c).flushed 6 t = ((cfg0.win 6).blk t).view.read (Elt Ideal) (G m c) := by
  rw [Value.flushed6]
  funext j
  obtain ⟨r, k, rfl⟩ : ∃ (r : Fin 512) (k : Fin 2048), j = ix2 r k := ⟨j 0, j 1, eq_ix2 j⟩
  rw [View.read_apply, cast_eq]
  have hi : ((cfg0.win 6).blk t).view.emb (ix2 r k) = ix2 (row t r) k := by
    funext a
    apply Fin.ext
    match a with
    | ⟨0, _⟩ => show win0_6.index t 0 * 512 + 1 * r.val = 512 * t.val + r.val; rw [idx6]; simp; omega
    | ⟨1, _⟩ => show win0_6.index t 1 * 2048 + 1 * k.val = k.val; rw [idx6]; simp
  rw [hi]
  refine (out_apply _ _ _ _ _ _ r k).trans ?_
  unfold G
  rw [result_apply]
  simp only [blk0, blk1, blk2, blk3, blk4, blk5]

theorem covered (i : S32768x2048.Idx) (t : Fin cfg0.N) (ht : t.val = (i 0 : Nat) / 512) :
    i ∈ ((cfg0.win 6).blk t).view.set := by
  have h0 : (i 0 : Nat) < 32768 := (i 0).isLt
  have h1 : (i 1 : Nat) < 2048 := (i 1).isLt
  show i ∈ ((View.whole main_v6).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [idx6]; simp; omega
  | ⟨1, _⟩ =>
    show win0_6.index t 1 * 2048 ≤ (i 1 : Nat) ∧ (i 1 : Nat) < win0_6.index t 1 * 2048 + 2048
    rw [idx6]; simp; omega

theorem final (c : Dev nD) : (dats m 0 c).arrAt 6 cfg0.N = G m c :=
  (dats m 0 c).arrAt_eq_of_cover 6 (G m c) (flushed_eq m c) fun i =>
    ⟨⟨(i 0 : Nat) / 512, by
      have h0 : (i 0 : Nat) < 32768 := (i 0).isLt
      have hN : cfg0.N = 64 := N_0
      omega⟩, flush0_6 _, covered i _ rfl⟩

/-! ### The claims -/

/-- The reference runs, leaves its arguments as they were, and has no semaphore. -/
theorem frame_r : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

/-- From equal arguments the kernel and its reference end with equal results. -/
theorem algebraic : Cert.algebraic_Kernel4Ideal_Reference4Ideal := fun m ρ m' ρ' _ hag =>
  ⟨fun c => G m c,
    (θ_run _ _ _).mono (fun _ h c => ⟨(h c).1.trans (final m c), (h c).2⟩) (Value.run_blocks (F := Ideal) m ρ),
    (θ_run _ _ _).mono
      (fun _ h c => ⟨by
        refine (h c).1.trans ?_
        obtain ⟨h0, h1, h2, h3, h4, h5⟩ := hag c
        rw [h0, h1, h2, h3, h4, h5]
        exact Cert.Reference4Ideal.Read.val_main_v7_eq _ _ _ _ _ _, (h c).2⟩)
      (Cert.Reference4Ideal.Value.run (F := Ideal) m' ρ')⟩

end Cert.Proof.OutProj

end
-- ==== Proof.AttnSpec.lean ====
/- The attention, entry by entry, on extended reals: the norm of one head, its turn by the angles, and the softmax over
   the block before, the block itself and the sink. -/
module

public import proofs.«01_k».proof.Proof.Sums
public import Idealize.ShloMosaic.Lib.IdealHost

@[expose] public section

noncomputable section

namespace Cert.Proof.Spec

open Idealize.ShloMosaic

/-- Entry `d` of one head divided by its root mean square, times the gain. -/
def rms (x g : Fin 64 → EReal) (d : Fin 64) : EReal :=
  x d * Ideal.rsqrt (Ideal.div (∑ e : Fin 64, x e * x e) (Ideal.ofBits FTy.f32 0x42800000#32) + Ideal.ofBits FTy.f32 0x358637BD#32) * g d

/-- The angle of pair `i` at a position. -/
def angle (p : BitVec 32) (i : Fin 8) : EReal :=
  (FloatOps.sitofp (F := Ideal) FTy.f32 p : EReal) *
    Ideal.pow (Ideal.ofBits FTy.f32 0x48F42400#32)
      (Ideal.div (-(Ideal.ofBits FTy.f32 0x40000000#32 * (FloatOps.sitofp (F := Ideal) FTy.f32 (BitVec.ofNat 32 i.val) : EReal)))
        (Ideal.ofBits FTy.f32 0x41800000#32))

/-- One head with its first sixteen entries turned in eight pairs. -/
def turn (y : Fin 64 → EReal) (a : Fin 8 → EReal) (d : Fin 64) : EReal :=
  if h : d.val < 8 then
    y d * Ideal.cos (a ⟨d.val, h⟩) - y ⟨8 + d.val, by omega⟩ * Ideal.sin (a ⟨d.val, h⟩)
  else if h' : d.val - 8 < 8 then
    y d * Ideal.cos (a ⟨d.val - 8, h'⟩) + y ⟨d.val - 8, by omega⟩ * Ideal.sin (a ⟨d.val - 8, h'⟩)
  else y d

/-- The scale of the scores, one eighth. -/
abbrev eighth : EReal := Ideal.ofBits FTy.f32 0x3E000000#32

/-- The softmax of two rows of scores and a sink, applied to two rows of values and divided at the end. -/
def soft (sp sc : Fin 128 → EReal) (sk : EReal) (vp vc : Fin 128 → EReal) : EReal :=
  Ideal.div
    ((∑ j : Fin 128, Ideal.exp (sp j - max (max (Finset.univ.sup sp) (Finset.univ.sup sc)) sk) * vp j)
      + ∑ j : Fin 128, Ideal.exp (sc j - max (max (Finset.univ.sup sp) (Finset.univ.sup sc)) sk) * vc j)
    ((∑ j : Fin 128, Ideal.exp (sp j - max (max (Finset.univ.sup sp) (Finset.univ.sup sc)) sk))
      + (∑ j : Fin 128, Ideal.exp (sc j - max (max (Finset.univ.sup sp) (Finset.univ.sup sc)) sk))
      + Ideal.exp (sk - max (max (Finset.univ.sup sp) (Finset.univ.sup sc)) sk))

variable (P : (⟨3, ![16, 2048, 5120]⟩ : Shape).Idx → EReal) (pos : (⟨2, ![16, 2048]⟩ : Shape).Idx → BitVec 32)
  (gq gk : (⟨1, ![64]⟩ : Shape).Idx → EReal) (sk : (⟨1, ![8]⟩ : Shape).Idx → EReal)

/-- The query of head `h`, at one position. -/
def qry (b : Fin 16) (t : Fin 2048) (h : Fin 8) (d : Fin 64) : EReal :=
  turn (rms (fun e => P (ix3 b t ⟨1792 + (h.val * 64 + e.val), by omega⟩)) (fun e => gq (ix1 e))) (angle (pos (ix2 b t))) d * eighth

/-- The key of one of the two shared heads. -/
def key (b : Fin 16) (t : Fin 2048) (kh : Fin 2) (d : Fin 64) : EReal :=
  turn (rms (fun e => P (ix3 b t ⟨1792 + (512 + (kh.val * 64 + e.val)), by omega⟩)) (fun e => gk (ix1 e))) (angle (pos (ix2 b t))) d

/-- The value of one of the two shared heads. -/
def val (b : Fin 16) (t : Fin 2048) (kh : Fin 2) (d : Fin 64) : EReal :=
  P (ix3 b t ⟨1792 + (640 + (kh.val * 64 + d.val)), by omega⟩)

/-- The position `i` of block `n`. -/
abbrev at' (n : Fin 16) (i : Fin 128) : Fin 2048 := ⟨n.val * 128 + i.val, by omega⟩

/-- The position `i` of the block before block `n`. -/
abbrev bef (n : Fin 16) (i : Fin 128) : Fin 2048 := ⟨(n.val - 1) * 128 + i.val, by omega⟩

/-- The shared head of head `h`. -/
abbrev grp (h : Fin 8) : Fin 2 := ⟨h.val / 4, by omega⟩

/-- The score of position `i` of block `n` against position `j` of the same block. -/
def scur (b n : Fin 16) (h : Fin 8) (i j : Fin 128) : EReal :=
  if j.val ≤ i.val then ∑ d : Fin 64, qry P pos gq b (at' n i) h d * key P pos gk b (at' n j) (grp h) d else ⊥

/-- The score of position `i` of block `n` against position `j` of the block before. -/
def sprev (b n : Fin 16) (h : Fin 8) (i j : Fin 128) : EReal :=
  if 1 ≤ n.val ∧ i.val < j.val then ∑ d : Fin 64, qry P pos gq b (at' n i) h d * key P pos gk b (bef n j) (grp h) d else ⊥

/-- One entry of the attention's result. -/
def out (b n : Fin 16) (h : Fin 8) (i : Fin 128) (d : Fin 64) : EReal :=
  soft (sprev P pos gq gk b n h i) (scur P pos gq gk b n h i) (sk (ix1 h))
    (fun j => if 1 ≤ n.val then val P b (bef n j) (grp h) d else 0) (fun j => val P b (at' n j) (grp h) d)

end Cert.Proof.Spec

end
-- ==== Proof.AttnBlock.lean ====
/- The attention's grid point, element by element: the queries and keys with their norm and turn, the heads in their
   groups, and the softmax over the block before, the block and the sink. -/
module

public import proofs.«01_k».proof.Proof.Gen.KernelIdeal.Value
public import proofs.«01_k».proof.Proof.AttnSpec
public import proofs.«01_k».proof.Proof.Sums
public import Idealize.ShloMosaic.Lib.Pointwise
public import Idealize.ShloMosaic.Lib.Tactic.WordOmega

@[expose] public section

set_option maxRecDepth 16384

noncomputable section

namespace Cert.Proof.Attn

open Idealize.ShloMosaic Idealize.ShloMosaic.TcCoe Idealize.SL.Sem
open Cert.KernelIdeal Cert.KernelIdeal.Gen Cert.Proof.Spec

/-! ### The heads in their groups -/

/-- The two heads of each of the eight sequences, one under the other. -/
def heads (t : FVec Ideal S1024x128 .f32) : FVec Ideal S16x128x64 .f32 :=
  concatenate S16x128x64 0 [⟨S1x128x64, shapeCast S1x128x64 (extractStridedSlice S128x64 ![0, 0] t slices_S1024x128_o0_0_S128x64) shapeCasts_S128x64_S1x128x64⟩,
    ⟨S1x128x64, shapeCast S1x128x64 (extractStridedSlice S128x64 ![0, 64] t slices_S1024x128_o0_64_S128x64) shapeCasts_S128x64_S1x128x64⟩,
    ⟨S1x128x64, shapeCast S1x128x64 (extractStridedSlice S128x64 ![128, 0] t slices_S1024x128_o128_0_S128x64) shapeCasts_S128x64_S1x128x64⟩,
    ⟨S1x128x64, shapeCast S1x128x64 (extractStridedSlice S128x64 ![128, 64] t slices_S1024x128_o128_64_S128x64) shapeCasts_S128x64_S1x128x64⟩,
    ⟨S1x128x64, shapeCast S1x128x64 (extractStridedSlice S128x64 ![256, 0] t slices_S1024x128_o256_0_S128x64) shapeCasts_S128x64_S1x128x64⟩,
    ⟨S1x128x64, shapeCast S1x128x64 (extractStridedSlice S128x64 ![256, 64] t slices_S1024x128_o256_64_S128x64) shapeCasts_S128x64_S1x128x64⟩,
    ⟨S1x128x64, shapeCast S1x128x64 (extractStridedSlice S128x64 ![384, 0] t slices_S1024x128_o384_0_S128x64) shapeCasts_S128x64_S1x128x64⟩,
    ⟨S1x128x64, shapeCast S1x128x64 (extractStridedSlice S128x64 ![384, 64] t slices_S1024x128_o384_64_S128x64) shapeCasts_S128x64_S1x128x64⟩,
    ⟨S1x128x64, shapeCast S1x128x64 (extractStridedSlice S128x64 ![512, 0] t slices_S1024x128_o512_0_S128x64) shapeCasts_S128x64_S1x128x64⟩,
    ⟨S1x128x64, shapeCast S1x128x64 (extractStridedSlice S128x64 ![512, 64] t slices_S1024x128_o512_64_S128x64) shapeCasts_S128x64_S1x128x64⟩,
    ⟨S1x128x64, shapeCast S1x128x64 (extractStridedSlice S128x64 ![640, 0] t slices_S1024x128_o640_0_S128x64) shapeCasts_S128x64_S1x128x64⟩,
    ⟨S1x128x64, shapeCast S1x128x64 (extractStridedSlice S128x64 ![640, 64] t slices_S1024x128_o640_64_S128x64) shapeCasts_S128x64_S1x128x64⟩,
    ⟨S1x128x64, shapeCast S1x128x64 (extractStridedSlice S128x64 ![768, 0] t slices_S1024x128_o768_0_S128x64) shapeCasts_S128x64_S1x128x64⟩,
    ⟨S1x128x64, shapeCast S1x128x64 (extractStridedSlice S128x64 ![768, 64] t slices_S1024x128_o768_64_S128x64) shapeCasts_S128x64_S1x128x64⟩,
    ⟨S1x128x64, shapeCast S1x128x64 (extractStridedSlice S128x64 ![896, 0] t slices_S1024x128_o896_0_S128x64) shapeCasts_S128x64_S1x128x64⟩,
    ⟨S1x128x64, shapeCast S1x128x64 (extractStridedSlice S128x64 ![896, 64] t slices_S1024x128_o896_64_S128x64) shapeCasts_S128x64_S1x128x64⟩]
    concatenates_S1x128x64_S1x128x64_S1x128x64_S1x128x64_S1x128x64_S1x128x64_S1x128x64_S1x128x64_S1x128x64_S1x128x64_S1x128x64_S1x128x64_S1x128x64_S1x128x64_S1x128x64_S1x128x64_S16x128x64_d0

theorem heads_at (t : FVec Ideal S1024x128 .f32) (B : Fin 16) (j : Fin 128) (d : Fin 64) :
    heads t (ix3 B j d) = t (ix2 ⟨B.val / 2 * 128 + j.val, by omega⟩ ⟨B.val % 2 * 64 + d.val, by omega⟩) := by
  pointwise [heads]
  fin_cases B <;> simp

/-- Four heads, one under the other. -/
def four (a b c d : FVec Ideal S128x64 .f32) : FVec Ideal S512x64 .f32 :=
  concatenate S512x64 0 [⟨S128x64, a⟩, ⟨S128x64, b⟩, ⟨S128x64, c⟩, ⟨S128x64, d⟩] concatenates_S128x64_S128x64_S128x64_S128x64_S512x64_d0

theorem four_at (q : FVec Ideal S1024x256 .f32) (off : Nat) (h : off + 128 ≤ 1024)
    (s0 : S1024x256.Slices (![off, 0] : Fin 2 → Nat) S128x64) (s1 : S1024x256.Slices (![off, 64] : Fin 2 → Nat) S128x64)
    (s2 : S1024x256.Slices (![off, 128] : Fin 2 → Nat) S128x64) (s3 : S1024x256.Slices (![off, 192] : Fin 2 → Nat) S128x64) (R : Fin 512) (d : Fin 64) :
    four (extractStridedSlice S128x64 ![off, 0] q s0) (extractStridedSlice S128x64 ![off, 64] q s1)
      (extractStridedSlice S128x64 ![off, 128] q s2) (extractStridedSlice S128x64 ![off, 192] q s3) (ix2 R d)
      = q (ix2 ⟨off + R.val % 128, by omega⟩ ⟨R.val / 128 * 64 + d.val, by omega⟩) := by
  pointwise [four]
  split_ifs <;> exact congrArg₂ (fun a b => q (ix2 a b)) (Fin.ext (by simp only; omega)) (Fin.ext (by simp only; omega))

/-- The four query heads of one group, one under the other. -/
def groups (q0 q1 : FVec Ideal S1024x256 .f32) : FVec Ideal S16x512x64 .f32 :=
  concatenate S16x512x64 0 [⟨S1x512x64, shapeCast S1x512x64 (four (extractStridedSlice S128x64 ![0, 0] q0 slices_S1024x256_o0_0_S128x64) (extractStridedSlice S128x64 ![0, 64] q0 slices_S1024x256_o0_64_S128x64) (extractStridedSlice S128x64 ![0, 128] q0 slices_S1024x256_o0_128_S128x64) (extractStridedSlice S128x64 ![0, 192] q0 slices_S1024x256_o0_192_S128x64)) shapeCasts_S512x64_S1x512x64⟩,
    ⟨S1x512x64, shapeCast S1x512x64 (four (extractStridedSlice S128x64 ![0, 0] q1 slices_S1024x256_o0_0_S128x64) (extractStridedSlice S128x64 ![0, 64] q1 slices_S1024x256_o0_64_S128x64) (extractStridedSlice S128x64 ![0, 128] q1 slices_S1024x256_o0_128_S128x64) (extractStridedSlice S128x64 ![0, 192] q1 slices_S1024x256_o0_192_S128x64)) shapeCasts_S512x64_S1x512x64⟩,
    ⟨S1x512x64, shapeCast S1x512x64 (four (extractStridedSlice S128x64 ![128, 0] q0 slices_S1024x256_o128_0_S128x64) (extractStridedSlice S128x64 ![128, 64] q0 slices_S1024x256_o128_64_S128x64) (extractStridedSlice S128x64 ![128, 128] q0 slices_S1024x256_o128_128_S128x64) (extractStridedSlice S128x64 ![128, 192] q0 slices_S1024x256_o128_192_S128x64)) shapeCasts_S512x64_S1x512x64⟩,
    ⟨S1x512x64, shapeCast S1x512x64 (four (extractStridedSlice S128x64 ![128, 0] q1 slices_S1024x256_o128_0_S128x64) (extractStridedSlice S128x64 ![128, 64] q1 slices_S1024x256_o128_64_S128x64) (extractStridedSlice S128x64 ![128, 128] q1 slices_S1024x256_o128_128_S128x64) (extractStridedSlice S128x64 ![128, 192] q1 slices_S1024x256_o128_192_S128x64)) shapeCasts_S512x64_S1x512x64⟩,
    ⟨S1x512x64, shapeCast S1x512x64 (four (extractStridedSlice S128x64 ![256, 0] q0 slices_S1024x256_o256_0_S128x64) (extractStridedSlice S128x64 ![256, 64] q0 slices_S1024x256_o256_64_S128x64) (extractStridedSlice S128x64 ![256, 128] q0 slices_S1024x256_o256_128_S128x64) (extractStridedSlice S128x64 ![256, 192] q0 slices_S1024x256_o256_192_S128x64)) shapeCasts_S512x64_S1x512x64⟩,
    ⟨S1x512x64, shapeCast S1x512x64 (four (extractStridedSlice S128x64 ![256, 0] q1 slices_S1024x256_o256_0_S128x64) (extractStridedSlice S128x64 ![256, 64] q1 slices_S1024x256_o256_64_S128x64) (extractStridedSlice S128x64 ![256, 128] q1 slices_S1024x256_o256_128_S128x64) (extractStridedSlice S128x64 ![256, 192] q1 slices_S1024x256_o256_192_S128x64)) shapeCasts_S512x64_S1x512x64⟩,
    ⟨S1x512x64, shapeCast S1x512x64 (four (extractStridedSlice S128x64 ![384, 0] q0 slices_S1024x256_o384_0_S128x64) (extractStridedSlice S128x64 ![384, 64] q0 slices_S1024x256_o384_64_S128x64) (extractStridedSlice S128x64 ![384, 128] q0 slices_S1024x256_o384_128_S128x64) (extractStridedSlice S128x64 ![384, 192] q0 slices_S1024x256_o384_192_S128x64)) shapeCasts_S512x64_S1x512x64⟩,
    ⟨S1x512x64, shapeCast S1x512x64 (four (extractStridedSlice S128x64 ![384, 0] q1 slices_S1024x256_o384_0_S128x64) (extractStridedSlice S128x64 ![384, 64] q1 slices_S1024x256_o384_64_S128x64) (extractStridedSlice S128x64 ![384, 128] q1 slices_S1024x256_o384_128_S128x64) (extractStridedSlice S128x64 ![384, 192] q1 slices_S1024x256_o384_192_S128x64)) shapeCasts_S512x64_S1x512x64⟩,
    ⟨S1x512x64, shapeCast S1x512x64 (four (extractStridedSlice S128x64 ![512, 0] q0 slices_S1024x256_o512_0_S128x64) (extractStridedSlice S128x64 ![512, 64] q0 slices_S1024x256_o512_64_S128x64) (extractStridedSlice S128x64 ![512, 128] q0 slices_S1024x256_o512_128_S128x64) (extractStridedSlice S128x64 ![512, 192] q0 slices_S1024x256_o512_192_S128x64)) shapeCasts_S512x64_S1x512x64⟩,
    ⟨S1x512x64, shapeCast S1x512x64 (four (extractStridedSlice S128x64 ![512, 0] q1 slices_S1024x256_o512_0_S128x64) (extractStridedSlice S128x64 ![512, 64] q1 slices_S1024x256_o512_64_S128x64) (extractStridedSlice S128x64 ![512, 128] q1 slices_S1024x256_o512_128_S128x64) (extractStridedSlice S128x64 ![512, 192] q1 slices_S1024x256_o512_192_S128x64)) shapeCasts_S512x64_S1x512x64⟩,
    ⟨S1x512x64, shapeCast S1x512x64 (four (extractStridedSlice S128x64 ![640, 0] q0 slices_S1024x256_o640_0_S128x64) (extractStridedSlice S128x64 ![640, 64] q0 slices_S1024x256_o640_64_S128x64) (extractStridedSlice S128x64 ![640, 128] q0 slices_S1024x256_o640_128_S128x64) (extractStridedSlice S128x64 ![640, 192] q0 slices_S1024x256_o640_192_S128x64)) shapeCasts_S512x64_S1x512x64⟩,
    ⟨S1x512x64, shapeCast S1x512x64 (four (extractStridedSlice S128x64 ![640, 0] q1 slices_S1024x256_o640_0_S128x64) (extractStridedSlice S128x64 ![640, 64] q1 slices_S1024x256_o640_64_S128x64) (extractStridedSlice S128x64 ![640, 128] q1 slices_S1024x256_o640_128_S128x64) (extractStridedSlice S128x64 ![640, 192] q1 slices_S1024x256_o640_192_S128x64)) shapeCasts_S512x64_S1x512x64⟩,
    ⟨S1x512x64, shapeCast S1x512x64 (four (extractStridedSlice S128x64 ![768, 0] q0 slices_S1024x256_o768_0_S128x64) (extractStridedSlice S128x64 ![768, 64] q0 slices_S1024x256_o768_64_S128x64) (extractStridedSlice S128x64 ![768, 128] q0 slices_S1024x256_o768_128_S128x64) (extractStridedSlice S128x64 ![768, 192] q0 slices_S1024x256_o768_192_S128x64)) shapeCasts_S512x64_S1x512x64⟩,
    ⟨S1x512x64, shapeCast S1x512x64 (four (extractStridedSlice S128x64 ![768, 0] q1 slices_S1024x256_o768_0_S128x64) (extractStridedSlice S128x64 ![768, 64] q1 slices_S1024x256_o768_64_S128x64) (extractStridedSlice S128x64 ![768, 128] q1 slices_S1024x256_o768_128_S128x64) (extractStridedSlice S128x64 ![768, 192] q1 slices_S1024x256_o768_192_S128x64)) shapeCasts_S512x64_S1x512x64⟩,
    ⟨S1x512x64, shapeCast S1x512x64 (four (extractStridedSlice S128x64 ![896, 0] q0 slices_S1024x256_o896_0_S128x64) (extractStridedSlice S128x64 ![896, 64] q0 slices_S1024x256_o896_64_S128x64) (extractStridedSlice S128x64 ![896, 128] q0 slices_S1024x256_o896_128_S128x64) (extractStridedSlice S128x64 ![896, 192] q0 slices_S1024x256_o896_192_S128x64)) shapeCasts_S512x64_S1x512x64⟩,
    ⟨S1x512x64, shapeCast S1x512x64 (four (extractStridedSlice S128x64 ![896, 0] q1 slices_S1024x256_o896_0_S128x64) (extractStridedSlice S128x64 ![896, 64] q1 slices_S1024x256_o896_64_S128x64) (extractStridedSlice S128x64 ![896, 128] q1 slices_S1024x256_o896_128_S128x64) (extractStridedSlice S128x64 ![896, 192] q1 slices_S1024x256_o896_192_S128x64)) shapeCasts_S512x64_S1x512x64⟩]
    concatenates_S1x512x64_S1x512x64_S1x512x64_S1x512x64_S1x512x64_S1x512x64_S1x512x64_S1x512x64_S1x512x64_S1x512x64_S1x512x64_S1x512x64_S1x512x64_S1x512x64_S1x512x64_S1x512x64_S16x512x64_d0

theorem groups_at (q0 q1 : FVec Ideal S1024x256 .f32) (B : Fin 16) (R : Fin 512) (d : Fin 64) :
    groups q0 q1 (ix3 B R d) = (if B.val % 2 = 0 then q0 else q1) (ix2 ⟨B.val / 2 * 128 + R.val % 128, by omega⟩ ⟨R.val / 128 * 64 + d.val, by omega⟩) := by
  pointwise [groups]
  fin_cases B <;> simp [four_at]

/-! ### The scores -/

def scoreP (q : FVec Ideal S16x512x64 .f32) (z : Ideal .f32) (k : FVec Ideal S16x128x64 .f32) : FVec Ideal S16x512x128 .f32 :=
  addf (select (broadcastTo S16x512x128 (shapeCast S1x512x128 k0_pay49 shapeCasts_S512x128_S1x512x128) broadcasts_S1x512x128_S16x512x128)
    (matmul dot_S16x512x64_S16x128x64_S16x512x128_2_2_1_1_0_0 none (truncf .bf16 q bitsLt_bf16_f32) (truncf .bf16 k bitsLt_bf16_f32) (constant S16x512x128 .f32 0x00000000#32))
    (broadcast S16x512x128 (Scalar.ofBits .f32 0xFF800000#32 : Ideal .f32))) (broadcast S16x512x128 z)

def scoreC (q : FVec Ideal S16x512x64 .f32) (k : FVec Ideal S16x128x64 .f32) : FVec Ideal S16x512x128 .f32 :=
  select (broadcastTo S16x512x128 (shapeCast S1x512x128 (cmpi .sle (iota .tc S512x128 32 [1] iota_S512x128_d1_w32) k0_pay47) shapeCasts_S512x128_S1x512x128) broadcasts_S1x512x128_S16x512x128)
    (matmul dot_S16x512x64_S16x128x64_S16x512x128_2_2_1_1_0_0 none (truncf .bf16 q bitsLt_bf16_f32) (truncf .bf16 k bitsLt_bf16_f32) (constant S16x512x128 .f32 0x00000000#32))
    (broadcast S16x512x128 (Scalar.ofBits .f32 0xFF800000#32 : Ideal .f32))

/-- The remainder of a lane or row number, as the words compute it. -/
abbrev rem (w q : BitVec 32) : BitVec 32 :=
  Scalar.select
    (IntOp.andi
      (IntOp.xori
        (IntOp.cmpi CmpIPredicate.slt (IntOp.remsi ArithUnit.vector w (Scalar.select (Scalar.cmpi CmpIPredicate.eq q 0#32) 1#32 q)) 0#32)
        (Scalar.cmpi CmpIPredicate.slt (Scalar.select (Scalar.cmpi CmpIPredicate.eq q 0#32) 1#32 q) 0#32))
      (IntOp.cmpi CmpIPredicate.ne (IntOp.remsi ArithUnit.vector w (Scalar.select (Scalar.cmpi CmpIPredicate.eq q 0#32) 1#32 q)) 0#32))
    (IntOp.addi (IntOp.remsi ArithUnit.vector w (Scalar.select (Scalar.cmpi CmpIPredicate.eq q 0#32) 1#32 q)) (Scalar.select (Scalar.cmpi CmpIPredicate.eq q 0#32) 1#32 q))
    (IntOp.remsi ArithUnit.vector w (Scalar.select (Scalar.cmpi CmpIPredicate.eq q 0#32) 1#32 q))

theorem rem64 : ∀ k : Fin 256, rem (BitVec.ofNat 32 k.val) 64#32 = BitVec.ofNat 32 (k.val % 64) := by decide +kernel
theorem rem128 : ∀ k : Fin 512, rem (BitVec.ofNat 32 k.val) 128#32 = BitVec.ofNat 32 (k.val % 128) := by decide +kernel

theorem neg_inf : Ideal.ofBits FTy.f32 4286578688#32 = (⊥ : EReal) := by
  simp [Ideal.ofBits, Ideal.ieee]

theorem sgt_word (j : Fin 128) (R : Fin 512) :
    IntOp.cmpi CmpIPredicate.sgt (BitVec.ofNat 32 j.val) (BitVec.ofNat 32 (R.val % 128)) = if R.val % 128 < j.val then 1#1 else 0#1 := by
  word_omega

theorem sle_word (j : Fin 128) (R : Fin 512) :
    IntOp.cmpi CmpIPredicate.sle (BitVec.ofNat 32 j.val) (BitVec.ofNat 32 (R.val % 128)) = if j.val ≤ R.val % 128 then 1#1 else 0#1 := by
  word_omega

theorem select_ite {α : Type} (p : Prop) [Decidable p] (x y : α) : Scalar.select (if p then 1#1 else 0#1) x y = if p then x else y := by
  by_cases h : p
  · simp [h, Scalar.select]
  · simp [h, Scalar.select]

theorem scoreP_at (q z k) (B : Fin 16) (R : Fin 512) (j : Fin 128) :
    scoreP q z k (ix3 B R j)
      = (if R.val % 128 < j.val then ∑ x : Fin 64, (q (ix3 B R x) : EReal) * k (ix3 B j x) else ⊥) + z := by
  have h := rem128 R
  dsimp only [rem] at h
  pointwise [scoreP, k0_pay49, k0_pay47]
  rw [h, sgt_word, select_ite, neg_inf]

theorem scoreC_at (q k) (B : Fin 16) (R : Fin 512) (j : Fin 128) :
    scoreC q k (ix3 B R j) = if j.val ≤ R.val % 128 then ∑ x : Fin 64, (q (ix3 B R x) : EReal) * k (ix3 B j x) else ⊥ := by
  have h := rem128 R
  dsimp only [rem] at h
  pointwise [scoreC, k0_pay47]
  rw [h, sle_word, select_ite, neg_inf]

theorem top_at (sp sc : FVec Ideal S16x512x128 .f32) (sk : Vec Ideal S16x512x1 .f32) (B : Fin 16) (R : Fin 512) :
    k0_pay69 sp sc sk (ix3 B R 0)
      = max (max (Finset.univ.sup fun j : Fin 128 => (sp (ix3 B R j) : EReal)) (Finset.univ.sup fun j : Fin 128 => (sc (ix3 B R j) : EReal))) (sk (ix3 B R 0)) := by
  pointwise [k0_pay69, k0_pay68]
  rw [neg_inf]
  rfl

def outOf (sp sc : FVec Ideal S16x512x128 .f32) (sk : Vec Ideal S16x512x1 .f32) (vp vc : FVec Ideal S16x128x64 .f32) : FVec Ideal S16x512x64 .bf16 :=
  truncf .bf16 (divf (addf
    (matmul dot_S16x512x128_S16x128x64_S16x512x64_2_1_1_2_0_0 none (truncf .bf16 (k0_pay70 sp sc sk) bitsLt_bf16_f32) (truncf .bf16 vp bitsLt_bf16_f32) (constant S16x512x64 .f32 0x00000000#32))
    (matmul dot_S16x512x128_S16x128x64_S16x512x64_2_1_1_2_0_0 none (truncf .bf16 (k0_pay71 sp sc sk) bitsLt_bf16_f32) (truncf .bf16 vc bitsLt_bf16_f32) (constant S16x512x64 .f32 0x00000000#32)))
    (k0_pay72 sp sc sk)) bitsLt_bf16_f32

theorem out_at (sp sc : FVec Ideal S16x512x128 .f32) (sk : Vec Ideal S16x512x1 .f32) (vp vc : FVec Ideal S16x128x64 .f32) (B : Fin 16) (R : Fin 512) (d : Fin 64) :
    outOf sp sc sk vp vc (ix3 B R d)
      = soft (fun j => sp (ix3 B R j)) (fun j => sc (ix3 B R j)) (sk (ix3 B R 0)) (fun j => vp (ix3 B j d)) (fun j => vc (ix3 B j d)) := by
  pointwise [outOf, k0_pay70, k0_pay71, k0_pay72, k0_pay68]
  rw [top_at]
  rfl

end Cert.Proof.Attn

end
-- ==== Proof.AttnQK.lean ====
/- The queries and keys of one grid point, element by element: the norm of each head, taken through the block-diagonal
   matrix of ones, and the turn of its first sixteen lanes. -/
module

public import proofs.«01_k».proof.Proof.Gen.KernelIdeal.Value
public import proofs.«01_k».proof.Proof.AttnSpec
public import proofs.«01_k».proof.Proof.Sums
public import Idealize.ShloMosaic.Lib.Pointwise

@[expose] public section

set_option maxRecDepth 16384

noncomputable section

namespace Cert.Proof.Attn

open Idealize.ShloMosaic Idealize.ShloMosaic.TcCoe Idealize.SL.Sem
open Cert.KernelIdeal Cert.KernelIdeal.Gen Cert.Proof.Spec

/-- The normed query lanes of one column block. -/
def qN (x2 : Vec Ideal S8x128x256 .bf16) (x5 : Vec Ideal S1x256 .f32) (x8 : Vec Ideal S256x256 .bf16) : FVec Ideal S1024x256 .f32 :=
  k0_pay7 x8 x2 x5

/-- The turned and scaled query lanes of one column block. -/
def qA (x0 x1 : Vec Ideal S8x128x128 .f32) (x2 : Vec Ideal S8x128x256 .bf16) (x5 : Vec Ideal S1x256 .f32) (x8 : Vec Ideal S256x256 .bf16) :
    FVec Ideal S1024x256 .f32 :=
  k0_pay8 (k0_pay5 x0) (k0_pay6 x1) (qN x2 x5 x8) (iota .tc S1024x256 32 [1] iota_S1024x256_d1_w32) 64#32 0#1

theorem qB_eq (x0 x1 : Vec Ideal S8x128x128 .f32) (x3 : Vec Ideal S8x128x256 .bf16) (x5 : Vec Ideal S1x256 .f32) (x8 : Vec Ideal S256x256 .bf16) :
    k0_pay15 (k0_pay14 (k0_pay4 x8) (k0_pay5 x0) (k0_pay6 x1) (k0_pay9 x3) (k0_pay10 x5) (k0_pay12 x3) (k0_pay13 x3)
      (constant S1024x256 .f32 0x00000000#32)) (Scalar.ofBits .f32 1040187392#32) = qA x0 x1 x3 x5 x8 := by
  rfl

/-- The normed key lanes. -/
def kN (x4 : Vec Ideal S8x128x256 .bf16) (x6 : Vec Ideal S1x128 .f32) (x8 : Vec Ideal S256x256 .bf16) : FVec Ideal S1024x128 .f32 :=
  k0_pay17 (k0_pay4 x8) x4 x6

/-- The turned key lanes. -/
def kC (x0 x1 : Vec Ideal S8x128x128 .f32) (x4 : Vec Ideal S8x128x256 .bf16) (x6 : Vec Ideal S1x128 .f32) (x8 : Vec Ideal S256x256 .bf16) :
    FVec Ideal S1024x128 .f32 :=
  k0_pay20 (k0_pay5 x0) (k0_pay6 x1) (kN x4 x6 x8) k0_pay18 k0_pay19

/-- The value lanes. -/
def vC (x4 : Vec Ideal S8x128x256 .bf16) : FVec Ideal S1024x128 .f32 := k0_pay21 (k0_pay16 x4)

theorem vC_at (x4 : Vec Ideal S8x128x256 .bf16) (r : Fin 1024) (k : Fin 128) :
    vC x4 (ix2 r k) = x4 (ix3 ⟨r.val / 128, by omega⟩ ⟨r.val % 128, by omega⟩ ⟨128 + k.val, by omega⟩) := by
  pointwise [vC, k0_pay21, k0_pay16]

theorem cos_at (x0 : Vec Ideal S8x128x128 .f32) (r : Fin 1024) (k : Fin 128) :
    k0_pay5 x0 (ix2 r k) = x0 (ix3 ⟨r.val / 128, by omega⟩ ⟨r.val % 128, by omega⟩ k) := by
  pointwise [k0_pay5]

theorem sin_at (x0 : Vec Ideal S8x128x128 .f32) (r : Fin 1024) (k : Fin 128) :
    k0_pay6 x0 (ix2 r k) = x0 (ix3 ⟨r.val / 128, by omega⟩ ⟨r.val % 128, by omega⟩ k) := by
  pointwise [k0_pay6]

/-! ### The norm -/

/-- The block-diagonal matrix of ones, four blocks of sixty-four. -/
def Ones (x8 : Vec Ideal S256x256 .bf16) : Prop :=
  ∀ (x k : Fin 256), x8 (ix2 x k) = if x.val / 64 = k.val / 64 then (1 : EReal) else 0

theorem pick_head (a : ℕ) (y : Fin (a * 64) → EReal) (k : Fin (a * 64)) :
    ∑ x : Fin (a * 64), y x * (if x.val / 64 = k.val / 64 then (1 : EReal) else 0)
      = ∑ e : Fin 64, y ⟨k.val / 64 * 64 + e.val, by have := k.isLt; omega⟩ := by
  rw [Sums.sum_blocks a 64 rfl]
  have hk : k.val / 64 < a := by have := k.isLt; omega
  rw [Finset.sum_eq_single (⟨k.val / 64, hk⟩ : Fin a)]
  · refine Finset.sum_congr rfl fun e _ => ?_
    rw [if_pos (by show (64 * (k.val / 64) + e.val) / 64 = k.val / 64; omega), mul_one]
    exact congrArg y (Fin.ext (by show 64 * (k.val / 64) + e.val = k.val / 64 * 64 + e.val; omega))
  · intro g _ hg
    refine Finset.sum_eq_zero fun e _ => ?_
    rw [if_neg, mul_zero]
    intro h
    refine hg (Fin.ext ?_)
    have : (64 * g.val + e.val) / 64 = k.val / 64 := h
    show g.val = k.val / 64
    omega
  · intro h; exact absurd (Finset.mem_univ _) h

theorem mean_eq (s : EReal) :
    s * Ideal.ofBits FTy.f32 1015021568#32 = Ideal.div s (Ideal.ofBits FTy.f32 0x42800000#32) := by
  have h1 : Ideal.ofBits FTy.f32 1015021568#32 = (((1 : ℝ) / 64 : ℝ) : EReal) := by
    simp [Ideal.ofBits, Ideal.ieee, -EReal.coe_mul]; norm_num
  have h2 : Ideal.ofBits FTy.f32 0x42800000#32 = ((64 : ℝ) : EReal) := by
    simp [Ideal.ofBits, Ideal.ieee, -EReal.coe_mul]; norm_num
  rw [h1, h2, Ideal.div, if_neg (by exact_mod_cast (by norm_num : (64 : ℝ) ≠ 0)), ← EReal.coe_inv]
  norm_num

/-- Twice the real square, less itself, is nothing. -/
theorem rest_zero {x : EReal} (h1 : x ≠ ⊥) (h2 : x ≠ ⊤) : x * x - x * x = 0 := by
  lift x to ℝ using ⟨h2, h1⟩
  rw [← EReal.coe_mul, ← EReal.coe_sub, sub_self, EReal.coe_zero]

theorem qN_at (x2 : Vec Ideal S8x128x256 .bf16) (x5 : Vec Ideal S1x256 .f32) (x8 : Vec Ideal S256x256 .bf16) (h8 : Ones x8)
    (g : Fin 64 → EReal) (h5 : ∀ k : Fin 256, x5 (ix2 0 k) = g ⟨k.val % 64, by omega⟩)
    (r : Fin 1024) (hx : ∀ k : Fin 256, x2 (ix3 ⟨r.val / 128, by omega⟩ ⟨r.val % 128, by omega⟩ k) ≠ (⊥ : EReal) ∧ x2 (ix3 ⟨r.val / 128, by omega⟩ ⟨r.val % 128, by omega⟩ k) ≠ (⊤ : EReal)) (k : Fin 256) :
    qN x2 x5 x8 (ix2 r k)
      = rms (fun e => x2 (ix3 ⟨r.val / 128, by omega⟩ ⟨r.val % 128, by omega⟩ ⟨k.val / 64 * 64 + e.val, by omega⟩)) g ⟨k.val % 64, by omega⟩ := by
  pointwise [qN, k0_pay7, k0_pay4]
  rw [h5, show (∑ x : Fin 256, ((x2 (ix3 ⟨r.val / 128, by omega⟩ ⟨r.val % 128, by omega⟩ x) : EReal) * x2 (ix3 ⟨r.val / 128, by omega⟩ ⟨r.val % 128, by omega⟩ x)
      - x2 (ix3 ⟨r.val / 128, by omega⟩ ⟨r.val % 128, by omega⟩ x) * x2 (ix3 ⟨r.val / 128, by omega⟩ ⟨r.val % 128, by omega⟩ x)) * x8 (ix2 x k)) = 0 from
      Finset.sum_eq_zero fun x _ => by rw [rest_zero (hx x).1 (hx x).2, zero_mul],
    add_zero, Finset.sum_congr rfl (fun x _ => by rw [h8 x k]),
    pick_head 4 (fun x => (x2 (ix3 ⟨r.val / 128, by omega⟩ ⟨r.val % 128, by omega⟩ x) : EReal) * x2 (ix3 ⟨r.val / 128, by omega⟩ ⟨r.val % 128, by omega⟩ x)) k, mean_eq]
  unfold rms
  have e : k = ⟨k.val / 64 * 64 + k.val % 64, by omega⟩ := Fin.ext (by show k.val = k.val / 64 * 64 + k.val % 64; omega)
  conv_lhs => rw [show x2 (ix3 ⟨r.val / 128, by omega⟩ ⟨r.val % 128, by omega⟩ k) = x2 (ix3 ⟨r.val / 128, by omega⟩ ⟨r.val % 128, by omega⟩ ⟨k.val / 64 * 64 + k.val % 64, by omega⟩) from
    congrArg (fun k => x2 (ix3 _ _ k)) e]

theorem kN_at (x4 : Vec Ideal S8x128x256 .bf16) (x6 : Vec Ideal S1x128 .f32) (x8 : Vec Ideal S256x256 .bf16) (h8 : Ones x8)
    (g : Fin 64 → EReal) (h6 : ∀ k : Fin 128, x6 (ix2 0 k) = g ⟨k.val % 64, by omega⟩)
    (r : Fin 1024) (hx : ∀ k : Fin 128, x4 (ix3 ⟨r.val / 128, by omega⟩ ⟨r.val % 128, by omega⟩ ⟨k.val, by omega⟩) ≠ (⊥ : EReal) ∧ x4 (ix3 ⟨r.val / 128, by omega⟩ ⟨r.val % 128, by omega⟩ ⟨k.val, by omega⟩) ≠ (⊤ : EReal)) (k : Fin 128) :
    kN x4 x6 x8 (ix2 r k)
      = rms (fun e => x4 (ix3 ⟨r.val / 128, by omega⟩ ⟨r.val % 128, by omega⟩ ⟨k.val / 64 * 64 + e.val, by omega⟩)) g ⟨k.val % 64, by omega⟩ := by
  pointwise [kN, k0_pay17, k0_pay16, k0_pay4]
  rw [h6, show (∑ x : Fin 128, ((x4 (ix3 ⟨r.val / 128, by omega⟩ ⟨r.val % 128, by omega⟩ ⟨x.val, by omega⟩) : EReal) * x4 (ix3 ⟨r.val / 128, by omega⟩ ⟨r.val % 128, by omega⟩ ⟨x.val, by omega⟩)
      - x4 (ix3 ⟨r.val / 128, by omega⟩ ⟨r.val % 128, by omega⟩ ⟨x.val, by omega⟩) * x4 (ix3 ⟨r.val / 128, by omega⟩ ⟨r.val % 128, by omega⟩ ⟨x.val, by omega⟩)) * x8 (ix2 ⟨x.val, by omega⟩ ⟨k.val, by omega⟩)) = 0 from
      Finset.sum_eq_zero fun x _ => by rw [rest_zero (hx x).1 (hx x).2, zero_mul],
    add_zero, Finset.sum_congr rfl (fun (x : Fin 128) _ => by rw [h8 ⟨x.val, by omega⟩ ⟨k.val, by omega⟩]),
    pick_head 2 (fun x => (x4 (ix3 ⟨r.val / 128, by omega⟩ ⟨r.val % 128, by omega⟩ ⟨x.val, by omega⟩) : EReal) * x4 (ix3 ⟨r.val / 128, by omega⟩ ⟨r.val % 128, by omega⟩ ⟨x.val, by omega⟩)) k, mean_eq]
  unfold rms
  have e : (⟨k.val, by omega⟩ : Fin 256) = ⟨k.val / 64 * 64 + k.val % 64, by omega⟩ := Fin.ext (by show k.val = k.val / 64 * 64 + k.val % 64; omega)
  conv_lhs => rw [e]

/-! ### The turn -/

/-- The remainder of a lane number, as the words compute it. -/
abbrev lrem (w q : BitVec 32) : BitVec 32 :=
  Scalar.select
    (IntOp.andi
      (IntOp.xori
        (IntOp.cmpi CmpIPredicate.slt (IntOp.remsi ArithUnit.vector w (Scalar.select (Scalar.cmpi CmpIPredicate.eq q 0#32) 1#32 q)) 0#32)
        (Scalar.cmpi CmpIPredicate.slt (Scalar.select (Scalar.cmpi CmpIPredicate.eq q 0#32) 1#32 q) 0#32))
      (IntOp.cmpi CmpIPredicate.ne (IntOp.remsi ArithUnit.vector w (Scalar.select (Scalar.cmpi CmpIPredicate.eq q 0#32) 1#32 q)) 0#32))
    (IntOp.addi (IntOp.remsi ArithUnit.vector w (Scalar.select (Scalar.cmpi CmpIPredicate.eq q 0#32) 1#32 q)) (Scalar.select (Scalar.cmpi CmpIPredicate.eq q 0#32) 1#32 q))
    (IntOp.remsi ArithUnit.vector w (Scalar.select (Scalar.cmpi CmpIPredicate.eq q 0#32) 1#32 q))

theorem lane8 : ∀ k : Fin 256, IntOp.cmpi CmpIPredicate.slt (lrem (BitVec.ofNat 32 k.val) 64#32) 8#32 = if k.val % 64 < 8 then 1#1 else 0#1 := by
  decide +kernel
theorem lane16 : ∀ k : Fin 256, IntOp.cmpi CmpIPredicate.slt (lrem (BitVec.ofNat 32 k.val) 64#32) 16#32 = if k.val % 64 < 16 then 1#1 else 0#1 := by
  decide +kernel

theorem sel_ite {α : Type} (p : Prop) [Decidable p] (x y : α) : Scalar.select (if p then 1#1 else 0#1) x y = if p then x else y := by
  by_cases h : p
  · simp [h, Scalar.select]
  · simp [h, Scalar.select]

/-- One row of a table of cosines or sines, repeated over the heads: past the turned lanes it holds `z`. -/
def Table (x : Vec Ideal S8x128x128 .f32) (f : EReal → EReal) (z : EReal) (s : Fin 8) (i : Fin 128) (a : Fin 8 → EReal) : Prop :=
  ∀ k : Fin 128, x (ix3 s i k) = if h : k.val % 64 < 16 then f (a ⟨k.val % 64 % 8, by omega⟩) else z

/-- The turn, lane by lane over the heads side by side. -/
theorem turn_lane (y : Fin 64 → EReal) (a : Fin 8 → EReal) (d : Fin 64) (c s lo hi : EReal)
    (hc : c = if h : d.val < 16 then Ideal.cos (a ⟨d.val % 8, by omega⟩) else 1)
    (hs : s = if h : d.val < 16 then Ideal.sin (a ⟨d.val % 8, by omega⟩) else 0)
    (hhi : ∀ h : d.val < 8, hi = y ⟨8 + d.val, by omega⟩)
    (hlo : ∀ h : 8 ≤ d.val, lo = y ⟨d.val - 8, by omega⟩) :
    y d * c + (if d.val < 8 then 0 - hi else if d.val < 16 then lo else 0) * s = turn y a d := by
  unfold turn
  by_cases h8 : d.val < 8
  · have e : (⟨d.val % 8, by omega⟩ : Fin 8) = ⟨d.val, h8⟩ := Fin.ext (by show d.val % 8 = d.val; omega)
    rw [dif_pos h8, if_pos h8, hc, hs, dif_pos (by omega), dif_pos (by omega), e, hhi h8, zero_sub, EReal.neg_mul, sub_eq_add_neg]
  · by_cases h16 : d.val < 16
    · have e : (⟨d.val % 8, by omega⟩ : Fin 8) = ⟨d.val - 8, by omega⟩ := Fin.ext (by show d.val % 8 = d.val - 8; omega)
      rw [dif_neg h8, if_neg h8, if_pos h16, dif_pos (by omega), hc, hs, dif_pos h16, dif_pos h16, e, hlo (by omega)]
    · rw [dif_neg h8, if_neg h8, if_neg h16, dif_neg (by omega), hc, hs, dif_neg h16, dif_neg h16, mul_one, mul_zero, add_zero]

theorem qA_at (x0 x1 : Vec Ideal S8x128x128 .f32) (x2 : Vec Ideal S8x128x256 .bf16) (x5 : Vec Ideal S1x256 .f32) (x8 : Vec Ideal S256x256 .bf16)
    (r : Fin 1024) (a : Fin 8 → EReal)
    (h0 : Table x0 Ideal.cos 1 ⟨r.val / 128, by omega⟩ ⟨r.val % 128, by omega⟩ a) (h1 : Table x1 Ideal.sin 0 ⟨r.val / 128, by omega⟩ ⟨r.val % 128, by omega⟩ a)
    (k : Fin 256) (y : Fin 64 → EReal)
    (hy : ∀ e : Fin 64, qN x2 x5 x8 (ix2 r ⟨k.val / 64 * 64 + e.val, by omega⟩) = y e) :
    qA x0 x1 x2 x5 x8 (ix2 r k) = turn y a ⟨k.val % 64, by omega⟩ * eighth := by
  have l8 := lane8 k
  have l16 := lane16 k
  dsimp only [lrem] at l8 l16
  rw [show Scalar.select (Scalar.cmpi CmpIPredicate.eq 64#32 0#32) 1#32 64#32 = 64#32 from rfl] at l8 l16
  pointwise [qA, k0_pay8]
  rw [l8, l16, sel_ite, sel_ite]
  refine congrArg (· * eighth) ?_
  refine Eq.trans ?_ (turn_lane y a ⟨k.val % 64, by omega⟩ _ _ (qN x2 x5 x8 (ix2 r ⟨(k.val + 256 - 8) % 256, by omega⟩))
    (qN x2 x5 x8 (ix2 r ⟨(k.val + 256 - 248) % 256, by omega⟩)) rfl rfl ?_ ?_)
  · refine congrArg₂ (· + ·) (congrArg₂ (· * ·) ?_ ?_) (congrArg₂ (· * ·) rfl ?_)
    · rw [← hy]
      exact congrArg (fun k => qN x2 x5 x8 (ix2 r k)) (Fin.ext (by show k.val = k.val / 64 * 64 + k.val % 64; omega))
    · by_cases h : k.val < 128
      · rw [dif_pos h, cos_at, h0]
      · rw [dif_neg h, cos_at, h0]
        have e : (k.val - 128) % 64 = k.val % 64 := by omega
        simp only [e]
    · by_cases h : k.val < 128
      · rw [dif_pos h, sin_at, h1]
      · rw [dif_neg h, sin_at, h1]
        have e : (k.val - 128) % 64 = k.val % 64 := by omega
        simp only [e]
  · intro h
    rw [← hy]
    exact congrArg (fun k => qN x2 x5 x8 (ix2 r k)) (Fin.ext (by show (k.val + 256 - 248) % 256 = k.val / 64 * 64 + (8 + k.val % 64); change k.val % 64 < 8 at h; omega))
  · intro h
    rw [← hy]
    exact congrArg (fun k => qN x2 x5 x8 (ix2 r k)) (Fin.ext (by show (k.val + 256 - 8) % 256 = k.val / 64 * 64 + (k.val % 64 - 8); change 8 ≤ k.val % 64 at h; omega))

theorem kC_at (x0 x1 : Vec Ideal S8x128x128 .f32) (x4 : Vec Ideal S8x128x256 .bf16) (x6 : Vec Ideal S1x128 .f32) (x8 : Vec Ideal S256x256 .bf16)
    (r : Fin 1024) (a : Fin 8 → EReal)
    (h0 : Table x0 Ideal.cos 1 ⟨r.val / 128, by omega⟩ ⟨r.val % 128, by omega⟩ a) (h1 : Table x1 Ideal.sin 0 ⟨r.val / 128, by omega⟩ ⟨r.val % 128, by omega⟩ a)
    (k : Fin 128) (y : Fin 64 → EReal)
    (hy : ∀ e : Fin 64, kN x4 x6 x8 (ix2 r ⟨k.val / 64 * 64 + e.val, by omega⟩) = y e) :
    kC x0 x1 x4 x6 x8 (ix2 r k) = turn y a ⟨k.val % 64, by omega⟩ := by
  have l8 := lane8 ⟨k.val, by omega⟩
  have l16 := lane16 ⟨k.val, by omega⟩
  dsimp only [lrem] at l8 l16
  pointwise [kC, k0_pay20, k0_pay18, k0_pay19]
  rw [l8, l16, sel_ite, sel_ite]
  refine Eq.trans ?_ (turn_lane y a ⟨k.val % 64, by omega⟩ _ _ (kN x4 x6 x8 (ix2 r ⟨(k.val + 128 - 8) % 128, by omega⟩))
    (kN x4 x6 x8 (ix2 r ⟨(k.val + 128 - 120) % 128, by omega⟩)) rfl rfl ?_ ?_)
  · refine congrArg₂ (· + ·) (congrArg₂ (· * ·) ?_ ?_) (congrArg₂ (· * ·) rfl ?_)
    · rw [← hy]
      exact congrArg (fun k => kN x4 x6 x8 (ix2 r k)) (Fin.ext (by show k.val = k.val / 64 * 64 + k.val % 64; omega))
    · rw [cos_at, h0]
    · rw [sin_at, h1]
  · intro h
    rw [← hy]
    exact congrArg (fun k => kN x4 x6 x8 (ix2 r k)) (Fin.ext (by show (k.val + 128 - 120) % 128 = k.val / 64 * 64 + (8 + k.val % 64); change k.val % 64 < 8 at h; omega))
  · intro h
    rw [← hy]
    exact congrArg (fun k => kN x4 x6 x8 (ix2 r k)) (Fin.ext (by show (k.val + 128 - 8) % 128 = k.val / 64 * 64 + (k.val % 64 - 8); change 8 ≤ k.val % 64 at h; omega))

end Cert.Proof.Attn

end
-- ==== Proof.AttnRun.lean ====
/- The attention's grid point as the run names its values: each is the same function of the point's inputs and of the
   carried keys and values. -/
module

public import proofs.«01_k».proof.Proof.Gen.KernelIdeal.Value
public import proofs.«01_k».proof.Proof.AttnBlock
public import proofs.«01_k».proof.Proof.AttnQK
public import proofs.«01_k».proof.Proof.Reads
public import Idealize.ShloMosaic.Lib.Pipeline.ValueKit.Tiles

@[expose] public section

set_option maxRecDepth 16384

noncomputable section

namespace Cert.Proof.Attn

open Idealize.ShloMosaic Idealize.ShloMosaic.TcCoe Idealize.SL.Sem
open Cert.KernelIdeal Cert.KernelIdeal.Gen Cert.Proof.Sums Cert.Proof.Reads

theorem hz3 : (![0, 0, 0] : Fin 3 → Nat) = fun _ => 0 := funext fun a => by fin_cases a <;> rfl

/-- A load of a whole block is the block. -/
theorem read_block {σ : RefSig} {S : Shape} {e : EltTy} (a : Memref σ .tc .vmem S e) (ha : a.IsWhole)
    (z : S.Idx → Elt Ideal e) (off : Fin S.rank → Nat) (h0 : off = fun _ => 0) (inb) :
    View.readAt (Elt Ideal) a.view (Rect.unit (s := S) off S.size inb).toLoadRect (ha.unread z) = z := by
  subst h0
  funext x
  rw [ha.readAt_unread]
  refine congrArg z (funext fun d => Fin.ext ?_)
  show 0 + 1 * (x d).val = _
  simp

/-- The first half of the row of key gains. -/
def half6 (x6 : Vec Ideal S1x256 .f32) : Vec Ideal S1x128 .f32 := fun j => x6 (ix2 ⟨(j 0).val, (j 0).isLt⟩ ⟨(j 1).val, Nat.lt_trans (j 1).isLt (by decide)⟩)

theorem read_half {σ : RefSig} (a : Memref σ .tc .vmem S1x256 .f32) (ha : a.IsWhole) (z : Vec Ideal S1x256 .f32) (inb) :
    View.readAt (Elt Ideal) a.view (Rect.unit (s := S1x256) ![0, 0] S1x128.size inb).toLoadRect (ha.unread z) = half6 z := by
  funext x
  rw [ha.readAt_unread]
  refine congrArg z (funext fun d => Fin.ext ?_)
  match d with
  | ⟨0, _⟩ => show 0 + 1 * (x 0).val = (x 0).val; omega
  | ⟨1, _⟩ => show 0 + 1 * (x 1).val = (x 1).val; omega

/-- The point's result, heads in their groups, from the point's inputs and the carried keys and values. -/
def pointOut (z : Ideal .f32) (x0 x1 : Vec Ideal S8x128x128 .f32) (x2 x3 x4 : Vec Ideal S8x128x256 .bf16) (x5 x6 : Vec Ideal S1x256 .f32) (x7 : Vec Ideal S16x512x1 .f32)
    (x8 : Vec Ideal S256x256 .bf16) (kp vp : FVec Ideal S1024x128 .f32) : FVec Ideal S16x512x64 .bf16 :=
  outOf (scoreP (groups (qA x0 x1 x2 x5 x8) (qA x0 x1 x3 x5 x8)) z (heads kp))
    (scoreC (groups (qA x0 x1 x2 x5 x8) (qA x0 x1 x3 x5 x8)) (heads (kC x0 x1 x4 (half6 x6) x8))) x7 (heads vp) (heads (vC x4))

theorem A_q0 (c : Dev nD) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg7 : Memref sig .tc .vmem S1x256 .f32) (harg7 : arg7.IsWhole) (arg10 : Memref sig .tc .vmem S256x256 .bf16) (harg10 : arg10.IsWhole) (x0 : Vec Ideal S8x128x128 .f32) (x1 : Vec Ideal S8x128x128 .f32) (x2 : Vec Ideal S8x128x256 .bf16) (x5 : Vec Ideal S1x256 .f32) (x8 : Vec Ideal S256x256 .bf16) :
    kernelRun0_A.sl.r_4 (F := Ideal) c arg2 harg2 arg3 harg3 arg4 harg4 arg7 harg7 arg10 harg10 x0 x1 x2 x5 x8 = qA x0 x1 x2 x5 x8 := by
  unfold kernelRun0_A.sl.r_4 kernelRun0_A.sl.r_1 kernelRun0_A.sl.r_2 kernelRun0_A.sl.r_3 kernelRun0_A.sl.v33
  rw [read_block arg2 harg2 x0 _ hz3, read_block arg3 harg3 x1 _ hz3, read_block arg4 harg4 x2 _ hz3, read_block arg7 harg7 x5 _ hz, read_block arg10 harg10 x8 _ hz]
  rfl

theorem A_q1 (c : Dev nD) (arg2 : Memref sig .tc .vmem S8x128x128 .f32) (harg2 : arg2.IsWhole) (arg3 : Memref sig .tc .vmem S8x128x128 .f32) (harg3 : arg3.IsWhole) (arg5 : Memref sig .tc .vmem S8x128x256 .bf16) (harg5 : arg5.IsWhole) (arg7 : Memref sig .tc .vmem S1x256 .f32) (harg7 : arg7.IsWhole) (arg10 : Memref sig .tc .vmem S256x256 .bf16) (harg10 : arg10.IsWhole) (x0 : Vec Ideal S8x128x128 .f32) (x1 : Vec Ideal S8x128x128 .f32) (x3 : Vec Ideal S8x128x256 .bf16) (x5 : Vec Ideal S1x256 .f32) (x8 : Vec Ideal S256x256 .bf16) :
    kernelRun0_A.sl.r_10 (F := Ideal) c arg2 harg2 arg3 harg3 arg5 harg5 arg7 harg7 arg10 harg10 x0 x1 x3 x5 x8 = qA x0 x1 x3 x5 x8 := by
  unfold kernelRun0_A.sl.r_10 kernelRun0_A.sl.r_9 kernelRun0_A.sl.r kernelRun0_A.sl.r_1 kernelRun0_A.sl.r_2 kernelRun0_A.sl.r_5 kernelRun0_A.sl.r_6 kernelRun0_A.sl.r_7 kernelRun0_A.sl.r_8 kernelRun0_A.sl.cst_30 kernelRun0_A.sl.cst_46
  rw [read_block arg2 harg2 x0 _ hz3, read_block arg3 harg3 x1 _ hz3, read_block arg5 harg5 x3 _ hz3, read_block arg7 harg7 x5 _ hz, read_block arg10 harg10 x8 _ hz]
  exact qB_eq x0 x1 x3 x5 x8

theorem A_k (c : Dev nD) (arg2 : Memref sig .tc .vmem S8x128x128 .f32) (harg2 : arg2.IsWhole) (arg3 : Memref sig .tc .vmem S8x128x128 .f32) (harg3 : arg3.IsWhole) (arg6 : Memref sig .tc .vmem S8x128x256 .bf16) (harg6 : arg6.IsWhole) (arg8 : Memref sig .tc .vmem S1x256 .f32) (harg8 : arg8.IsWhole) (arg10 : Memref sig .tc .vmem S256x256 .bf16) (harg10 : arg10.IsWhole) (x0 : Vec Ideal S8x128x128 .f32) (x1 : Vec Ideal S8x128x128 .f32) (x4 : Vec Ideal S8x128x256 .bf16) (x6 : Vec Ideal S1x256 .f32) (x8 : Vec Ideal S256x256 .bf16) :
    kernelRun0_A.sl.r_13 (F := Ideal) c arg2 harg2 arg3 harg3 arg6 harg6 arg8 harg8 arg10 harg10 x0 x1 x4 x6 x8 = kC x0 x1 x4 (half6 x6) x8 := by
  unfold kernelRun0_A.sl.r_13 kernelRun0_A.sl.r_12 kernelRun0_A.sl.r kernelRun0_A.sl.r_1 kernelRun0_A.sl.r_2
  rw [read_block arg2 harg2 x0 _ hz3, read_block arg3 harg3 x1 _ hz3, read_block arg6 harg6 x4 _ hz3, read_block arg10 harg10 x8 _ hz, read_half]
  rfl

theorem A_v (c : Dev nD) (arg6 : Memref sig .tc .vmem S8x128x256 .bf16) (harg6 : arg6.IsWhole) (x4 : Vec Ideal S8x128x256 .bf16) :
    kernelRun0_A.sl.r_14 (F := Ideal) c arg6 harg6 x4 = vC x4 := by
  unfold kernelRun0_A.sl.r_14 kernelRun0_A.sl.r_11
  rw [read_block _ _ _ _ hz3]
  rfl

theorem A_sk (c : Dev nD) (arg9 : Memref sig .tc .vmem S16x512x1 .f32) (harg9 : arg9.IsWhole) (x7 : Vec Ideal S16x512x1 .f32) :
    kernelRun0_A.sl.r_43 (F := Ideal) c arg9 harg9 x7 = x7 := by
  unfold kernelRun0_A.sl.r_43
  rw [read_block _ _ _ _ hz3]

theorem A_qg (c : Dev nD) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg7 : Memref sig .tc .vmem S1x256 .f32) (harg7 : arg7.IsWhole) (arg10 : Memref sig .tc .vmem S256x256 .bf16) (harg10 : arg10.IsWhole) (x0 : Vec Ideal S8x128x128 .f32) (x1 : Vec Ideal S8x128x128 .f32) (x2 : Vec Ideal S8x128x256 .bf16) (x3 : Vec Ideal S8x128x256 .bf16) (x5 : Vec Ideal S1x256 .f32) (x8 : Vec Ideal S256x256 .bf16) :
    kernelRun0_A.sl.r_23 (F := Ideal) c arg2 harg2 arg3 harg3 arg4 harg4 arg5 harg5 arg7 harg7 arg10 harg10 x0 x1 x2 x3 x5 x8 = groups (qA x0 x1 x2 x5 x8) (qA x0 x1 x3 x5 x8) := by
  rw [← A_q0 c arg2 harg2 arg3 harg3 arg4 harg4 arg7 harg7 arg10 harg10 x0 x1 x2 x5 x8, ← A_q1 c arg2 harg2 arg3 harg3 arg5 harg5 arg7 harg7 arg10 harg10 x0 x1 x3 x5 x8]
  unfold kernelRun0_A.sl.r_23
  rfl

theorem A_kp (c : Dev nD) (arg16 : Memref sig .tc .vmem S1024x128 .f32) : kernelRun0_A.sl.v179 (F := Ideal) c arg16 = (k0_pay2 : FVec Ideal S1024x128 .f32) := by
  unfold kernelRun0_A.sl.v179 kernelRun0_A.sl.HS0_1
  exact View.readCov_unit_zero _ hz _ _

theorem A_vp (c : Dev nD) (arg17 : Memref sig .tc .vmem S1024x128 .f32) : kernelRun0_A.sl.v180 (F := Ideal) c arg17 = (k0_pay3 : FVec Ideal S1024x128 .f32) := by
  unfold kernelRun0_A.sl.v180 kernelRun0_A.sl.HS1_1
  exact View.readCov_unit_zero _ hz _ _

theorem A_sp (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg7 : Memref sig .tc .vmem S1x256 .f32) (harg7 : arg7.IsWhole) (arg10 : Memref sig .tc .vmem S256x256 .bf16) (harg10 : arg10.IsWhole) (arg16 : Memref sig .tc .vmem S1024x128 .f32) (x0 : Vec Ideal S8x128x128 .f32) (x1 : Vec Ideal S8x128x128 .f32) (x2 : Vec Ideal S8x128x256 .bf16) (x3 : Vec Ideal S8x128x256 .bf16) (x5 : Vec Ideal S1x256 .f32) (x8 : Vec Ideal S256x256 .bf16) :
    kernelRun0_A.sl.r_41 (F := Ideal) c i arg2 harg2 arg3 harg3 arg4 harg4 arg5 harg5 arg7 harg7 arg10 harg10 arg16 x0 x1 x2 x3 x5 x8 = scoreP (groups (qA x0 x1 x2 x5 x8) (qA x0 x1 x3 x5 x8)) (k0_pay48 (Scalar.cmpi CmpIPredicate.eq (BitVec.ofNat 32 (i 1).val) 0#32)) (heads k0_pay2) := by
  conv_rhs => rw [← A_kp c arg16, ← A_qg c arg2 harg2 arg3 harg3 arg4 harg4 arg5 harg5 arg7 harg7 arg10 harg10 x0 x1 x2 x3 x5 x8]
  unfold kernelRun0_A.sl.r_41
  rfl

theorem A_sc (c : Dev nD) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg10 : Memref sig .tc .vmem S256x256 .bf16) (harg10 : arg10.IsWhole) (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x8 : Vec Ideal S256x256 .bf16) :
    kernelRun0_A.sl.r_42 (F := Ideal) c arg2 harg2 arg3 harg3 arg4 harg4 arg5 harg5 arg6 harg6 arg7 harg7 arg8 harg8 arg10 harg10 x0 x1 x2 x3 x4 x5 x6 x8 = scoreC (groups (qA x0 x1 x2 x5 x8) (qA x0 x1 x3 x5 x8)) (heads (kC x0 x1 x4 (half6 x6) x8)) := by
  conv_rhs => rw [← A_qg c arg2 harg2 arg3 harg3 arg4 harg4 arg5 harg5 arg7 harg7 arg10 harg10 x0 x1 x2 x3 x5 x8, ← A_k c arg2 harg2 arg3 harg3 arg6 harg6 arg8 harg8 arg10 harg10 x0 x1 x4 x6 x8]
  unfold kernelRun0_A.sl.r_42
  rfl

theorem A_o (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg16 : Memref sig .tc .vmem S1024x128 .f32) (arg17 : Memref sig .tc .vmem S1024x128 .f32) (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) :
    kernelRun0_A.sl.r_63 (F := Ideal) c i arg2 harg2 arg3 harg3 arg4 harg4 arg5 harg5 arg6 harg6 arg7 harg7 arg8 harg8 arg9 harg9 arg10 harg10 arg16 arg17 x0 x1 x2 x3 x4 x5 x6 x7 x8 = pointOut (k0_pay48 (Scalar.cmpi CmpIPredicate.eq (BitVec.ofNat 32 (i 1).val) 0#32)) x0 x1 x2 x3 x4 x5 x6 x7 x8 k0_pay2 k0_pay3 := by
  unfold pointOut
  conv_rhs => rw [← A_vp c arg17, ← A_sp c i arg2 harg2 arg3 harg3 arg4 harg4 arg5 harg5 arg7 harg7 arg10 harg10 arg16 x0 x1 x2 x3 x5 x8, ← A_sc c arg2 harg2 arg3 harg3 arg4 harg4 arg5 harg5 arg6 harg6 arg7 harg7 arg8 harg8 arg10 harg10 x0 x1 x2 x3 x4 x5 x6 x8, ← A_v c arg6 harg6 x4, ← A_sk c arg9 harg9 x7]
  unfold kernelRun0_A.sl.r_63
  rfl

theorem B_q0 (c : Dev nD) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg7 : Memref sig .tc .vmem S1x256 .f32) (harg7 : arg7.IsWhole) (arg10 : Memref sig .tc .vmem S256x256 .bf16) (harg10 : arg10.IsWhole) (x0 : Vec Ideal S8x128x128 .f32) (x1 : Vec Ideal S8x128x128 .f32) (x2 : Vec Ideal S8x128x256 .bf16) (x5 : Vec Ideal S1x256 .f32) (x8 : Vec Ideal S256x256 .bf16) :
    kernelRun0_B.sl.r_4 (F := Ideal) c arg2 harg2 arg3 harg3 arg4 harg4 arg7 harg7 arg10 harg10 x0 x1 x2 x5 x8 = qA x0 x1 x2 x5 x8 := by
  unfold kernelRun0_B.sl.r_4 kernelRun0_B.sl.r_1 kernelRun0_B.sl.r_2 kernelRun0_B.sl.r_3 kernelRun0_B.sl.v33
  rw [read_block arg2 harg2 x0 _ hz3, read_block arg3 harg3 x1 _ hz3, read_block arg4 harg4 x2 _ hz3, read_block arg7 harg7 x5 _ hz, read_block arg10 harg10 x8 _ hz]
  rfl

theorem B_q1 (c : Dev nD) (arg2 : Memref sig .tc .vmem S8x128x128 .f32) (harg2 : arg2.IsWhole) (arg3 : Memref sig .tc .vmem S8x128x128 .f32) (harg3 : arg3.IsWhole) (arg5 : Memref sig .tc .vmem S8x128x256 .bf16) (harg5 : arg5.IsWhole) (arg7 : Memref sig .tc .vmem S1x256 .f32) (harg7 : arg7.IsWhole) (arg10 : Memref sig .tc .vmem S256x256 .bf16) (harg10 : arg10.IsWhole) (x0 : Vec Ideal S8x128x128 .f32) (x1 : Vec Ideal S8x128x128 .f32) (x3 : Vec Ideal S8x128x256 .bf16) (x5 : Vec Ideal S1x256 .f32) (x8 : Vec Ideal S256x256 .bf16) :
    kernelRun0_B.sl.r_10 (F := Ideal) c arg2 harg2 arg3 harg3 arg5 harg5 arg7 harg7 arg10 harg10 x0 x1 x3 x5 x8 = qA x0 x1 x3 x5 x8 := by
  unfold kernelRun0_B.sl.r_10 kernelRun0_B.sl.r_9 kernelRun0_B.sl.r kernelRun0_B.sl.r_1 kernelRun0_B.sl.r_2 kernelRun0_B.sl.r_5 kernelRun0_B.sl.r_6 kernelRun0_B.sl.r_7 kernelRun0_B.sl.r_8 kernelRun0_B.sl.cst_30 kernelRun0_B.sl.cst_46
  rw [read_block arg2 harg2 x0 _ hz3, read_block arg3 harg3 x1 _ hz3, read_block arg5 harg5 x3 _ hz3, read_block arg7 harg7 x5 _ hz, read_block arg10 harg10 x8 _ hz]
  exact qB_eq x0 x1 x3 x5 x8

theorem B_k (c : Dev nD) (arg2 : Memref sig .tc .vmem S8x128x128 .f32) (harg2 : arg2.IsWhole) (arg3 : Memref sig .tc .vmem S8x128x128 .f32) (harg3 : arg3.IsWhole) (arg6 : Memref sig .tc .vmem S8x128x256 .bf16) (harg6 : arg6.IsWhole) (arg8 : Memref sig .tc .vmem S1x256 .f32) (harg8 : arg8.IsWhole) (arg10 : Memref sig .tc .vmem S256x256 .bf16) (harg10 : arg10.IsWhole) (x0 : Vec Ideal S8x128x128 .f32) (x1 : Vec Ideal S8x128x128 .f32) (x4 : Vec Ideal S8x128x256 .bf16) (x6 : Vec Ideal S1x256 .f32) (x8 : Vec Ideal S256x256 .bf16) :
    kernelRun0_B.sl.r_13 (F := Ideal) c arg2 harg2 arg3 harg3 arg6 harg6 arg8 harg8 arg10 harg10 x0 x1 x4 x6 x8 = kC x0 x1 x4 (half6 x6) x8 := by
  unfold kernelRun0_B.sl.r_13 kernelRun0_B.sl.r_12 kernelRun0_B.sl.r kernelRun0_B.sl.r_1 kernelRun0_B.sl.r_2
  rw [read_block arg2 harg2 x0 _ hz3, read_block arg3 harg3 x1 _ hz3, read_block arg6 harg6 x4 _ hz3, read_block arg10 harg10 x8 _ hz, read_half]
  rfl

theorem B_v (c : Dev nD) (arg6 : Memref sig .tc .vmem S8x128x256 .bf16) (harg6 : arg6.IsWhole) (x4 : Vec Ideal S8x128x256 .bf16) :
    kernelRun0_B.sl.r_14 (F := Ideal) c arg6 harg6 x4 = vC x4 := by
  unfold kernelRun0_B.sl.r_14 kernelRun0_B.sl.r_11
  rw [read_block _ _ _ _ hz3]
  rfl

theorem B_sk (c : Dev nD) (arg9 : Memref sig .tc .vmem S16x512x1 .f32) (harg9 : arg9.IsWhole) (x7 : Vec Ideal S16x512x1 .f32) :
    kernelRun0_B.sl.r_45 (F := Ideal) c arg9 harg9 x7 = x7 := by
  unfold kernelRun0_B.sl.r_45
  rw [read_block _ _ _ _ hz3]

theorem B_qg (c : Dev nD) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg7 : Memref sig .tc .vmem S1x256 .f32) (harg7 : arg7.IsWhole) (arg10 : Memref sig .tc .vmem S256x256 .bf16) (harg10 : arg10.IsWhole) (x0 : Vec Ideal S8x128x128 .f32) (x1 : Vec Ideal S8x128x128 .f32) (x2 : Vec Ideal S8x128x256 .bf16) (x3 : Vec Ideal S8x128x256 .bf16) (x5 : Vec Ideal S1x256 .f32) (x8 : Vec Ideal S256x256 .bf16) :
    kernelRun0_B.sl.r_25 (F := Ideal) c arg2 harg2 arg3 harg3 arg4 harg4 arg5 harg5 arg7 harg7 arg10 harg10 x0 x1 x2 x3 x5 x8 = groups (qA x0 x1 x2 x5 x8) (qA x0 x1 x3 x5 x8) := by
  rw [← B_q0 c arg2 harg2 arg3 harg3 arg4 harg4 arg7 harg7 arg10 harg10 x0 x1 x2 x5 x8, ← B_q1 c arg2 harg2 arg3 harg3 arg5 harg5 arg7 harg7 arg10 harg10 x0 x1 x3 x5 x8]
  unfold kernelRun0_B.sl.r_25
  rfl

theorem B_kp (c : Dev nD) (arg16 : Memref sig .tc .vmem S1024x128 .f32) (harg16 : arg16.IsWhole) (xs0 : Vec Ideal S1024x128 .f32) :
    kernelRun0_B.sl.r_15 (F := Ideal) c arg16 harg16 xs0 = xs0 := by
  unfold kernelRun0_B.sl.r_15
  rw [read_block _ _ _ _ hz]

theorem B_vp (c : Dev nD) (arg17 : Memref sig .tc .vmem S1024x128 .f32) (harg17 : arg17.IsWhole) (xs1 : Vec Ideal S1024x128 .f32) :
    kernelRun0_B.sl.r_16 (F := Ideal) c arg17 harg17 xs1 = xs1 := by
  unfold kernelRun0_B.sl.r_16
  rw [read_block _ _ _ _ hz]

theorem B_sp (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg7 : Memref sig .tc .vmem S1x256 .f32) (harg7 : arg7.IsWhole) (arg10 : Memref sig .tc .vmem S256x256 .bf16) (harg10 : arg10.IsWhole) (arg16 : Memref sig .tc .vmem S1024x128 .f32) (harg16 : arg16.IsWhole) (x0 : Vec Ideal S8x128x128 .f32) (x1 : Vec Ideal S8x128x128 .f32) (x2 : Vec Ideal S8x128x256 .bf16) (x3 : Vec Ideal S8x128x256 .bf16) (x5 : Vec Ideal S1x256 .f32) (x8 : Vec Ideal S256x256 .bf16) (xs0 : Vec Ideal S1024x128 .f32) :
    kernelRun0_B.sl.r_43 (F := Ideal) c i arg2 harg2 arg3 harg3 arg4 harg4 arg5 harg5 arg7 harg7 arg10 harg10 arg16 harg16 x0 x1 x2 x3 x5 x8 xs0 = scoreP (groups (qA x0 x1 x2 x5 x8) (qA x0 x1 x3 x5 x8)) (k0_pay48 (Scalar.cmpi CmpIPredicate.eq (BitVec.ofNat 32 (i 1).val) 0#32)) (heads xs0) := by
  conv_rhs => rw [← B_kp c arg16 harg16 xs0, ← B_qg c arg2 harg2 arg3 harg3 arg4 harg4 arg5 harg5 arg7 harg7 arg10 harg10 x0 x1 x2 x3 x5 x8]
  unfold kernelRun0_B.sl.r_43
  rfl

theorem B_sc (c : Dev nD) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg10 : Memref sig .tc .vmem S256x256 .bf16) (harg10 : arg10.IsWhole) (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x8 : Vec Ideal S256x256 .bf16) :
    kernelRun0_B.sl.r_44 (F := Ideal) c arg2 harg2 arg3 harg3 arg4 harg4 arg5 harg5 arg6 harg6 arg7 harg7 arg8 harg8 arg10 harg10 x0 x1 x2 x3 x4 x5 x6 x8 = scoreC (groups (qA x0 x1 x2 x5 x8) (qA x0 x1 x3 x5 x8)) (heads (kC x0 x1 x4 (half6 x6) x8)) := by
  conv_rhs => rw [← B_qg c arg2 harg2 arg3 harg3 arg4 harg4 arg5 harg5 arg7 harg7 arg10 harg10 x0 x1 x2 x3 x5 x8, ← B_k c arg2 harg2 arg3 harg3 arg6 harg6 arg8 harg8 arg10 harg10 x0 x1 x4 x6 x8]
  unfold kernelRun0_B.sl.r_44
  rfl

theorem B_o (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg16 : Memref sig .tc .vmem S1024x128 .f32) (harg16 : arg16.IsWhole) (arg17 : Memref sig .tc .vmem S1024x128 .f32) (harg17 : arg17.IsWhole) (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (xs0 : Vec Ideal S1024x128 .f32) (xs1 : Vec Ideal S1024x128 .f32) :
    kernelRun0_B.sl.r_65 (F := Ideal) c i arg2 harg2 arg3 harg3 arg4 harg4 arg5 harg5 arg6 harg6 arg7 harg7 arg8 harg8 arg9 harg9 arg10 harg10 arg16 harg16 arg17 harg17 x0 x1 x2 x3 x4 x5 x6 x7 x8 xs0 xs1 = pointOut (k0_pay48 (Scalar.cmpi CmpIPredicate.eq (BitVec.ofNat 32 (i 1).val) 0#32)) x0 x1 x2 x3 x4 x5 x6 x7 x8 xs0 xs1 := by
  unfold pointOut
  conv_rhs => rw [← B_vp c arg17 harg17 xs1, ← B_sp c i arg2 harg2 arg3 harg3 arg4 harg4 arg5 harg5 arg7 harg7 arg10 harg10 arg16 harg16 x0 x1 x2 x3 x5 x8 xs0, ← B_sc c arg2 harg2 arg3 harg3 arg4 harg4 arg5 harg5 arg6 harg6 arg7 harg7 arg8 harg8 arg10 harg10 x0 x1 x2 x3 x4 x5 x6 x8, ← B_v c arg6 harg6 x4, ← B_sk c arg9 harg9 x7]
  unfold kernelRun0_B.sl.r_65
  rfl

end Cert.Proof.Attn

end
-- ==== Proof.AttnStore.lean ====
/- What a grid point of the attention leaves: the result block, tile by tile, the two riding casts, and the keys and
   values carried to the next block. -/
module

public import proofs.«01_k».proof.Proof.AttnRun

@[expose] public section

set_option maxRecDepth 16384
set_option maxHeartbeats 1600000

noncomputable section

namespace Cert.Proof.Attn

open Idealize.ShloMosaic Idealize.ShloMosaic.TcCoe Idealize.SL.Sem
open Cert.KernelIdeal Cert.KernelIdeal.Gen Cert.Proof.Sums Cert.Proof.Reads

theorem tile_read {B ro : Nat} (O : FVec Ideal S16x512x64 .bf16) (h1 : S16x512x64.Slices (![B, ro, 0] : Fin 3 → Nat) S1x128x64) (h2 : S1x128x64.ShapeCasts S128x64)
    (h3 : S128x64.ShapeCasts S1x128x64) (hB : B < 16) (hro : ro + 128 ≤ 512) (a : Fin 1) (r : Fin 128) (d : Fin 64) :
    shapeCast S1x128x64 (shapeCast S128x64 (extractStridedSlice S1x128x64 ![B, ro, 0] O h1) h2) h3 (ix3 a r d) = O (ix3 ⟨B, hB⟩ ⟨ro + r.val, by omega⟩ d) := by
  pointwise

/-- Where an entry of the result block stands among the heads in their groups. -/
abbrev place (s : Fin 8) (r : Fin 128) (k : Fin 512) : S16x512x64.Idx :=
  ix3 ⟨2 * s.val + k.val / 256, by omega⟩ ⟨k.val / 64 % 4 * 128 + r.val, by omega⟩ ⟨k.val % 64, by omega⟩

/-- One head's tile of the result block. -/
theorem tile {sb col B ro : Nat} (O : FVec Ideal S16x512x64 .bf16) (h1 : S16x512x64.Slices (![B, ro, 0] : Fin 3 → Nat) S1x128x64) (h2 : S1x128x64.ShapeCasts S128x64)
    (h3 : S128x64.ShapeCasts S1x128x64) (hB : B < 16) (hro : ro + 128 ≤ 512) (eB : B = 2 * sb + col / 256) (ero : ro = col / 64 % 4 * 128) (ecol : col % 64 = 0)
    (s : Fin 8) (r : Fin 128) (k : Fin 512) :
    View.TileAt (Val := Elt Ideal) (S := S8x128x512) (e := .bf16) (ix3 s r k) ![sb, 0, col] ![1, 128, 64]
      (shapeCast S1x128x64 (shapeCast S128x64 (extractStridedSlice S1x128x64 ![B, ro, 0] O h1) h2) h3) (O (place s r k)) := by
  intro x hx
  obtain ⟨a, r', d, rfl⟩ : ∃ (a : Fin 1) (r' : Fin 128) (d : Fin 64), x = ix3 a r' d := ⟨x 0, x 1, x 2, eq_ix3 x⟩
  have e0 : s.val = sb + a.val := hx 0
  have e1 : r.val = 0 + r'.val := hx 1
  have e2 : k.val = col + d.val := hx 2
  refine (tile_read O h1 h2 h3 hB hro a r' d).trans ?_
  unfold place
  refine congrArg O (congr (congrArg₂ ix3 (Fin.ext ?_) (Fin.ext ?_)) (Fin.ext ?_))
  · show B = 2 * s.val + k.val / 256
    omega
  · show ro + r'.val = k.val / 64 % 4 * 128 + r.val
    omega
  · show d.val = k.val % 64
    omega

theorem rider_at (x : Vec Ideal S1x176x2048 .f32) (r : Fin 176) (k : Fin 2048) : k0_pay163 x (ix2 r k) = x (ix3 0 r k) := by
  pointwise [k0_pay163]

theorem rider2_at (x : Vec Ideal S1x176x2048 .f32) (r : Fin 176) (k : Fin 2048) : k0_pay1 x (ix2 r k) = x (ix3 0 r k) := by
  pointwise [k0_pay1]

theorem carryK (x : FVec Ideal S1024x128 .f32) : k0_pay161 x = x := by
  funext y
  obtain ⟨r, k, rfl⟩ : ∃ (r : Fin 1024) (k : Fin 128), y = ix2 r k := ⟨y 0, y 1, eq_ix2 y⟩
  pointwise [k0_pay161]

theorem carryV (x : FVec Ideal S1024x128 .f32) : k0_pay162 x = x := by
  funext y
  obtain ⟨r, k, rfl⟩ : ∃ (r : Fin 1024) (k : Fin 128), y = ix2 r k := ⟨y 0, y 1, eq_ix2 y⟩
  pointwise [k0_pay162]

theorem outA_11 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (s : Fin 8) (r : Fin 128) (k : Fin 512) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix3 s r k)
      = pointOut (k0_pay48 (Scalar.cmpi CmpIPredicate.eq (BitVec.ofNat 32 (i 1).val) 0#32)) x0 x1 x2 x3 x4 x5 x6 x7 x8 k0_pay2 k0_pay3 (place s r k) := by
  refine Eq.trans ?_ (congrFun (A_o c i arg2 harg2 arg3 harg3 arg4 harg4 arg5 harg5 arg6 harg6 arg7 harg7 arg8 harg8 arg9 harg9 arg10 harg10 arg16 arg17 x0 x1 x2 x3 x4 x5 x6 x7 x8) (place s r k))
  have hcov := cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix3 s r k)
  unfold out0_A_11
  rw [View.read_writes_junk_eq_canon]
  revert hcov
  unfold kernelRun0_A
  dsimp only
  intro hcov
  refine View.canon_eq_of_allAt _ _ _ hcov ?_
  let O := (kernelRun0_A.sl.r_63 (F := Ideal) c i arg2 harg2 arg3 harg3 arg4 harg4 arg5 harg5 arg6 harg6 arg7 harg7 arg8 harg8 arg9 harg9 arg10 harg10 arg16 arg17 x0 x1 x2 x3 x4 x5 x6 x7 x8)
  refine View.allAt_cons_unit _ _ _ _ _ (tile (sb := 7) (col := 448) O slices_S16x512x64_o15_384_0_S1x128x64 shapeCasts_S1x128x64_S128x64 shapeCasts_S128x64_S1x128x64 (by decide) (by decide) (by decide) (by decide) (by decide) s r k) ?_
  refine View.allAt_cons_unit _ _ _ _ _ (tile (sb := 7) (col := 384) O slices_S16x512x64_o15_256_0_S1x128x64 shapeCasts_S1x128x64_S128x64 shapeCasts_S128x64_S1x128x64 (by decide) (by decide) (by decide) (by decide) (by decide) s r k) ?_
  refine View.allAt_cons_unit _ _ _ _ _ (tile (sb := 7) (col := 320) O slices_S16x512x64_o15_128_0_S1x128x64 shapeCasts_S1x128x64_S128x64 shapeCasts_S128x64_S1x128x64 (by decide) (by decide) (by decide) (by decide) (by decide) s r k) ?_
  refine View.allAt_cons_unit _ _ _ _ _ (tile (sb := 7) (col := 256) O slices_S16x512x64_o15_0_0_S1x128x64 shapeCasts_S1x128x64_S128x64 shapeCasts_S128x64_S1x128x64 (by decide) (by decide) (by decide) (by decide) (by decide) s r k) ?_
  refine View.allAt_cons_unit _ _ _ _ _ (tile (sb := 7) (col := 192) O slices_S16x512x64_o14_384_0_S1x128x64 shapeCasts_S1x128x64_S128x64 shapeCasts_S128x64_S1x128x64 (by decide) (by decide) (by decide) (by decide) (by decide) s r k) ?_
  refine View.allAt_cons_unit _ _ _ _ _ (tile (sb := 7) (col := 128) O slices_S16x512x64_o14_256_0_S1x128x64 shapeCasts_S1x128x64_S128x64 shapeCasts_S128x64_S1x128x64 (by decide) (by decide) (by decide) (by decide) (by decide) s r k) ?_
  refine View.allAt_cons_unit _ _ _ _ _ (tile (sb := 7) (col := 64) O slices_S16x512x64_o14_128_0_S1x128x64 shapeCasts_S1x128x64_S128x64 shapeCasts_S128x64_S1x128x64 (by decide) (by decide) (by decide) (by decide) (by decide) s r k) ?_
  refine View.allAt_cons_unit _ _ _ _ _ (tile (sb := 7) (col := 0) O slices_S16x512x64_o14_0_0_S1x128x64 shapeCasts_S1x128x64_S128x64 shapeCasts_S128x64_S1x128x64 (by decide) (by decide) (by decide) (by decide) (by decide) s r k) ?_
  refine View.allAt_cons_unit _ _ _ _ _ (tile (sb := 6) (col := 448) O slices_S16x512x64_o13_384_0_S1x128x64 shapeCasts_S1x128x64_S128x64 shapeCasts_S128x64_S1x128x64 (by decide) (by decide) (by decide) (by decide) (by decide) s r k) ?_
  refine View.allAt_cons_unit _ _ _ _ _ (tile (sb := 6) (col := 384) O slices_S16x512x64_o13_256_0_S1x128x64 shapeCasts_S1x128x64_S128x64 shapeCasts_S128x64_S1x128x64 (by decide) (by decide) (by decide) (by decide) (by decide) s r k) ?_
  refine View.allAt_cons_unit _ _ _ _ _ (tile (sb := 6) (col := 320) O slices_S16x512x64_o13_128_0_S1x128x64 shapeCasts_S1x128x64_S128x64 shapeCasts_S128x64_S1x128x64 (by decide) (by decide) (by decide) (by decide) (by decide) s r k) ?_
  refine View.allAt_cons_unit _ _ _ _ _ (tile (sb := 6) (col := 256) O slices_S16x512x64_o13_0_0_S1x128x64 shapeCasts_S1x128x64_S128x64 shapeCasts_S128x64_S1x128x64 (by decide) (by decide) (by decide) (by decide) (by decide) s r k) ?_
  refine View.allAt_cons_unit _ _ _ _ _ (tile (sb := 6) (col := 192) O slices_S16x512x64_o12_384_0_S1x128x64 shapeCasts_S1x128x64_S128x64 shapeCasts_S128x64_S1x128x64 (by decide) (by decide) (by decide) (by decide) (by decide) s r k) ?_
  refine View.allAt_cons_unit _ _ _ _ _ (tile (sb := 6) (col := 128) O slices_S16x512x64_o12_256_0_S1x128x64 shapeCasts_S1x128x64_S128x64 shapeCasts_S128x64_S1x128x64 (by decide) (by decide) (by decide) (by decide) (by decide) s r k) ?_
  refine View.allAt_cons_unit _ _ _ _ _ (tile (sb := 6) (col := 64) O slices_S16x512x64_o12_128_0_S1x128x64 shapeCasts_S1x128x64_S128x64 shapeCasts_S128x64_S1x128x64 (by decide) (by decide) (by decide) (by decide) (by decide) s r k) ?_
  refine View.allAt_cons_unit _ _ _ _ _ (tile (sb := 6) (col := 0) O slices_S16x512x64_o12_0_0_S1x128x64 shapeCasts_S1x128x64_S128x64 shapeCasts_S128x64_S1x128x64 (by decide) (by decide) (by decide) (by decide) (by decide) s r k) ?_
  refine View.allAt_cons_unit _ _ _ _ _ (tile (sb := 5) (col := 448) O slices_S16x512x64_o11_384_0_S1x128x64 shapeCasts_S1x128x64_S128x64 shapeCasts_S128x64_S1x128x64 (by decide) (by decide) (by decide) (by decide) (by decide) s r k) ?_
  refine View.allAt_cons_unit _ _ _ _ _ (tile (sb := 5) (col := 384) O slices_S16x512x64_o11_256_0_S1x128x64 shapeCasts_S1x128x64_S128x64 shapeCasts_S128x64_S1x128x64 (by decide) (by decide) (by decide) (by decide) (by decide) s r k) ?_
  refine View.allAt_cons_unit _ _ _ _ _ (tile (sb := 5) (col := 320) O slices_S16x512x64_o11_128_0_S1x128x64 shapeCasts_S1x128x64_S128x64 shapeCasts_S128x64_S1x128x64 (by decide) (by decide) (by decide) (by decide) (by decide) s r k) ?_
  refine View.allAt_cons_unit _ _ _ _ _ (tile (sb := 5) (col := 256) O slices_S16x512x64_o11_0_0_S1x128x64 shapeCasts_S1x128x64_S128x64 shapeCasts_S128x64_S1x128x64 (by decide) (by decide) (by decide) (by decide) (by decide) s r k) ?_
  refine View.allAt_cons_unit _ _ _ _ _ (tile (sb := 5) (col := 192) O slices_S16x512x64_o10_384_0_S1x128x64 shapeCasts_S1x128x64_S128x64 shapeCasts_S128x64_S1x128x64 (by decide) (by decide) (by decide) (by decide) (by decide) s r k) ?_
  refine View.allAt_cons_unit _ _ _ _ _ (tile (sb := 5) (col := 128) O slices_S16x512x64_o10_256_0_S1x128x64 shapeCasts_S1x128x64_S128x64 shapeCasts_S128x64_S1x128x64 (by decide) (by decide) (by decide) (by decide) (by decide) s r k) ?_
  refine View.allAt_cons_unit _ _ _ _ _ (tile (sb := 5) (col := 64) O slices_S16x512x64_o10_128_0_S1x128x64 shapeCasts_S1x128x64_S128x64 shapeCasts_S128x64_S1x128x64 (by decide) (by decide) (by decide) (by decide) (by decide) s r k) ?_
  refine View.allAt_cons_unit _ _ _ _ _ (tile (sb := 5) (col := 0) O slices_S16x512x64_o10_0_0_S1x128x64 shapeCasts_S1x128x64_S128x64 shapeCasts_S128x64_S1x128x64 (by decide) (by decide) (by decide) (by decide) (by decide) s r k) ?_
  refine View.allAt_cons_unit _ _ _ _ _ (tile (sb := 4) (col := 448) O slices_S16x512x64_o9_384_0_S1x128x64 shapeCasts_S1x128x64_S128x64 shapeCasts_S128x64_S1x128x64 (by decide) (by decide) (by decide) (by decide) (by decide) s r k) ?_
  refine View.allAt_cons_unit _ _ _ _ _ (tile (sb := 4) (col := 384) O slices_S16x512x64_o9_256_0_S1x128x64 shapeCasts_S1x128x64_S128x64 shapeCasts_S128x64_S1x128x64 (by decide) (by decide) (by decide) (by decide) (by decide) s r k) ?_
  refine View.allAt_cons_unit _ _ _ _ _ (tile (sb := 4) (col := 320) O slices_S16x512x64_o9_128_0_S1x128x64 shapeCasts_S1x128x64_S128x64 shapeCasts_S128x64_S1x128x64 (by decide) (by decide) (by decide) (by decide) (by decide) s r k) ?_
  refine View.allAt_cons_unit _ _ _ _ _ (tile (sb := 4) (col := 256) O slices_S16x512x64_o9_0_0_S1x128x64 shapeCasts_S1x128x64_S128x64 shapeCasts_S128x64_S1x128x64 (by decide) (by decide) (by decide) (by decide) (by decide) s r k) ?_
  refine View.allAt_cons_unit _ _ _ _ _ (tile (sb := 4) (col := 192) O slices_S16x512x64_o8_384_0_S1x128x64 shapeCasts_S1x128x64_S128x64 shapeCasts_S128x64_S1x128x64 (by decide) (by decide) (by decide) (by decide) (by decide) s r k) ?_
  refine View.allAt_cons_unit _ _ _ _ _ (tile (sb := 4) (col := 128) O slices_S16x512x64_o8_256_0_S1x128x64 shapeCasts_S1x128x64_S128x64 shapeCasts_S128x64_S1x128x64 (by decide) (by decide) (by decide) (by decide) (by decide) s r k) ?_
  refine View.allAt_cons_unit _ _ _ _ _ (tile (sb := 4) (col := 64) O slices_S16x512x64_o8_128_0_S1x128x64 shapeCasts_S1x128x64_S128x64 shapeCasts_S128x64_S1x128x64 (by decide) (by decide) (by decide) (by decide) (by decide) s r k) ?_
  refine View.allAt_cons_unit _ _ _ _ _ (tile (sb := 4) (col := 0) O slices_S16x512x64_o8_0_0_S1x128x64 shapeCasts_S1x128x64_S128x64 shapeCasts_S128x64_S1x128x64 (by decide) (by decide) (by decide) (by decide) (by decide) s r k) ?_
  refine View.allAt_cons_unit _ _ _ _ _ (tile (sb := 3) (col := 448) O slices_S16x512x64_o7_384_0_S1x128x64 shapeCasts_S1x128x64_S128x64 shapeCasts_S128x64_S1x128x64 (by decide) (by decide) (by decide) (by decide) (by decide) s r k) ?_
  refine View.allAt_cons_unit _ _ _ _ _ (tile (sb := 3) (col := 384) O slices_S16x512x64_o7_256_0_S1x128x64 shapeCasts_S1x128x64_S128x64 shapeCasts_S128x64_S1x128x64 (by decide) (by decide) (by decide) (by decide) (by decide) s r k) ?_
  refine View.allAt_cons_unit _ _ _ _ _ (tile (sb := 3) (col := 320) O slices_S16x512x64_o7_128_0_S1x128x64 shapeCasts_S1x128x64_S128x64 shapeCasts_S128x64_S1x128x64 (by decide) (by decide) (by decide) (by decide) (by decide) s r k) ?_
  refine View.allAt_cons_unit _ _ _ _ _ (tile (sb := 3) (col := 256) O slices_S16x512x64_o7_0_0_S1x128x64 shapeCasts_S1x128x64_S128x64 shapeCasts_S128x64_S1x128x64 (by decide) (by decide) (by decide) (by decide) (by decide) s r k) ?_
  refine View.allAt_cons_unit _ _ _ _ _ (tile (sb := 3) (col := 192) O slices_S16x512x64_o6_384_0_S1x128x64 shapeCasts_S1x128x64_S128x64 shapeCasts_S128x64_S1x128x64 (by decide) (by decide) (by decide) (by decide) (by decide) s r k) ?_
  refine View.allAt_cons_unit _ _ _ _ _ (tile (sb := 3) (col := 128) O slices_S16x512x64_o6_256_0_S1x128x64 shapeCasts_S1x128x64_S128x64 shapeCasts_S128x64_S1x128x64 (by decide) (by decide) (by decide) (by decide) (by decide) s r k) ?_
  refine View.allAt_cons_unit _ _ _ _ _ (tile (sb := 3) (col := 64) O slices_S16x512x64_o6_128_0_S1x128x64 shapeCasts_S1x128x64_S128x64 shapeCasts_S128x64_S1x128x64 (by decide) (by decide) (by decide) (by decide) (by decide) s r k) ?_
  refine View.allAt_cons_unit _ _ _ _ _ (tile (sb := 3) (col := 0) O slices_S16x512x64_o6_0_0_S1x128x64 shapeCasts_S1x128x64_S128x64 shapeCasts_S128x64_S1x128x64 (by decide) (by decide) (by decide) (by decide) (by decide) s r k) ?_
  refine View.allAt_cons_unit _ _ _ _ _ (tile (sb := 2) (col := 448) O slices_S16x512x64_o5_384_0_S1x128x64 shapeCasts_S1x128x64_S128x64 shapeCasts_S128x64_S1x128x64 (by decide) (by decide) (by decide) (by decide) (by decide) s r k) ?_
  refine View.allAt_cons_unit _ _ _ _ _ (tile (sb := 2) (col := 384) O slices_S16x512x64_o5_256_0_S1x128x64 shapeCasts_S1x128x64_S128x64 shapeCasts_S128x64_S1x128x64 (by decide) (by decide) (by decide) (by decide) (by decide) s r k) ?_
  refine View.allAt_cons_unit _ _ _ _ _ (tile (sb := 2) (col := 320) O slices_S16x512x64_o5_128_0_S1x128x64 shapeCasts_S1x128x64_S128x64 shapeCasts_S128x64_S1x128x64 (by decide) (by decide) (by decide) (by decide) (by decide) s r k) ?_
  refine View.allAt_cons_unit _ _ _ _ _ (tile (sb := 2) (col := 256) O slices_S16x512x64_o5_0_0_S1x128x64 shapeCasts_S1x128x64_S128x64 shapeCasts_S128x64_S1x128x64 (by decide) (by decide) (by decide) (by decide) (by decide) s r k) ?_
  refine View.allAt_cons_unit _ _ _ _ _ (tile (sb := 2) (col := 192) O slices_S16x512x64_o4_384_0_S1x128x64 shapeCasts_S1x128x64_S128x64 shapeCasts_S128x64_S1x128x64 (by decide) (by decide) (by decide) (by decide) (by decide) s r k) ?_
  refine View.allAt_cons_unit _ _ _ _ _ (tile (sb := 2) (col := 128) O slices_S16x512x64_o4_256_0_S1x128x64 shapeCasts_S1x128x64_S128x64 shapeCasts_S128x64_S1x128x64 (by decide) (by decide) (by decide) (by decide) (by decide) s r k) ?_
  refine View.allAt_cons_unit _ _ _ _ _ (tile (sb := 2) (col := 64) O slices_S16x512x64_o4_128_0_S1x128x64 shapeCasts_S1x128x64_S128x64 shapeCasts_S128x64_S1x128x64 (by decide) (by decide) (by decide) (by decide) (by decide) s r k) ?_
  refine View.allAt_cons_unit _ _ _ _ _ (tile (sb := 2) (col := 0) O slices_S16x512x64_o4_0_0_S1x128x64 shapeCasts_S1x128x64_S128x64 shapeCasts_S128x64_S1x128x64 (by decide) (by decide) (by decide) (by decide) (by decide) s r k) ?_
  refine View.allAt_cons_unit _ _ _ _ _ (tile (sb := 1) (col := 448) O slices_S16x512x64_o3_384_0_S1x128x64 shapeCasts_S1x128x64_S128x64 shapeCasts_S128x64_S1x128x64 (by decide) (by decide) (by decide) (by decide) (by decide) s r k) ?_
  refine View.allAt_cons_unit _ _ _ _ _ (tile (sb := 1) (col := 384) O slices_S16x512x64_o3_256_0_S1x128x64 shapeCasts_S1x128x64_S128x64 shapeCasts_S128x64_S1x128x64 (by decide) (by decide) (by decide) (by decide) (by decide) s r k) ?_
  refine View.allAt_cons_unit _ _ _ _ _ (tile (sb := 1) (col := 320) O slices_S16x512x64_o3_128_0_S1x128x64 shapeCasts_S1x128x64_S128x64 shapeCasts_S128x64_S1x128x64 (by decide) (by decide) (by decide) (by decide) (by decide) s r k) ?_
  refine View.allAt_cons_unit _ _ _ _ _ (tile (sb := 1) (col := 256) O slices_S16x512x64_o3_0_0_S1x128x64 shapeCasts_S1x128x64_S128x64 shapeCasts_S128x64_S1x128x64 (by decide) (by decide) (by decide) (by decide) (by decide) s r k) ?_
  refine View.allAt_cons_unit _ _ _ _ _ (tile (sb := 1) (col := 192) O slices_S16x512x64_o2_384_0_S1x128x64 shapeCasts_S1x128x64_S128x64 shapeCasts_S128x64_S1x128x64 (by decide) (by decide) (by decide) (by decide) (by decide) s r k) ?_
  refine View.allAt_cons_unit _ _ _ _ _ (tile (sb := 1) (col := 128) O slices_S16x512x64_o2_256_0_S1x128x64 shapeCasts_S1x128x64_S128x64 shapeCasts_S128x64_S1x128x64 (by decide) (by decide) (by decide) (by decide) (by decide) s r k) ?_
  refine View.allAt_cons_unit _ _ _ _ _ (tile (sb := 1) (col := 64) O slices_S16x512x64_o2_128_0_S1x128x64 shapeCasts_S1x128x64_S128x64 shapeCasts_S128x64_S1x128x64 (by decide) (by decide) (by decide) (by decide) (by decide) s r k) ?_
  refine View.allAt_cons_unit _ _ _ _ _ (tile (sb := 1) (col := 0) O slices_S16x512x64_o2_0_0_S1x128x64 shapeCasts_S1x128x64_S128x64 shapeCasts_S128x64_S1x128x64 (by decide) (by decide) (by decide) (by decide) (by decide) s r k) ?_
  refine View.allAt_cons_unit _ _ _ _ _ (tile (sb := 0) (col := 448) O slices_S16x512x64_o1_384_0_S1x128x64 shapeCasts_S1x128x64_S128x64 shapeCasts_S128x64_S1x128x64 (by decide) (by decide) (by decide) (by decide) (by decide) s r k) ?_
  refine View.allAt_cons_unit _ _ _ _ _ (tile (sb := 0) (col := 384) O slices_S16x512x64_o1_256_0_S1x128x64 shapeCasts_S1x128x64_S128x64 shapeCasts_S128x64_S1x128x64 (by decide) (by decide) (by decide) (by decide) (by decide) s r k) ?_
  refine View.allAt_cons_unit _ _ _ _ _ (tile (sb := 0) (col := 320) O slices_S16x512x64_o1_128_0_S1x128x64 shapeCasts_S1x128x64_S128x64 shapeCasts_S128x64_S1x128x64 (by decide) (by decide) (by decide) (by decide) (by decide) s r k) ?_
  refine View.allAt_cons_unit _ _ _ _ _ (tile (sb := 0) (col := 256) O slices_S16x512x64_o1_0_0_S1x128x64 shapeCasts_S1x128x64_S128x64 shapeCasts_S128x64_S1x128x64 (by decide) (by decide) (by decide) (by decide) (by decide) s r k) ?_
  refine View.allAt_cons_unit _ _ _ _ _ (tile (sb := 0) (col := 192) O slices_S16x512x64_o0_384_0_S1x128x64 shapeCasts_S1x128x64_S128x64 shapeCasts_S128x64_S1x128x64 (by decide) (by decide) (by decide) (by decide) (by decide) s r k) ?_
  refine View.allAt_cons_unit _ _ _ _ _ (tile (sb := 0) (col := 128) O slices_S16x512x64_o0_256_0_S1x128x64 shapeCasts_S1x128x64_S128x64 shapeCasts_S128x64_S1x128x64 (by decide) (by decide) (by decide) (by decide) (by decide) s r k) ?_
  refine View.allAt_cons_unit _ _ _ _ _ (tile (sb := 0) (col := 64) O slices_S16x512x64_o0_128_0_S1x128x64 shapeCasts_S1x128x64_S128x64 shapeCasts_S128x64_S1x128x64 (by decide) (by decide) (by decide) (by decide) (by decide) s r k) ?_
  refine View.allAt_cons_unit _ _ _ _ _ (tile (sb := 0) (col := 0) O slices_S16x512x64_o0_0_0_S1x128x64 shapeCasts_S1x128x64_S128x64 shapeCasts_S128x64_S1x128x64 (by decide) (by decide) (by decide) (by decide) (by decide) s r k) ?_
  exact View.allAt_nil _ _

theorem outA_12 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (r : Fin 176) (k : Fin 2048) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix2 r k) = x9 (ix3 0 r k) := by
  unfold out0_A_12
  rw [View.read_writes_junk_eq_canon]
  unfold kernelRun0_A
  dsimp only
  rw [View.canon_unit_zero hz]
  unfold kernelRun0_A.sl.r_65
  rw [read_block arg11 harg11 x9 _ hz3, rider_at]

theorem outA_13 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (r : Fin 176) (k : Fin 2048) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix2 r k) = x10 (ix3 0 r k) := by
  unfold out0_A_13
  rw [View.read_writes_junk_eq_canon]
  unfold kernelRun0_A
  dsimp only
  rw [View.canon_unit_zero hz]
  rw [read_block arg12 harg12 x10 _ hz3, rider2_at]

theorem soutA_0 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = kC x0 x1 x4 (half6 x6) x8 := by
  unfold sout0_A_0
  rw [View.read_writes_junk_eq_canon]
  unfold kernelRun0_A
  dsimp only
  rw [View.canon_cons_unit_zero hz, A_k, carryK]

theorem soutA_1 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = vC x4 := by
  unfold sout0_A_1
  rw [View.read_writes_junk_eq_canon]
  unfold kernelRun0_A
  dsimp only
  rw [View.canon_cons_unit_zero hz, A_v, carryV]

theorem outB_11 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : ¬cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (xs0 : Vec Ideal S1024x128 .f32) (xs1 : Vec Ideal S1024x128 .f32) (s : Fin 8) (r : Fin 128) (k : Fin 512) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 (ix3 s r k)
      = pointOut (k0_pay48 (Scalar.cmpi CmpIPredicate.eq (BitVec.ofNat 32 (i 1).val) 0#32)) x0 x1 x2 x3 x4 x5 x6 x7 x8 xs0 xs1 (place s r k) := by
  refine Eq.trans ?_ (congrFun (B_o c i arg2 harg2 arg3 harg3 arg4 harg4 arg5 harg5 arg6 harg6 arg7 harg7 arg8 harg8 arg9 harg9 arg10 harg10 arg16 harg16 arg17 harg17 x0 x1 x2 x3 x4 x5 x6 x7 x8 xs0 xs1) (place s r k))
  have hcov := cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 (ix3 s r k)
  unfold out0_B_11
  rw [View.read_writes_junk_eq_canon]
  revert hcov
  unfold kernelRun0_B
  dsimp only
  intro hcov
  refine View.canon_eq_of_allAt _ _ _ hcov ?_
  let O := (kernelRun0_B.sl.r_65 (F := Ideal) c i arg2 harg2 arg3 harg3 arg4 harg4 arg5 harg5 arg6 harg6 arg7 harg7 arg8 harg8 arg9 harg9 arg10 harg10 arg16 harg16 arg17 harg17 x0 x1 x2 x3 x4 x5 x6 x7 x8 xs0 xs1)
  refine View.allAt_cons_unit _ _ _ _ _ (tile (sb := 7) (col := 448) O slices_S16x512x64_o15_384_0_S1x128x64 shapeCasts_S1x128x64_S128x64 shapeCasts_S128x64_S1x128x64 (by decide) (by decide) (by decide) (by decide) (by decide) s r k) ?_
  refine View.allAt_cons_unit _ _ _ _ _ (tile (sb := 7) (col := 384) O slices_S16x512x64_o15_256_0_S1x128x64 shapeCasts_S1x128x64_S128x64 shapeCasts_S128x64_S1x128x64 (by decide) (by decide) (by decide) (by decide) (by decide) s r k) ?_
  refine View.allAt_cons_unit _ _ _ _ _ (tile (sb := 7) (col := 320) O slices_S16x512x64_o15_128_0_S1x128x64 shapeCasts_S1x128x64_S128x64 shapeCasts_S128x64_S1x128x64 (by decide) (by decide) (by decide) (by decide) (by decide) s r k) ?_
  refine View.allAt_cons_unit _ _ _ _ _ (tile (sb := 7) (col := 256) O slices_S16x512x64_o15_0_0_S1x128x64 shapeCasts_S1x128x64_S128x64 shapeCasts_S128x64_S1x128x64 (by decide) (by decide) (by decide) (by decide) (by decide) s r k) ?_
  refine View.allAt_cons_unit _ _ _ _ _ (tile (sb := 7) (col := 192) O slices_S16x512x64_o14_384_0_S1x128x64 shapeCasts_S1x128x64_S128x64 shapeCasts_S128x64_S1x128x64 (by decide) (by decide) (by decide) (by decide) (by decide) s r k) ?_
  refine View.allAt_cons_unit _ _ _ _ _ (tile (sb := 7) (col := 128) O slices_S16x512x64_o14_256_0_S1x128x64 shapeCasts_S1x128x64_S128x64 shapeCasts_S128x64_S1x128x64 (by decide) (by decide) (by decide) (by decide) (by decide) s r k) ?_
  refine View.allAt_cons_unit _ _ _ _ _ (tile (sb := 7) (col := 64) O slices_S16x512x64_o14_128_0_S1x128x64 shapeCasts_S1x128x64_S128x64 shapeCasts_S128x64_S1x128x64 (by decide) (by decide) (by decide) (by decide) (by decide) s r k) ?_
  refine View.allAt_cons_unit _ _ _ _ _ (tile (sb := 7) (col := 0) O slices_S16x512x64_o14_0_0_S1x128x64 shapeCasts_S1x128x64_S128x64 shapeCasts_S128x64_S1x128x64 (by decide) (by decide) (by decide) (by decide) (by decide) s r k) ?_
  refine View.allAt_cons_unit _ _ _ _ _ (tile (sb := 6) (col := 448) O slices_S16x512x64_o13_384_0_S1x128x64 shapeCasts_S1x128x64_S128x64 shapeCasts_S128x64_S1x128x64 (by decide) (by decide) (by decide) (by decide) (by decide) s r k) ?_
  refine View.allAt_cons_unit _ _ _ _ _ (tile (sb := 6) (col := 384) O slices_S16x512x64_o13_256_0_S1x128x64 shapeCasts_S1x128x64_S128x64 shapeCasts_S128x64_S1x128x64 (by decide) (by decide) (by decide) (by decide) (by decide) s r k) ?_
  refine View.allAt_cons_unit _ _ _ _ _ (tile (sb := 6) (col := 320) O slices_S16x512x64_o13_128_0_S1x128x64 shapeCasts_S1x128x64_S128x64 shapeCasts_S128x64_S1x128x64 (by decide) (by decide) (by decide) (by decide) (by decide) s r k) ?_
  refine View.allAt_cons_unit _ _ _ _ _ (tile (sb := 6) (col := 256) O slices_S16x512x64_o13_0_0_S1x128x64 shapeCasts_S1x128x64_S128x64 shapeCasts_S128x64_S1x128x64 (by decide) (by decide) (by decide) (by decide) (by decide) s r k) ?_
  refine View.allAt_cons_unit _ _ _ _ _ (tile (sb := 6) (col := 192) O slices_S16x512x64_o12_384_0_S1x128x64 shapeCasts_S1x128x64_S128x64 shapeCasts_S128x64_S1x128x64 (by decide) (by decide) (by decide) (by decide) (by decide) s r k) ?_
  refine View.allAt_cons_unit _ _ _ _ _ (tile (sb := 6) (col := 128) O slices_S16x512x64_o12_256_0_S1x128x64 shapeCasts_S1x128x64_S128x64 shapeCasts_S128x64_S1x128x64 (by decide) (by decide) (by decide) (by decide) (by decide) s r k) ?_
  refine View.allAt_cons_unit _ _ _ _ _ (tile (sb := 6) (col := 64) O slices_S16x512x64_o12_128_0_S1x128x64 shapeCasts_S1x128x64_S128x64 shapeCasts_S128x64_S1x128x64 (by decide) (by decide) (by decide) (by decide) (by decide) s r k) ?_
  refine View.allAt_cons_unit _ _ _ _ _ (tile (sb := 6) (col := 0) O slices_S16x512x64_o12_0_0_S1x128x64 shapeCasts_S1x128x64_S128x64 shapeCasts_S128x64_S1x128x64 (by decide) (by decide) (by decide) (by decide) (by decide) s r k) ?_
  refine View.allAt_cons_unit _ _ _ _ _ (tile (sb := 5) (col := 448) O slices_S16x512x64_o11_384_0_S1x128x64 shapeCasts_S1x128x64_S128x64 shapeCasts_S128x64_S1x128x64 (by decide) (by decide) (by decide) (by decide) (by decide) s r k) ?_
  refine View.allAt_cons_unit _ _ _ _ _ (tile (sb := 5) (col := 384) O slices_S16x512x64_o11_256_0_S1x128x64 shapeCasts_S1x128x64_S128x64 shapeCasts_S128x64_S1x128x64 (by decide) (by decide) (by decide) (by decide) (by decide) s r k) ?_
  refine View.allAt_cons_unit _ _ _ _ _ (tile (sb := 5) (col := 320) O slices_S16x512x64_o11_128_0_S1x128x64 shapeCasts_S1x128x64_S128x64 shapeCasts_S128x64_S1x128x64 (by decide) (by decide) (by decide) (by decide) (by decide) s r k) ?_
  refine View.allAt_cons_unit _ _ _ _ _ (tile (sb := 5) (col := 256) O slices_S16x512x64_o11_0_0_S1x128x64 shapeCasts_S1x128x64_S128x64 shapeCasts_S128x64_S1x128x64 (by decide) (by decide) (by decide) (by decide) (by decide) s r k) ?_
  refine View.allAt_cons_unit _ _ _ _ _ (tile (sb := 5) (col := 192) O slices_S16x512x64_o10_384_0_S1x128x64 shapeCasts_S1x128x64_S128x64 shapeCasts_S128x64_S1x128x64 (by decide) (by decide) (by decide) (by decide) (by decide) s r k) ?_
  refine View.allAt_cons_unit _ _ _ _ _ (tile (sb := 5) (col := 128) O slices_S16x512x64_o10_256_0_S1x128x64 shapeCasts_S1x128x64_S128x64 shapeCasts_S128x64_S1x128x64 (by decide) (by decide) (by decide) (by decide) (by decide) s r k) ?_
  refine View.allAt_cons_unit _ _ _ _ _ (tile (sb := 5) (col := 64) O slices_S16x512x64_o10_128_0_S1x128x64 shapeCasts_S1x128x64_S128x64 shapeCasts_S128x64_S1x128x64 (by decide) (by decide) (by decide) (by decide) (by decide) s r k) ?_
  refine View.allAt_cons_unit _ _ _ _ _ (tile (sb := 5) (col := 0) O slices_S16x512x64_o10_0_0_S1x128x64 shapeCasts_S1x128x64_S128x64 shapeCasts_S128x64_S1x128x64 (by decide) (by decide) (by decide) (by decide) (by decide) s r k) ?_
  refine View.allAt_cons_unit _ _ _ _ _ (tile (sb := 4) (col := 448) O slices_S16x512x64_o9_384_0_S1x128x64 shapeCasts_S1x128x64_S128x64 shapeCasts_S128x64_S1x128x64 (by decide) (by decide) (by decide) (by decide) (by decide) s r k) ?_
  refine View.allAt_cons_unit _ _ _ _ _ (tile (sb := 4) (col := 384) O slices_S16x512x64_o9_256_0_S1x128x64 shapeCasts_S1x128x64_S128x64 shapeCasts_S128x64_S1x128x64 (by decide) (by decide) (by decide) (by decide) (by decide) s r k) ?_
  refine View.allAt_cons_unit _ _ _ _ _ (tile (sb := 4) (col := 320) O slices_S16x512x64_o9_128_0_S1x128x64 shapeCasts_S1x128x64_S128x64 shapeCasts_S128x64_S1x128x64 (by decide) (by decide) (by decide) (by decide) (by decide) s r k) ?_
  refine View.allAt_cons_unit _ _ _ _ _ (tile (sb := 4) (col := 256) O slices_S16x512x64_o9_0_0_S1x128x64 shapeCasts_S1x128x64_S128x64 shapeCasts_S128x64_S1x128x64 (by decide) (by decide) (by decide) (by decide) (by decide) s r k) ?_
  refine View.allAt_cons_unit _ _ _ _ _ (tile (sb := 4) (col := 192) O slices_S16x512x64_o8_384_0_S1x128x64 shapeCasts_S1x128x64_S128x64 shapeCasts_S128x64_S1x128x64 (by decide) (by decide) (by decide) (by decide) (by decide) s r k) ?_
  refine View.allAt_cons_unit _ _ _ _ _ (tile (sb := 4) (col := 128) O slices_S16x512x64_o8_256_0_S1x128x64 shapeCasts_S1x128x64_S128x64 shapeCasts_S128x64_S1x128x64 (by decide) (by decide) (by decide) (by decide) (by decide) s r k) ?_
  refine View.allAt_cons_unit _ _ _ _ _ (tile (sb := 4) (col := 64) O slices_S16x512x64_o8_128_0_S1x128x64 shapeCasts_S1x128x64_S128x64 shapeCasts_S128x64_S1x128x64 (by decide) (by decide) (by decide) (by decide) (by decide) s r k) ?_
  refine View.allAt_cons_unit _ _ _ _ _ (tile (sb := 4) (col := 0) O slices_S16x512x64_o8_0_0_S1x128x64 shapeCasts_S1x128x64_S128x64 shapeCasts_S128x64_S1x128x64 (by decide) (by decide) (by decide) (by decide) (by decide) s r k) ?_
  refine View.allAt_cons_unit _ _ _ _ _ (tile (sb := 3) (col := 448) O slices_S16x512x64_o7_384_0_S1x128x64 shapeCasts_S1x128x64_S128x64 shapeCasts_S128x64_S1x128x64 (by decide) (by decide) (by decide) (by decide) (by decide) s r k) ?_
  refine View.allAt_cons_unit _ _ _ _ _ (tile (sb := 3) (col := 384) O slices_S16x512x64_o7_256_0_S1x128x64 shapeCasts_S1x128x64_S128x64 shapeCasts_S128x64_S1x128x64 (by decide) (by decide) (by decide) (by decide) (by decide) s r k) ?_
  refine View.allAt_cons_unit _ _ _ _ _ (tile (sb := 3) (col := 320) O slices_S16x512x64_o7_128_0_S1x128x64 shapeCasts_S1x128x64_S128x64 shapeCasts_S128x64_S1x128x64 (by decide) (by decide) (by decide) (by decide) (by decide) s r k) ?_
  refine View.allAt_cons_unit _ _ _ _ _ (tile (sb := 3) (col := 256) O slices_S16x512x64_o7_0_0_S1x128x64 shapeCasts_S1x128x64_S128x64 shapeCasts_S128x64_S1x128x64 (by decide) (by decide) (by decide) (by decide) (by decide) s r k) ?_
  refine View.allAt_cons_unit _ _ _ _ _ (tile (sb := 3) (col := 192) O slices_S16x512x64_o6_384_0_S1x128x64 shapeCasts_S1x128x64_S128x64 shapeCasts_S128x64_S1x128x64 (by decide) (by decide) (by decide) (by decide) (by decide) s r k) ?_
  refine View.allAt_cons_unit _ _ _ _ _ (tile (sb := 3) (col := 128) O slices_S16x512x64_o6_256_0_S1x128x64 shapeCasts_S1x128x64_S128x64 shapeCasts_S128x64_S1x128x64 (by decide) (by decide) (by decide) (by decide) (by decide) s r k) ?_
  refine View.allAt_cons_unit _ _ _ _ _ (tile (sb := 3) (col := 64) O slices_S16x512x64_o6_128_0_S1x128x64 shapeCasts_S1x128x64_S128x64 shapeCasts_S128x64_S1x128x64 (by decide) (by decide) (by decide) (by decide) (by decide) s r k) ?_
  refine View.allAt_cons_unit _ _ _ _ _ (tile (sb := 3) (col := 0) O slices_S16x512x64_o6_0_0_S1x128x64 shapeCasts_S1x128x64_S128x64 shapeCasts_S128x64_S1x128x64 (by decide) (by decide) (by decide) (by decide) (by decide) s r k) ?_
  refine View.allAt_cons_unit _ _ _ _ _ (tile (sb := 2) (col := 448) O slices_S16x512x64_o5_384_0_S1x128x64 shapeCasts_S1x128x64_S128x64 shapeCasts_S128x64_S1x128x64 (by decide) (by decide) (by decide) (by decide) (by decide) s r k) ?_
  refine View.allAt_cons_unit _ _ _ _ _ (tile (sb := 2) (col := 384) O slices_S16x512x64_o5_256_0_S1x128x64 shapeCasts_S1x128x64_S128x64 shapeCasts_S128x64_S1x128x64 (by decide) (by decide) (by decide) (by decide) (by decide) s r k) ?_
  refine View.allAt_cons_unit _ _ _ _ _ (tile (sb := 2) (col := 320) O slices_S16x512x64_o5_128_0_S1x128x64 shapeCasts_S1x128x64_S128x64 shapeCasts_S128x64_S1x128x64 (by decide) (by decide) (by decide) (by decide) (by decide) s r k) ?_
  refine View.allAt_cons_unit _ _ _ _ _ (tile (sb := 2) (col := 256) O slices_S16x512x64_o5_0_0_S1x128x64 shapeCasts_S1x128x64_S128x64 shapeCasts_S128x64_S1x128x64 (by decide) (by decide) (by decide) (by decide) (by decide) s r k) ?_
  refine View.allAt_cons_unit _ _ _ _ _ (tile (sb := 2) (col := 192) O slices_S16x512x64_o4_384_0_S1x128x64 shapeCasts_S1x128x64_S128x64 shapeCasts_S128x64_S1x128x64 (by decide) (by decide) (by decide) (by decide) (by decide) s r k) ?_
  refine View.allAt_cons_unit _ _ _ _ _ (tile (sb := 2) (col := 128) O slices_S16x512x64_o4_256_0_S1x128x64 shapeCasts_S1x128x64_S128x64 shapeCasts_S128x64_S1x128x64 (by decide) (by decide) (by decide) (by decide) (by decide) s r k) ?_
  refine View.allAt_cons_unit _ _ _ _ _ (tile (sb := 2) (col := 64) O slices_S16x512x64_o4_128_0_S1x128x64 shapeCasts_S1x128x64_S128x64 shapeCasts_S128x64_S1x128x64 (by decide) (by decide) (by decide) (by decide) (by decide) s r k) ?_
  refine View.allAt_cons_unit _ _ _ _ _ (tile (sb := 2) (col := 0) O slices_S16x512x64_o4_0_0_S1x128x64 shapeCasts_S1x128x64_S128x64 shapeCasts_S128x64_S1x128x64 (by decide) (by decide) (by decide) (by decide) (by decide) s r k) ?_
  refine View.allAt_cons_unit _ _ _ _ _ (tile (sb := 1) (col := 448) O slices_S16x512x64_o3_384_0_S1x128x64 shapeCasts_S1x128x64_S128x64 shapeCasts_S128x64_S1x128x64 (by decide) (by decide) (by decide) (by decide) (by decide) s r k) ?_
  refine View.allAt_cons_unit _ _ _ _ _ (tile (sb := 1) (col := 384) O slices_S16x512x64_o3_256_0_S1x128x64 shapeCasts_S1x128x64_S128x64 shapeCasts_S128x64_S1x128x64 (by decide) (by decide) (by decide) (by decide) (by decide) s r k) ?_
  refine View.allAt_cons_unit _ _ _ _ _ (tile (sb := 1) (col := 320) O slices_S16x512x64_o3_128_0_S1x128x64 shapeCasts_S1x128x64_S128x64 shapeCasts_S128x64_S1x128x64 (by decide) (by decide) (by decide) (by decide) (by decide) s r k) ?_
  refine View.allAt_cons_unit _ _ _ _ _ (tile (sb := 1) (col := 256) O slices_S16x512x64_o3_0_0_S1x128x64 shapeCasts_S1x128x64_S128x64 shapeCasts_S128x64_S1x128x64 (by decide) (by decide) (by decide) (by decide) (by decide) s r k) ?_
  refine View.allAt_cons_unit _ _ _ _ _ (tile (sb := 1) (col := 192) O slices_S16x512x64_o2_384_0_S1x128x64 shapeCasts_S1x128x64_S128x64 shapeCasts_S128x64_S1x128x64 (by decide) (by decide) (by decide) (by decide) (by decide) s r k) ?_
  refine View.allAt_cons_unit _ _ _ _ _ (tile (sb := 1) (col := 128) O slices_S16x512x64_o2_256_0_S1x128x64 shapeCasts_S1x128x64_S128x64 shapeCasts_S128x64_S1x128x64 (by decide) (by decide) (by decide) (by decide) (by decide) s r k) ?_
  refine View.allAt_cons_unit _ _ _ _ _ (tile (sb := 1) (col := 64) O slices_S16x512x64_o2_128_0_S1x128x64 shapeCasts_S1x128x64_S128x64 shapeCasts_S128x64_S1x128x64 (by decide) (by decide) (by decide) (by decide) (by decide) s r k) ?_
  refine View.allAt_cons_unit _ _ _ _ _ (tile (sb := 1) (col := 0) O slices_S16x512x64_o2_0_0_S1x128x64 shapeCasts_S1x128x64_S128x64 shapeCasts_S128x64_S1x128x64 (by decide) (by decide) (by decide) (by decide) (by decide) s r k) ?_
  refine View.allAt_cons_unit _ _ _ _ _ (tile (sb := 0) (col := 448) O slices_S16x512x64_o1_384_0_S1x128x64 shapeCasts_S1x128x64_S128x64 shapeCasts_S128x64_S1x128x64 (by decide) (by decide) (by decide) (by decide) (by decide) s r k) ?_
  refine View.allAt_cons_unit _ _ _ _ _ (tile (sb := 0) (col := 384) O slices_S16x512x64_o1_256_0_S1x128x64 shapeCasts_S1x128x64_S128x64 shapeCasts_S128x64_S1x128x64 (by decide) (by decide) (by decide) (by decide) (by decide) s r k) ?_
  refine View.allAt_cons_unit _ _ _ _ _ (tile (sb := 0) (col := 320) O slices_S16x512x64_o1_128_0_S1x128x64 shapeCasts_S1x128x64_S128x64 shapeCasts_S128x64_S1x128x64 (by decide) (by decide) (by decide) (by decide) (by decide) s r k) ?_
  refine View.allAt_cons_unit _ _ _ _ _ (tile (sb := 0) (col := 256) O slices_S16x512x64_o1_0_0_S1x128x64 shapeCasts_S1x128x64_S128x64 shapeCasts_S128x64_S1x128x64 (by decide) (by decide) (by decide) (by decide) (by decide) s r k) ?_
  refine View.allAt_cons_unit _ _ _ _ _ (tile (sb := 0) (col := 192) O slices_S16x512x64_o0_384_0_S1x128x64 shapeCasts_S1x128x64_S128x64 shapeCasts_S128x64_S1x128x64 (by decide) (by decide) (by decide) (by decide) (by decide) s r k) ?_
  refine View.allAt_cons_unit _ _ _ _ _ (tile (sb := 0) (col := 128) O slices_S16x512x64_o0_256_0_S1x128x64 shapeCasts_S1x128x64_S128x64 shapeCasts_S128x64_S1x128x64 (by decide) (by decide) (by decide) (by decide) (by decide) s r k) ?_
  refine View.allAt_cons_unit _ _ _ _ _ (tile (sb := 0) (col := 64) O slices_S16x512x64_o0_128_0_S1x128x64 shapeCasts_S1x128x64_S128x64 shapeCasts_S128x64_S1x128x64 (by decide) (by decide) (by decide) (by decide) (by decide) s r k) ?_
  refine View.allAt_cons_unit _ _ _ _ _ (tile (sb := 0) (col := 0) O slices_S16x512x64_o0_0_0_S1x128x64 shapeCasts_S1x128x64_S128x64 shapeCasts_S128x64_S1x128x64 (by decide) (by decide) (by decide) (by decide) (by decide) s r k) ?_
  exact View.allAt_nil _ _

theorem outB_12 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : ¬cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (xs0 : Vec Ideal S1024x128 .f32) (xs1 : Vec Ideal S1024x128 .f32) (r : Fin 176) (k : Fin 2048) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 (ix2 r k) = x9 (ix3 0 r k) := by
  unfold out0_B_12
  rw [View.read_writes_junk_eq_canon]
  unfold kernelRun0_B
  dsimp only
  rw [View.canon_unit_zero hz]
  unfold kernelRun0_B.sl.r_67
  rw [read_block arg11 harg11 x9 _ hz3, rider_at]

theorem outB_13 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : ¬cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (xs0 : Vec Ideal S1024x128 .f32) (xs1 : Vec Ideal S1024x128 .f32) (r : Fin 176) (k : Fin 2048) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 (ix2 r k) = x10 (ix3 0 r k) := by
  unfold out0_B_13
  rw [View.read_writes_junk_eq_canon]
  unfold kernelRun0_B
  dsimp only
  rw [View.canon_unit_zero hz]
  rw [read_block arg12 harg12 x10 _ hz3, rider2_at]

theorem soutB_0 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : ¬cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (xs0 : Vec Ideal S1024x128 .f32) (xs1 : Vec Ideal S1024x128 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 = kC x0 x1 x4 (half6 x6) x8 := by
  unfold sout0_B_0
  rw [View.read_writes_junk_eq_canon]
  unfold kernelRun0_B
  dsimp only
  rw [View.canon_unit_zero hz, B_k, carryK]

theorem soutB_1 (c : Dev nD) (i : grid0.Coords) (arg2 : Memref sig .tc .vmem S8x128x128 .f32) (harg2 : arg2.IsWhole) (arg3 : Memref sig .tc .vmem S8x128x128 .f32) (harg3 : arg3.IsWhole) (arg4 : Memref sig .tc .vmem S8x128x256 .bf16) (harg4 : arg4.IsWhole) (arg5 : Memref sig .tc .vmem S8x128x256 .bf16) (harg5 : arg5.IsWhole) (arg6 : Memref sig .tc .vmem S8x128x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S16x512x1 .f32) (harg9 : arg9.IsWhole) (arg10 : Memref sig .tc .vmem S256x256 .bf16) (harg10 : arg10.IsWhole) (arg11 : Memref sig .tc .vmem S1x176x2048 .f32) (harg11 : arg11.IsWhole) (arg12 : Memref sig .tc .vmem S1x176x2048 .f32) (harg12 : arg12.IsWhole) (arg13 : Memref sig .tc .vmem S8x128x512 .bf16) (harg13 : arg13.IsWhole) (arg14 : Memref sig .tc .vmem S176x2048 .bf16) (harg14 : arg14.IsWhole) (arg15 : Memref sig .tc .vmem S176x2048 .bf16) (harg15 : arg15.IsWhole) (arg16 : Memref sig .tc .vmem S1024x128 .f32) (harg16 : arg16.IsWhole) (arg17 : Memref sig .tc .vmem S1024x128 .f32) (harg17 : arg17.IsWhole) (hc0 : ¬cond0_0 i)
    (x0 : Vec Ideal S8x128x128 .f32) (x1 : Vec Ideal S8x128x128 .f32) (x2 : Vec Ideal S8x128x256 .bf16) (x3 : Vec Ideal S8x128x256 .bf16) (x4 : Vec Ideal S8x128x256 .bf16) (x5 : Vec Ideal S1x256 .f32) (x6 : Vec Ideal S1x256 .f32) (x7 : Vec Ideal S16x512x1 .f32) (x8 : Vec Ideal S256x256 .bf16) (x9 : Vec Ideal S1x176x2048 .f32) (x10 : Vec Ideal S1x176x2048 .f32) (xs0 : Vec Ideal S1024x128 .f32) (xs1 : Vec Ideal S1024x128 .f32) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 = vC x4 := by
  unfold sout0_B_1
  rw [View.read_writes_junk_eq_canon]
  unfold kernelRun0_B
  dsimp only
  rw [View.canon_unit_zero hz, B_v, carryV]

end Cert.Proof.Attn

end
-- ==== Proof.AttnHost.lean ====
/- The attention's arrays before the call, and the blocks the points work on. -/
module

public import proofs.«01_k».proof.Proof.AttnStore
public import Idealize.ShloMosaic.Lib.StableHlo.ReadAt
public import Idealize.ShloMosaic.Lib.Pointwise
public import proofs.«01_k».proof.Proof.Gen.KernelIdeal.Value

@[expose] public section

set_option maxRecDepth 16384

noncomputable section

namespace Cert.Proof.Attn

open Idealize.ShloMosaic Idealize.ShloMosaic.TcCoe Idealize.SL.Sem Idealize.ShloMosaic.StableHlo
open Cert.KernelIdeal Cert.KernelIdeal.Gen Cert.Proof.Spec

/-- Where the lane's frequency is found. -/
abbrev laneIdx (k : Fin 128) : S128x1.Idx := ix2 k 0

theorem gather_lane (x : S8.Idx → EReal) (idx : IVec S128x1 32) (k : Fin 128) :
    Host.gather gather_S8_S128x1_S128_n_0_n_n_0_1_1 x idx (ix1 k) = x (ix1 ⟨min (idx (laneIdx k)).toInt.toNat 7, by omega⟩) := by
  unfold Host.gather
  congr 1
  funext a
  obtain rfl : a = 0 := Subsingleton.elim _ _
  refine Fin.ext ?_
  show (gather_S8_S128x1_S128_n_0_n_n_0_1_1).start (ix1 k) idx 0 + (gather_S8_S128x1_S128_n_0_n_n_0_1_1).batchCoord (ix1 k) 0
    + (gather_S8_S128x1_S128_n_0_n_n_0_1_1).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S8_S128x1_S128_n_0_n_n_0_1_1).startIndexMap from List.mem_singleton.mpr rfl)]
  have hsi : (gather_S8_S128x1_S128_n_0_n_n_0_1_1).siIdx (ix1 k) ⟨List.idxOf (0 : Fin 1) (gather_S8_S128x1_S128_n_0_n_n_0_1_1).startIndexMap,
      List.idxOf_lt_length_iff.2 (List.mem_singleton.mpr rfl)⟩ = laneIdx k := by
    funext b; refine Fin.ext ?_
    match b with
    | ⟨0, _⟩ => rfl
    | ⟨1, _⟩ => rfl
  rw [hsi]
  rfl

/-- The eight frequencies. -/
abbrev freqs : S8.Idx → EReal := fun i =>
  Ideal.pow (Ideal.ofBits FTy.f32 0x48F42400#32)
      (Ideal.div (-(Ideal.ofBits FTy.f32 0x40000000#32 * (FloatOps.sitofp (F := Ideal) FTy.f32 (BitVec.ofNat 32 (i 0).val) : EReal)))
        (Ideal.ofBits FTy.f32 0x41800000#32))

abbrev freqOps : S8.Idx → EReal :=
  (Host.powf (F := Ideal) (φ := .f32) (broadcastInDim S8 ![] bcast_S_S8 (constant S_ FTy.f32 1223959552#32))
              (Host.divf
                (Host.negf
                  (addf (broadcastInDim S8 ![] bcast_S_S8 (constant S_ FTy.f32 0#32))
                    (mulf (broadcastInDim S8 ![] bcast_S_S8 (constant S_ FTy.f32 1073741824#32))
                      (sitofp FTy.f32 (iotaInDim S8 32 0)))))
                (broadcastInDim S8 ![] bcast_S_S8 (constant S_ FTy.f32 1098907648#32))))

theorem zero_bits : Ideal.ofBits FTy.f32 0#32 = (0 : EReal) := by
  simp [Ideal.ofBits, Ideal.ieee]

theorem freq_at (j : Fin 8) : freqOps (ix1 j) = freqs (ix1 j) := by
  unfold freqOps freqs
  pointwise

theorem row_lane_val : ∀ k : Fin 128, (S128.rowMajor (ix1 k)).val = k.val := by
  decide +kernel

theorem row_lane (k : Fin 128) : S128.rowMajor (ix1 k) = k := Fin.ext (row_lane_val k)

abbrev laneOps : IVec S128x1 32 :=
  (broadcastInDim S128x1 ![0] bcast_S128_S128x1_0
              (select (constantI S128 1 0#1)
                (addi (fun i => lit0 (S128.rowMajor i)) (broadcastInDim S128 ![] bcast_S_S128 (constantI S_ 32 8#32)))
                fun i => lit0 (S128.rowMajor i)))

theorem lane_at (k : Fin 128) : laneOps (ix2 k 0) = BitVec.ofNat 32 (k.val % 8) := by
  have h1 : laneOps (ix2 k 0) = lit0 (S128.rowMajor (ix1 k)) := by
    unfold laneOps
    pointwise
  rw [h1, row_lane]
  revert k
  decide +kernel

theorem lane_bit (k : Fin 128) : lit1 (S128.rowMajor (ix1 k)) = if k.val % 64 < 16 then 1#1 else 0#1 := by
  rw [row_lane]
  revert k
  decide +kernel

theorem clamp_lane : ∀ k : Fin 128, min (BitVec.ofNat 32 (k.val % 8)).toInt.toNat 7 = k.val % 8 := by
  decide +kernel

/-- The frequency of a lane of the tables. -/
theorem lane_freq (k : Fin 128) (z : EReal) (hz : z = 0) :
    Scalar.select (lit1 (S128.rowMajor (ix1 k))) (Host.gather gather_S8_S128x1_S128_n_0_n_n_0_1_1 freqOps laneOps (ix1 k)) z
      = if k.val % 64 < 16 then freqs (ix1 ⟨k.val % 64 % 8, by omega⟩) else 0 := by
  rw [lane_bit, gather_lane, freq_at, hz]
  have e : min (laneOps (laneIdx k)).toInt.toNat 7 = k.val % 64 % 8 := by
    rw [lane_at, clamp_lane]; omega
  by_cases h : k.val % 64 < 16
  · rw [if_pos h, if_pos h]
    show freqs _ = _
    exact congrArg freqs (congrArg ix1 (Fin.ext e))
  · rw [if_neg h, if_neg h]
    rfl

variable (m : (ℓ : Loc nD τ sig) → Buf (Elt Ideal) ℓ)

/-- The positions at launch. -/
abbrev kPos (c : Dev nD) : S16x2048.Idx → BitVec 32 := m (c.tc.loc main_arg1)
abbrev kP (c : Dev nD) : S16x2048x5120.Idx → EReal := m (c.tc.loc main_arg0)
abbrev kQ (c : Dev nD) : S64.Idx → EReal := m (c.tc.loc main_arg2)
abbrev kK (c : Dev nD) : S64.Idx → EReal := m (c.tc.loc main_arg3)
abbrev kS (c : Dev nD) : S8.Idx → EReal := m (c.tc.loc main_arg4)

theorem V27 (c : Dev nD) (k : Fin 256) :
    (V m c main_v27 : S1x256.Idx → EReal) (ix2 0 k) = kQ m c (ix1 ⟨k.val % 64, by omega⟩) := by
  unfold V
  after_reads_at

theorem V31 (c : Dev nD) (k : Fin 256) :
    (V m c main_v31 : S1x256.Idx → EReal) (ix2 0 k) = kK m c (ix1 ⟨k.val % 64, by omega⟩) := by
  unfold V
  after_reads_at

theorem V47 (c : Dev nD) (B : Fin 16) (R : Fin 512) :
    (V m c main_v47 : S16x512x1.Idx → EReal) (ix3 B R 0)
      = kS m c (ix1 ⟨B.val % 2 * 4 + R.val / 128, by omega⟩) := by
  unfold V
  after_reads_at

theorem eye_word : ∀ a b : Fin 4, IntOp.cmpi CmpIPredicate.eq (IntOp.addi (BitVec.ofNat 32 a.val) 0#32) (BitVec.ofNat 32 b.val)
    = if a.val = b.val then 1#1 else 0#1 := by
  decide +kernel

theorem eye_one : (FloatOps.uitofp (F := Ideal) FTy.f32 (1#1 : BitVec 1) : EReal) = 1 := by
  simp [FloatOps.uitofp]

theorem eye_zero : (FloatOps.uitofp (F := Ideal) FTy.f32 (0#1 : BitVec 1) : EReal) = 0 := by
  simp [FloatOps.uitofp]

theorem V40 (c : Dev nD) (x k : Fin 256) :
    (V m c main_v40 : S256x256.Idx → EReal) (ix2 x k) = (if x.val / 64 = k.val / 64 then 1 else 0 : EReal) := by
  unfold V
  after_reads_at
  rw [eye_word ⟨x.val / 64, by omega⟩ ⟨k.val / 64, by omega⟩]
  dsimp only
  by_cases h : x.val / 64 = k.val / 64
  · rw [if_pos h, if_pos h]; exact eye_one
  · rw [if_neg h, if_neg h]; exact eye_zero

theorem V48 (c : Dev nD) (b : Fin 16) (t : Fin 2048) (k : Fin 128) :
    (V m c main_v48 : S16x2048x128.Idx → EReal) (ix3 b t k)
      = Ideal.cos ((FloatOps.sitofp (F := Ideal) FTy.f32 (kPos m c (ix2 b t)) : EReal)
          * if k.val % 64 < 16 then freqs (ix1 ⟨k.val % 64 % 8, by omega⟩) else 0) := by
  rw [← lane_freq k (id (constant (F := Ideal) S_ FTy.f32 0#32) ix0) zero_bits]
  unfold V freqOps laneOps
  after_reads_at
  rw [show (ix2 (⟨(b.val * 2048 + t.val) / 2048, by omega⟩ : Fin 16) (⟨(b.val * 2048 + t.val) % 2048, by omega⟩ : Fin 2048)) = ix2 b t from
    congrArg₂ ix2 (Fin.ext (by show (b.val * 2048 + t.val) / 2048 = b.val; omega)) (Fin.ext (by show (b.val * 2048 + t.val) % 2048 = t.val; omega))]
  rfl

theorem V49 (c : Dev nD) (b : Fin 16) (t : Fin 2048) (k : Fin 128) :
    (V m c main_v49 : S16x2048x128.Idx → EReal) (ix3 b t k)
      = Ideal.sin ((FloatOps.sitofp (F := Ideal) FTy.f32 (kPos m c (ix2 b t)) : EReal)
          * if k.val % 64 < 16 then freqs (ix1 ⟨k.val % 64 % 8, by omega⟩) else 0) := by
  rw [← lane_freq k (id (constant (F := Ideal) S_ FTy.f32 0#32) ix0) zero_bits]
  unfold V freqOps laneOps
  after_reads_at
  rw [show (ix2 (⟨(b.val * 2048 + t.val) / 2048, by omega⟩ : Fin 16) (⟨(b.val * 2048 + t.val) % 2048, by omega⟩ : Fin 2048)) = ix2 b t from
    congrArg₂ ix2 (Fin.ext (by show (b.val * 2048 + t.val) / 2048 = b.val; omega)) (Fin.ext (by show (b.val * 2048 + t.val) % 2048 = t.val; omega))]
  rfl

theorem cos_rest (x : EReal) : Ideal.cos (x * 0) = 1 := by
  rw [mul_zero]
  show ((Real.cos 0 : ℝ) : EReal) = 1
  simp

theorem sin_rest (x : EReal) : Ideal.sin (x * 0) = 0 := by
  rw [mul_zero]
  show ((Real.sin 0 : ℝ) : EReal) = 0
  simp

theorem V0a (c : Dev nD) (b : Fin 16) (t : Fin 2048) (k : Fin 5120) :
    (V m c main_arg0 : S16x2048x5120.Idx → EReal) (ix3 b t k) = kP m c (ix3 b t k) := by
  unfold V
  after_reads_at

theorem V5a (c : Dev nD) (a : Fin 2) (r : Fin 5632) (k : Fin 2048) :
    (V m c main_arg5 : S2x5632x2048.Idx → EReal) (ix3 a r k) = (m (c.tc.loc main_arg5) : S2x5632x2048.Idx → EReal) (ix3 a r k) := by
  unfold V
  after_reads_at

theorem V6a (c : Dev nD) (a : Fin 2) (r : Fin 5632) (k : Fin 2048) :
    (V m c main_arg6 : S2x5632x2048.Idx → EReal) (ix3 a r k) = (m (c.tc.loc main_arg6) : S2x5632x2048.Idx → EReal) (ix3 a r k) := by
  unfold V
  after_reads_at

theorem idx0 : ∀ t : Fin cfg0.N, win0_0.index t = ![t.val / 16, t.val % 16, 0] := (by decide +kernel : ∀ t : Fin grid0.N, win0_0.index t = ![t.val / 16, t.val % 16, 0])
theorem idx1 : ∀ t : Fin cfg0.N, win0_1.index t = ![t.val / 16, t.val % 16, 0] := (by decide +kernel : ∀ t : Fin grid0.N, win0_1.index t = ![t.val / 16, t.val % 16, 0])
theorem idx2 : ∀ t : Fin cfg0.N, win0_2.index t = ![t.val / 16, t.val % 16, 7] := (by decide +kernel : ∀ t : Fin grid0.N, win0_2.index t = ![t.val / 16, t.val % 16, 7])
theorem idx3 : ∀ t : Fin cfg0.N, win0_3.index t = ![t.val / 16, t.val % 16, 8] := (by decide +kernel : ∀ t : Fin grid0.N, win0_3.index t = ![t.val / 16, t.val % 16, 8])
theorem idx4 : ∀ t : Fin cfg0.N, win0_4.index t = ![t.val / 16, t.val % 16, 9] := (by decide +kernel : ∀ t : Fin grid0.N, win0_4.index t = ![t.val / 16, t.val % 16, 9])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0] := (by decide +kernel : ∀ t : Fin grid0.N, win0_8.index t = ![0, 0])
theorem idx9 : ∀ t : Fin cfg0.N, win0_9.index t = ![0, t.val, 0] := (by decide +kernel : ∀ t : Fin grid0.N, win0_9.index t = ![0, t.val, 0])
theorem idx10 : ∀ t : Fin cfg0.N, win0_10.index t = ![1, t.val, 0] := (by decide +kernel : ∀ t : Fin grid0.N, win0_10.index t = ![1, t.val, 0])

/-- The batch member of row `s` of point `t`'s block, and the block of positions. -/
abbrev mem' (t : Fin cfg0.N) (s : Fin 8) : Fin 16 := ⟨t.val / 16 * 8 + s.val, by have hN : cfg0.N = 32 := N_0; omega⟩
abbrev stp (t : Fin cfg0.N) : Fin 16 := ⟨t.val % 16, by omega⟩

theorem blk0 (c : Dev nD) (t : Fin cfg0.N) (s : Fin 8) (i : Fin 128) (k : Fin 128) :
    (iblk m c 0 t : Vec Ideal S8x128x128 .f32) (ix3 s i k) = (V m c main_v48 : S16x2048x128.Idx → EReal) (ix3 (mem' t s) (at' (stp t) i) k) := by
  unfold iblk
  rw [View.read_apply]
  show V m c main_v48 _ = V m c main_v48 _
  congr 1
  funext a
  apply Fin.ext
  match a with
  | ⟨0, _⟩ => show win0_0.index t 0 * 8 + 1 * s.val = t.val / 16 * 8 + s.val; rw [idx0]; simp
  | ⟨1, _⟩ => show win0_0.index t 1 * 128 + 1 * i.val = t.val % 16 * 128 + i.val; rw [idx0]; simp
  | ⟨2, _⟩ => show win0_0.index t 2 * 128 + 1 * k.val = k.val; rw [idx0]; simp

theorem blk1 (c : Dev nD) (t : Fin cfg0.N) (s : Fin 8) (i : Fin 128) (k : Fin 128) :
    (iblk m c 1 t : Vec Ideal S8x128x128 .f32) (ix3 s i k) = (V m c main_v49 : S16x2048x128.Idx → EReal) (ix3 (mem' t s) (at' (stp t) i) k) := by
  unfold iblk
  rw [View.read_apply]
  show V m c main_v49 _ = V m c main_v49 _
  congr 1
  funext a
  apply Fin.ext
  match a with
  | ⟨0, _⟩ => show win0_1.index t 0 * 8 + 1 * s.val = t.val / 16 * 8 + s.val; rw [idx1]; simp
  | ⟨1, _⟩ => show win0_1.index t 1 * 128 + 1 * i.val = t.val % 16 * 128 + i.val; rw [idx1]; simp
  | ⟨2, _⟩ => show win0_1.index t 2 * 128 + 1 * k.val = k.val; rw [idx1]; simp

theorem blk2 (c : Dev nD) (t : Fin cfg0.N) (s : Fin 8) (i : Fin 128) (k : Fin 256) :
    (iblk m c 2 t : Vec Ideal S8x128x256 .bf16) (ix3 s i k) = kP m c (ix3 (mem' t s) (at' (stp t) i) ⟨1792 + k.val, by omega⟩) := by
  refine Eq.trans ?_ (V0a m c _ _ _)
  unfold iblk
  rw [View.read_apply]
  show V m c main_arg0 _ = V m c main_arg0 _
  congr 1
  funext a
  apply Fin.ext
  match a with
  | ⟨0, _⟩ => show win0_2.index t 0 * 8 + 1 * s.val = t.val / 16 * 8 + s.val; rw [idx2]; simp
  | ⟨1, _⟩ => show win0_2.index t 1 * 128 + 1 * i.val = t.val % 16 * 128 + i.val; rw [idx2]; simp
  | ⟨2, _⟩ => show win0_2.index t 2 * 256 + 1 * k.val = 1792 + k.val; rw [idx2]; simp

theorem blk3 (c : Dev nD) (t : Fin cfg0.N) (s : Fin 8) (i : Fin 128) (k : Fin 256) :
    (iblk m c 3 t : Vec Ideal S8x128x256 .bf16) (ix3 s i k) = kP m c (ix3 (mem' t s) (at' (stp t) i) ⟨2048 + k.val, by omega⟩) := by
  refine Eq.trans ?_ (V0a m c _ _ _)
  unfold iblk
  rw [View.read_apply]
  show V m c main_arg0 _ = V m c main_arg0 _
  congr 1
  funext a
  apply Fin.ext
  match a with
  | ⟨0, _⟩ => show win0_3.index t 0 * 8 + 1 * s.val = t.val / 16 * 8 + s.val; rw [idx3]; simp
  | ⟨1, _⟩ => show win0_3.index t 1 * 128 + 1 * i.val = t.val % 16 * 128 + i.val; rw [idx3]; simp
  | ⟨2, _⟩ => show win0_3.index t 2 * 256 + 1 * k.val = 2048 + k.val; rw [idx3]; simp

theorem blk4 (c : Dev nD) (t : Fin cfg0.N) (s : Fin 8) (i : Fin 128) (k : Fin 256) :
    (iblk m c 4 t : Vec Ideal S8x128x256 .bf16) (ix3 s i k) = kP m c (ix3 (mem' t s) (at' (stp t) i) ⟨2304 + k.val, by omega⟩) := by
  refine Eq.trans ?_ (V0a m c _ _ _)
  unfold iblk
  rw [View.read_apply]
  show V m c main_arg0 _ = V m c main_arg0 _
  congr 1
  funext a
  apply Fin.ext
  match a with
  | ⟨0, _⟩ => show win0_4.index t 0 * 8 + 1 * s.val = t.val / 16 * 8 + s.val; rw [idx4]; simp
  | ⟨1, _⟩ => show win0_4.index t 1 * 128 + 1 * i.val = t.val % 16 * 128 + i.val; rw [idx4]; simp
  | ⟨2, _⟩ => show win0_4.index t 2 * 256 + 1 * k.val = 2304 + k.val; rw [idx4]; simp

theorem blk5 (c : Dev nD) (t : Fin cfg0.N) (k : Fin 256) :
    (iblk m c 5 t : Vec Ideal S1x256 .f32) (ix2 0 k) = kQ m c (ix1 ⟨k.val % 64, by omega⟩) := by
  refine Eq.trans ?_ (V27 m c k)
  unfold iblk
  rw [View.read_apply]
  show V m c main_v27 _ = V m c main_v27 _
  congr 1
  funext a
  apply Fin.ext
  match a with
  | ⟨0, _⟩ => show win0_5.index t 0 * 1 + 1 * 0 = 0; rw [idx5]; simp
  | ⟨1, _⟩ => show win0_5.index t 1 * 256 + 1 * k.val = k.val; rw [idx5]; simp

theorem blk6 (c : Dev nD) (t : Fin cfg0.N) (k : Fin 256) :
    (iblk m c 6 t : Vec Ideal S1x256 .f32) (ix2 0 k) = kK m c (ix1 ⟨k.val % 64, by omega⟩) := by
  refine Eq.trans ?_ (V31 m c k)
  unfold iblk
  rw [View.read_apply]
  show V m c main_v31 _ = V m c main_v31 _
  congr 1
  funext a
  apply Fin.ext
  match a with
  | ⟨0, _⟩ => show win0_6.index t 0 * 1 + 1 * 0 = 0; rw [idx6]; simp
  | ⟨1, _⟩ => show win0_6.index t 1 * 256 + 1 * k.val = k.val; rw [idx6]; simp

theorem blk7 (c : Dev nD) (t : Fin cfg0.N) (B : Fin 16) (R : Fin 512) :
    (iblk m c 7 t : Vec Ideal S16x512x1 .f32) (ix3 B R 0) = kS m c (ix1 ⟨B.val % 2 * 4 + R.val / 128, by omega⟩) := by
  refine Eq.trans ?_ (V47 m c B R)
  unfold iblk
  rw [View.read_apply]
  show V m c main_v47 _ = V m c main_v47 _
  congr 1
  funext a
  apply Fin.ext
  match a with
  | ⟨0, _⟩ => show win0_7.index t 0 * 16 + 1 * B.val = B.val; rw [idx7]; simp
  | ⟨1, _⟩ => show win0_7.index t 1 * 512 + 1 * R.val = R.val; rw [idx7]; simp
  | ⟨2, _⟩ => show win0_7.index t 2 * 1 + 1 * 0 = 0; rw [idx7]; simp

theorem blk8 (c : Dev nD) (t : Fin cfg0.N) : Ones (iblk m c 8 t : Vec Ideal S256x256 .bf16) := by
  intro x k
  refine Eq.trans ?_ (V40 m c x k)
  unfold iblk
  rw [View.read_apply]
  show V m c main_v40 _ = V m c main_v40 _
  congr 1
  funext a
  apply Fin.ext
  match a with
  | ⟨0, _⟩ => show win0_8.index t 0 * 256 + 1 * x.val = x.val; rw [idx8]; simp
  | ⟨1, _⟩ => show win0_8.index t 1 * 256 + 1 * k.val = k.val; rw [idx8]; simp

/-- Row `r` of the riders' block of point `t`. -/
abbrev rrow (t : Fin cfg0.N) (r : Fin 176) : Fin 5632 := ⟨t.val * 176 + r.val, by have hN : cfg0.N = 32 := N_0; omega⟩

theorem blk9 (c : Dev nD) (t : Fin cfg0.N) (r : Fin 176) (k : Fin 2048) :
    (iblk m c 9 t : Vec Ideal S1x176x2048 .f32) (ix3 0 r k) = (m (c.tc.loc main_arg5) : S2x5632x2048.Idx → EReal) (ix3 0 (rrow t r) k) := by
  refine Eq.trans ?_ (V5a m c _ _ _)
  unfold iblk
  rw [View.read_apply]
  show V m c main_arg5 _ = V m c main_arg5 _
  congr 1
  funext a
  apply Fin.ext
  match a with
  | ⟨0, _⟩ => show win0_9.index t 0 * 1 + 1 * 0 = 0; rw [idx9]; simp
  | ⟨1, _⟩ => show win0_9.index t 1 * 176 + 1 * r.val = t.val * 176 + r.val; rw [idx9]; simp
  | ⟨2, _⟩ => show win0_9.index t 2 * 2048 + 1 * k.val = k.val; rw [idx9]; simp

theorem blk10 (c : Dev nD) (t : Fin cfg0.N) (r : Fin 176) (k : Fin 2048) :
    (iblk m c 10 t : Vec Ideal S1x176x2048 .f32) (ix3 0 r k) = (m (c.tc.loc main_arg6) : S2x5632x2048.Idx → EReal) (ix3 1 (rrow t r) k) := by
  refine Eq.trans ?_ (V6a m c _ _ _)
  unfold iblk
  rw [View.read_apply]
  show V m c main_arg6 _ = V m c main_arg6 _
  congr 1
  funext a
  apply Fin.ext
  match a with
  | ⟨0, _⟩ => show win0_10.index t 0 * 1 + 1 * 0 = 1; rw [idx10]; simp
  | ⟨1, _⟩ => show win0_10.index t 1 * 176 + 1 * r.val = t.val * 176 + r.val; rw [idx10]; simp
  | ⟨2, _⟩ => show win0_10.index t 2 * 2048 + 1 * k.val = k.val; rw [idx10]; simp

theorem cosTable (c : Dev nD) (t : Fin cfg0.N) (s : Fin 8) (i : Fin 128) :
    Table (iblk m c 0 t : Vec Ideal S8x128x128 .f32) Ideal.cos 1 s i (angle (kPos m c (ix2 (mem' t s) (at' (stp t) i)))) := by
  intro k
  rw [blk0, V48]
  by_cases h : k.val % 64 < 16
  · rw [if_pos h, dif_pos h]; rfl
  · rw [if_neg h, dif_neg h]; exact cos_rest _

theorem sinTable (c : Dev nD) (t : Fin cfg0.N) (s : Fin 8) (i : Fin 128) :
    Table (iblk m c 1 t : Vec Ideal S8x128x128 .f32) Ideal.sin 0 s i (angle (kPos m c (ix2 (mem' t s) (at' (stp t) i)))) := by
  intro k
  rw [blk1, V49]
  by_cases h : k.val % 64 < 16
  · rw [if_pos h, dif_pos h]; rfl
  · rw [if_neg h, dif_neg h]; exact sin_rest _

end Cert.Proof.Attn

end
-- ==== Proof.AttnReal.lean ====
/- The attention's scores are real numbers where the projected rows and the gains are, and dividing the exponentials
   first or the weighted values last is then the same. -/
module

public import proofs.«01_k».proof.Proof.AttnSpec

@[expose] public section

noncomputable section

namespace Cert.Proof.Spec

open Idealize.ShloMosaic

/-- An extended real that is a real number. -/
def IsR (x : EReal) : Prop := ∃ r : ℝ, x = (r : EReal)

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

theorem IsR.neg {x : EReal} (hx : IsR x) : IsR (-x) := by
  obtain ⟨a, rfl⟩ := hx
  exact ⟨-a, (EReal.coe_neg a).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

theorem IsR.cos {x : EReal} (hx : IsR x) : IsR (Ideal.cos x) := by
  obtain ⟨a, rfl⟩ := hx
  exact ⟨Real.cos a, rfl⟩

theorem IsR.sin {x : EReal} (hx : IsR x) : IsR (Ideal.sin x) := by
  obtain ⟨a, rfl⟩ := hx
  exact ⟨Real.sin a, rfl⟩

theorem IsR.pow {x y : EReal} (hx : IsR x) (hy : IsR y) : IsR (Ideal.pow x y) := by
  obtain ⟨a, rfl⟩ := hx
  obtain ⟨b, rfl⟩ := hy
  exact ⟨Real.rpow a b, rfl⟩

theorem IsR.div {x : EReal} (hx : IsR x) (d : ℝ) (hd : d ≠ 0) : IsR (Ideal.div x (d : EReal)) := by
  obtain ⟨a, rfl⟩ := hx
  refine ⟨a * d⁻¹, ?_⟩
  unfold Ideal.div
  rw [if_neg (by exact_mod_cast hd), ← EReal.coe_inv, EReal.coe_mul]

theorem IsR.ne_bot {x : EReal} (hx : IsR x) : x ≠ ⊥ := by
  obtain ⟨a, rfl⟩ := hx
  exact EReal.coe_ne_bot a

theorem IsR.ne_top {x : EReal} (hx : IsR x) : x ≠ ⊤ := by
  obtain ⟨a, rfl⟩ := hx
  exact EReal.coe_ne_top a

theorem isR_of_ne {x : EReal} (h0 : x ≠ ⊥) (h1 : x ≠ ⊤) : IsR x := by
  exact ⟨x.toReal, (EReal.coe_toReal h1 h0).symm⟩

theorem sixtyfour : Ideal.ofBits FTy.f32 0x42800000#32 = ((64 : ℝ) : EReal) := by
  simp [Ideal.ofBits, Ideal.ieee, -EReal.coe_mul]; norm_num

theorem sixteen : Ideal.ofBits FTy.f32 0x41800000#32 = ((16 : ℝ) : EReal) := by
  simp [Ideal.ofBits, Ideal.ieee, -EReal.coe_mul]; norm_num

theorem small_pos : ∃ e : ℝ, 0 < e ∧ Ideal.ofBits FTy.f32 0x358637BD#32 = (e : EReal) := by
  refine ⟨_, ?_, by simp [Ideal.ofBits, Ideal.ieee, -EReal.coe_mul]; rfl⟩
  norm_num

theorem base_real : IsR (Ideal.ofBits FTy.f32 0x48F42400#32) := by
  refine ⟨_, by simp [Ideal.ofBits, Ideal.ieee, -EReal.coe_mul]; rfl⟩

theorem two_real : IsR (Ideal.ofBits FTy.f32 0x40000000#32) := by
  refine ⟨_, by simp [Ideal.ofBits, Ideal.ieee, -EReal.coe_mul]; rfl⟩

theorem eighth_real : IsR eighth := by
  refine ⟨_, by simp [eighth, Ideal.ofBits, Ideal.ieee, -EReal.coe_mul]; rfl⟩

theorem word_real (p : BitVec 32) : IsR (FloatOps.sitofp (F := Ideal) FTy.f32 p : EReal) := ⟨(p.toInt : ℝ), rfl⟩

theorem angle_real (p : BitVec 32) (i : Fin 8) : IsR (angle p i) := by
  unfold angle
  rw [sixteen]
  exact (word_real p).mul (base_real.pow (((two_real.mul (word_real _)).neg).div 16 (by norm_num)))

theorem rms_real (x g : Fin 64 → EReal) (hx : ∀ e, IsR (x e)) (hg : ∀ e, IsR (g e)) (d : Fin 64) : IsR (rms x g d) := by
  unfold rms
  refine ((hx d).mul ?_).mul (hg d)
  choose f hf using hx
  obtain ⟨e, he, hb⟩ := small_pos
  have hs : ∑ k : Fin 64, x k * x k = ((∑ k : Fin 64, f k * f k : ℝ) : EReal) := by
    rw [← coe_sum]
    refine Finset.sum_congr rfl fun k _ => ?_
    rw [hf k, EReal.coe_mul]
  have hp : 0 < (∑ k : Fin 64, f k * f k) * (64 : ℝ)⁻¹ + e := by
    have : 0 ≤ ∑ k : Fin 64, f k * f k := Finset.sum_nonneg fun k _ => mul_self_nonneg _
    positivity
  rw [hs, sixtyfour, hb]
  unfold Ideal.div
  rw [if_neg (by norm_num), ← EReal.coe_inv, ← EReal.coe_mul, ← EReal.coe_add]
  refine ⟨(Real.sqrt ((∑ k : Fin 64, f k * f k) * (64 : ℝ)⁻¹ + e))⁻¹, ?_⟩
  show (if (∑ k : Fin 64, f k * f k) * (64 : ℝ)⁻¹ + e < 0 then (⊥ : EReal) else
    if (∑ k : Fin 64, f k * f k) * (64 : ℝ)⁻¹ + e = 0 then ⊤ else _) = _
  rw [if_neg (not_lt.mpr hp.le), if_neg hp.ne']

theorem turn_real (y : Fin 64 → EReal) (a : Fin 8 → EReal) (hy : ∀ e, IsR (y e)) (ha : ∀ i, IsR (a i)) (d : Fin 64) : IsR (turn y a d) := by
  unfold turn
  split
  · exact ((hy _).mul (ha _).cos).sub ((hy _).mul (ha _).sin)
  · split
    · exact ((hy _).mul (ha _).cos).add ((hy _).mul (ha _).sin)
    · exact hy _

section
variable (P : (⟨3, ![16, 2048, 5120]⟩ : Shape).Idx → EReal) (pos : (⟨2, ![16, 2048]⟩ : Shape).Idx → BitVec 32)
  (gq gk : (⟨1, ![64]⟩ : Shape).Idx → EReal) (sk : (⟨1, ![8]⟩ : Shape).Idx → EReal)

/-- The query and key columns and the two gains are real numbers, and no sink is plus infinity. -/
structure Fine : Prop where
  cols : ∀ (b : Fin 16) (t : Fin 2048) (e : Fin 640), IsR (P (ix3 b t ⟨1792 + e.val, by omega⟩))
  gainq : ∀ e : Fin 64, IsR (gq (ix1 e))
  gaink : ∀ e : Fin 64, IsR (gk (ix1 e))
  sink : ∀ h : Fin 8, sk (ix1 h) ≠ ⊤

variable {P pos gq gk sk}

theorem qry_real (F : Fine P gq gk sk) (b : Fin 16) (t : Fin 2048) (h : Fin 8) (d : Fin 64) : IsR (qry P pos gq b t h d) := by
  unfold qry
  refine (turn_real _ _ (rms_real _ _ (fun e => ?_) (fun e => F.gainq e)) (fun i => angle_real _ i) d).mul eighth_real
  exact F.cols b t ⟨h.val * 64 + e.val, by omega⟩

theorem key_real (F : Fine P gq gk sk) (b : Fin 16) (t : Fin 2048) (kh : Fin 2) (d : Fin 64) : IsR (key P pos gk b t kh d) := by
  unfold key
  refine turn_real _ _ (rms_real _ _ (fun e => ?_) (fun e => F.gaink e)) (fun i => angle_real _ i) d
  exact F.cols b t ⟨512 + (kh.val * 64 + e.val), by omega⟩

theorem scur_diag (F : Fine P gq gk sk) (b n : Fin 16) (h : Fin 8) (i : Fin 128) : scur P pos gq gk b n h i i ≠ ⊥ := by
  unfold scur
  rw [if_pos le_rfl]
  exact (IsR.sum _ _ fun d => (qry_real F b _ h d).mul (key_real F b _ _ d)).ne_bot

theorem scur_top (F : Fine P gq gk sk) (b n : Fin 16) (h : Fin 8) (i j : Fin 128) : scur P pos gq gk b n h i j ≠ ⊤ := by
  unfold scur
  split
  · exact (IsR.sum _ _ fun d => (qry_real F b _ h d).mul (key_real F b _ _ d)).ne_top
  · exact bot_ne_top

theorem sprev_top (F : Fine P gq gk sk) (b n : Fin 16) (h : Fin 8) (i j : Fin 128) : sprev P pos gq gk b n h i j ≠ ⊤ := by
  unfold sprev
  split
  · exact (IsR.sum _ _ fun d => (qry_real F b _ h d).mul (key_real F b _ _ d)).ne_top
  · exact bot_ne_top
end

/-- A row of scores: the block before, the block itself, the sink. -/
def joined (sp sc : Fin 128 → EReal) (sk : EReal) (l : Fin 257) : EReal :=
  if h : l.val < 128 then sp ⟨l.val, h⟩ else if h' : l.val < 256 then sc ⟨l.val - 128, by omega⟩ else sk

/-- A row of values: the block before, the block itself. -/
def paired (vp vc : Fin 128 → EReal) (x : Fin 256) : EReal :=
  if h : x.val < 128 then vp ⟨x.val, h⟩ else vc ⟨x.val - 128, by omega⟩

theorem sup_joined (sp sc : Fin 128 → EReal) (sk : EReal) :
    Finset.univ.sup (joined sp sc sk) = max (max (Finset.univ.sup sp) (Finset.univ.sup sc)) sk := by
  apply le_antisymm
  · refine Finset.sup_le fun l _ => ?_
    unfold joined
    split
    · exact le_trans (le_trans (Finset.le_sup (f := sp) (Finset.mem_univ _)) (le_max_left _ _)) (le_max_left _ _)
    · split
      · exact le_trans (le_trans (Finset.le_sup (f := sc) (Finset.mem_univ _)) (le_max_right _ _)) (le_max_left _ _)
      · exact le_max_right _ _
  · refine max_le (max_le (Finset.sup_le fun j _ => ?_) (Finset.sup_le fun j _ => ?_)) ?_
    · have e : joined sp sc sk ⟨j.val, by omega⟩ = sp j := by unfold joined; rw [dif_pos (show j.val < 128 from j.isLt)]
      rw [← e]; exact Finset.le_sup (Finset.mem_univ _)
    · have e : joined sp sc sk ⟨128 + j.val, by omega⟩ = sc j := by
        unfold joined
        rw [dif_neg (show ¬ 128 + j.val < 128 by omega), dif_pos (show 128 + j.val < 256 by omega)]
        exact congrArg sc (Fin.ext (by show 128 + j.val - 128 = j.val; omega))
      rw [← e]; exact Finset.le_sup (Finset.mem_univ _)
    · have e : joined sp sc sk ⟨256, by omega⟩ = sk := by
        unfold joined
        rw [dif_neg (show ¬ (256 : ℕ) < 128 by omega), dif_neg (show ¬ (256 : ℕ) < 256 by omega)]
      rw [← e]; exact Finset.le_sup (Finset.mem_univ _)

theorem sum_pair (f : Fin 256 → EReal) :
    ∑ x : Fin 256, f x = (∑ j : Fin 128, f ⟨j.val, by omega⟩) + ∑ j : Fin 128, f ⟨128 + j.val, by omega⟩ := by
  rw [show (∑ x : Fin 256, f x) = ∑ x : Fin (128 + 128), f x from rfl, Fin.sum_univ_add]
  rfl

theorem sum_join (f : Fin 257 → EReal) :
    ∑ l : Fin 257, f l = (∑ j : Fin 128, f ⟨j.val, by omega⟩) + (∑ j : Fin 128, f ⟨128 + j.val, by omega⟩) + f ⟨256, by omega⟩ := by
  rw [show (∑ l : Fin 257, f l) = ∑ l : Fin (256 + 1), f l from rfl, Fin.sum_univ_castSucc]
  rw [sum_pair (fun x => f (Fin.castSucc x))]
  rfl

theorem joined_low (sp sc : Fin 128 → EReal) (sk : EReal) (j : Fin 128) : joined sp sc sk ⟨j.val, by omega⟩ = sp j := by
  unfold joined; rw [dif_pos (show j.val < 128 from j.isLt)]

theorem joined_mid (sp sc : Fin 128 → EReal) (sk : EReal) (j : Fin 128) : joined sp sc sk ⟨128 + j.val, by omega⟩ = sc j := by
  unfold joined
  rw [dif_neg (show ¬ 128 + j.val < 128 by omega), dif_pos (show 128 + j.val < 256 by omega)]
  exact congrArg sc (Fin.ext (by show 128 + j.val - 128 = j.val; omega))

theorem joined_last (sp sc : Fin 128 → EReal) (sk : EReal) : joined sp sc sk ⟨256, by omega⟩ = sk := by
  unfold joined
  rw [dif_neg (show ¬ (256 : ℕ) < 128 by omega), dif_neg (show ¬ (256 : ℕ) < 256 by omega)]

theorem paired_low (vp vc : Fin 128 → EReal) (j : Fin 128) : paired vp vc ⟨j.val, by omega⟩ = vp j := by
  unfold paired; rw [dif_pos (show j.val < 128 from j.isLt)]

theorem paired_mid (vp vc : Fin 128 → EReal) (j : Fin 128) : paired vp vc ⟨128 + j.val, by omega⟩ = vc j := by
  unfold paired
  rw [dif_neg (show ¬ 128 + j.val < 128 by omega)]
  exact congrArg vc (Fin.ext (by show 128 + j.val - 128 = j.val; omega))

/-- A real factor that is not negative goes through a sum of extended reals. -/
theorem sum_mul_of_nonneg {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

theorem exp_sub {x t : EReal} (ht : IsR t) (hx : x ≠ ⊤) : ∃ r : ℝ, 0 ≤ r ∧ (x ≠ ⊥ → 0 < r) ∧ Ideal.exp (x - t) = (r : EReal) := by
  obtain ⟨b, rfl⟩ := ht
  by_cases h0 : x = ⊥
  · refine ⟨0, le_rfl, fun h => absurd h0 h, ?_⟩
    rw [h0, show (⊥ : EReal) - (b : EReal) = ⊥ from by rw [sub_eq_add_neg, EReal.bot_add]]
    rfl
  · obtain ⟨a, rfl⟩ := isR_of_ne h0 hx
    refine ⟨Real.exp (a - b), (Real.exp_pos _).le, fun _ => Real.exp_pos _, ?_⟩
    rw [← EReal.coe_sub]
    rfl

/-- Dividing every exponential first gives what dividing the weighted sum last gives. -/
theorem soft_eq (sp sc : Fin 128 → EReal) (sk : EReal) (vp vc : Fin 128 → EReal) (hp : ∀ j, sp j ≠ ⊤) (hc : ∀ j, sc j ≠ ⊤)
    (hs : sk ≠ ⊤) (i : Fin 128) (hi : sc i ≠ ⊥) :
    ∑ x : Fin 256, paired vp vc x * Ideal.div
        (Ideal.exp (joined sp sc sk ⟨x.val, by omega⟩ - max ⊥ (Finset.univ.sup (joined sp sc sk))))
        (∑ l : Fin 257, Ideal.exp (joined sp sc sk l - max ⊥ (Finset.univ.sup (joined sp sc sk))))
      = soft sp sc sk vp vc := by
  have hr : ∀ l, joined sp sc sk l ≠ ⊤ := by
    intro l
    unfold joined
    split
    · exact hp _
    · split
      · exact hc _
      · exact hs
  have eT : max ⊥ (Finset.univ.sup (joined sp sc sk)) = max (max (Finset.univ.sup sp) (Finset.univ.sup sc)) sk := by
    rw [sup_joined]; exact max_eq_right bot_le
  have hT : IsR (max (max (Finset.univ.sup sp) (Finset.univ.sup sc)) sk) := by
    rw [← sup_joined]
    refine isR_of_ne ?_ ?_
    · intro e
      have := Finset.le_sup (f := joined sp sc sk) (Finset.mem_univ (⟨128 + i.val, by omega⟩ : Fin 257))
      rw [e, joined_mid] at this
      exact hi (le_bot_iff.mp this)
    · intro e
      have : Finset.univ.sup (joined sp sc sk) < ⊤ :=
        (Finset.sup_lt_iff (by exact bot_lt_top)).mpr fun l _ => lt_top_iff_ne_top.mpr (hr l)
      exact this.ne e
  rw [eT]
  unfold soft
  generalize max (max (Finset.univ.sup sp) (Finset.univ.sup sc)) sk = T at hT ⊢
  choose f hf0 hf1 hf using fun l => exp_sub hT (hr l)
  have hD : (∑ l : Fin 257, Ideal.exp (joined sp sc sk l - T)) = ((∑ l : Fin 257, f l : ℝ) : EReal) := by
    rw [← coe_sum]; exact Finset.sum_congr rfl fun l _ => hf l
  have hpos : 0 < ∑ l : Fin 257, f l := by
    refine Finset.sum_pos' (fun l _ => hf0 l) ⟨⟨128 + i.val, by omega⟩, Finset.mem_univ _, hf1 _ ?_⟩
    rw [joined_mid]; exact hi
  have hden : (∑ j : Fin 128, Ideal.exp (sp j - T)) + (∑ j : Fin 128, Ideal.exp (sc j - T)) + Ideal.exp (sk - T)
      = ((∑ l : Fin 257, f l : ℝ) : EReal) := by
    rw [← hD, sum_join]
    simp only [joined_low, joined_mid, joined_last]
  rw [hD, hden]
  have hdiv : ∀ x : EReal, Ideal.div x ((∑ l : Fin 257, f l : ℝ) : EReal) = x * (((∑ l : Fin 257, f l)⁻¹ : ℝ) : EReal) := by
    intro x
    unfold Ideal.div
    rw [if_neg (by exact_mod_cast hpos.ne'), EReal.coe_inv]
  simp only [hdiv]
  have hnum : (∑ j : Fin 128, Ideal.exp (sp j - T) * vp j) + (∑ j : Fin 128, Ideal.exp (sc j - T) * vc j)
      = ∑ x : Fin 256, paired vp vc x * Ideal.exp (joined sp sc sk ⟨x.val, by omega⟩ - T) := by
    rw [sum_pair]
    simp only [paired_low, paired_mid, joined_low, joined_mid]
    exact congrArg₂ (· + ·) (Finset.sum_congr rfl fun j _ => mul_comm _ _) (Finset.sum_congr rfl fun j _ => mul_comm _ _)
  rw [hnum, sum_mul_of_nonneg _ _ _ (inv_nonneg.mpr hpos.le)]
  exact Finset.sum_congr rfl fun x _ => (mul_assoc _ _ _).symm

end Cert.Proof.Spec

end
-- ==== Proof.AttnPoint.lean ====
/- One grid point of the attention, entry by entry: the queries, keys and values of its blocks, and its result from them
   and from the keys and values carried to it. -/
module

public import proofs.«01_k».proof.Proof.AttnHost
public import proofs.«01_k».proof.Proof.AttnReal

@[expose] public section

set_option maxRecDepth 16384

noncomputable section

namespace Cert.Proof.Attn

open Idealize.ShloMosaic Idealize.ShloMosaic.TcCoe Idealize.SL.Sem Idealize.ShloMosaic.StableHlo
open Cert.KernelIdeal Cert.KernelIdeal.Gen Cert.Proof.Spec

variable (m : (ℓ : Loc nD τ sig) → Buf (Elt Ideal) ℓ)

/-- The arguments at launch are where the claim asks them to be. -/
abbrev FineAt (c : Dev nD) : Prop := Fine (kP m c) (kQ m c) (kK m c) (kS m c)

theorem rms_of {x x' g : Fin 64 → EReal} {d d' : Fin 64} (hx : ∀ e, x e = x' e) (hd : d.val = d'.val) : rms x g d = rms x' g d' := by
  obtain rfl : x = x' := funext hx
  obtain rfl : d = d' := Fin.ext hd
  rfl

section Words
variable (P : (⟨3, ![16, 2048, 5120]⟩ : Shape).Idx → EReal) (pos : (⟨2, ![16, 2048]⟩ : Shape).Idx → BitVec 32) (g : (⟨1, ![64]⟩ : Shape).Idx → EReal)

theorem qry_of {b b' : Fin 16} {t t' : Fin 2048} {h h' : Fin 8} {d d' : Fin 64} (hb : b.val = b'.val) (ht : t.val = t'.val) (hh : h.val = h'.val) (hd : d.val = d'.val) :
    qry P pos g b t h d = qry P pos g b' t' h' d' := by
  obtain rfl : b = b' := Fin.ext hb
  obtain rfl : t = t' := Fin.ext ht
  obtain rfl : h = h' := Fin.ext hh
  obtain rfl : d = d' := Fin.ext hd
  rfl

theorem key_of {b b' : Fin 16} {t t' : Fin 2048} {h h' : Fin 2} {d d' : Fin 64} (hb : b.val = b'.val) (ht : t.val = t'.val) (hh : h.val = h'.val) (hd : d.val = d'.val) :
    key P pos g b t h d = key P pos g b' t' h' d' := by
  obtain rfl : b = b' := Fin.ext hb
  obtain rfl : t = t' := Fin.ext ht
  obtain rfl : h = h' := Fin.ext hh
  obtain rfl : d = d' := Fin.ext hd
  rfl

theorem val_of {b b' : Fin 16} {t t' : Fin 2048} {h h' : Fin 2} {d d' : Fin 64} (hb : b.val = b'.val) (ht : t.val = t'.val) (hh : h.val = h'.val) (hd : d.val = d'.val) :
    val P b t h d = val P b' t' h' d' := by
  obtain rfl : b = b' := Fin.ext hb
  obtain rfl : t = t' := Fin.ext ht
  obtain rfl : h = h' := Fin.ext hh
  obtain rfl : d = d' := Fin.ext hd
  rfl

theorem cell_of {b b' : Fin 16} {t t' : Fin 2048} {k k' : Fin 5120} (hb : b.val = b'.val) (ht : t.val = t'.val) (hk : k.val = k'.val) :
    P (ix3 b t k) = P (ix3 b' t' k') := by
  obtain rfl : b = b' := Fin.ext hb
  obtain rfl : t = t' := Fin.ext ht
  obtain rfl : k = k' := Fin.ext hk
  rfl

end Words

theorem cell_real (c : Dev nD) (F : FineAt m c) (b : Fin 16) (t : Fin 2048) (x : Fin 5120) (h1 : 1792 ≤ x.val) (h2 : x.val < 2432) : IsR (kP m c (ix3 b t x)) := by
  have e : x = ⟨1792 + (x.val - 1792), by omega⟩ := Fin.ext (by show x.val = 1792 + (x.val - 1792); omega)
  rw [e]
  exact F.cols b t ⟨x.val - 1792, by omega⟩

/-! ### The blocks' queries, keys and values -/

abbrev qLow (c : Dev nD) (t : Fin cfg0.N) : FVec Ideal S1024x256 .f32 :=
  qA (iblk m c 0 t) (iblk m c 1 t) (iblk m c 2 t) (iblk m c 5 t) (iblk m c 8 t)
abbrev qHigh (c : Dev nD) (t : Fin cfg0.N) : FVec Ideal S1024x256 .f32 :=
  qA (iblk m c 0 t) (iblk m c 1 t) (iblk m c 3 t) (iblk m c 5 t) (iblk m c 8 t)
abbrev kHere (c : Dev nD) (t : Fin cfg0.N) : FVec Ideal S1024x128 .f32 :=
  kC (iblk m c 0 t) (iblk m c 1 t) (iblk m c 4 t) (half6 (iblk m c 6 t)) (iblk m c 8 t)
abbrev vHere (c : Dev nD) (t : Fin cfg0.N) : FVec Ideal S1024x128 .f32 := vC (iblk m c 4 t)

theorem qLow_at (c : Dev nD) (F : FineAt m c) (t : Fin cfg0.N) (r : Fin 1024) (k : Fin 256) :
    qLow m c t (ix2 r k) = qry (kP m c) (kPos m c) (kQ m c) (mem' t ⟨r.val / 128, by omega⟩) (at' (stp t) ⟨r.val % 128, by omega⟩) ⟨k.val / 64, by omega⟩ ⟨k.val % 64, by omega⟩ := by
  refine (qA_at _ _ _ _ _ r _ (cosTable m c t _ _) (sinTable m c t _ _) k
    (rms (fun e => kP m c (ix3 (mem' t ⟨r.val / 128, by omega⟩) (at' (stp t) ⟨r.val % 128, by omega⟩) ⟨1792 + (k.val / 64 * 64 + e.val), by omega⟩)) (fun e => kQ m c (ix1 e))) ?_).trans rfl
  intro e
  refine (qN_at _ _ _ (blk8 m c t) (fun e => kQ m c (ix1 e)) (blk5 m c t) r ?_ _).trans ?_
  · intro x
    have h := cell_real m c F (mem' t ⟨r.val / 128, by omega⟩) (at' (stp t) ⟨r.val % 128, by omega⟩) ⟨1792 + x.val, by omega⟩ (by show 1792 ≤ 1792 + x.val; omega) (by show 1792 + x.val < 2432; omega)
    rw [blk2]
    exact ⟨h.ne_bot, h.ne_top⟩
  · refine rms_of (fun e' => ?_) (by show (k.val / 64 * 64 + e.val) % 64 = e.val; omega)
    rw [blk2]
    exact cell_of _ rfl rfl (by show 1792 + ((k.val / 64 * 64 + e.val) / 64 * 64 + e'.val) = 1792 + (k.val / 64 * 64 + e'.val); omega)

theorem qHigh_at (c : Dev nD) (F : FineAt m c) (t : Fin cfg0.N) (r : Fin 1024) (k : Fin 256) :
    qHigh m c t (ix2 r k) = qry (kP m c) (kPos m c) (kQ m c) (mem' t ⟨r.val / 128, by omega⟩) (at' (stp t) ⟨r.val % 128, by omega⟩) ⟨4 + k.val / 64, by omega⟩ ⟨k.val % 64, by omega⟩ := by
  refine (qA_at _ _ _ _ _ r _ (cosTable m c t _ _) (sinTable m c t _ _) k
    (rms (fun e => kP m c (ix3 (mem' t ⟨r.val / 128, by omega⟩) (at' (stp t) ⟨r.val % 128, by omega⟩) ⟨1792 + ((4 + k.val / 64) * 64 + e.val), by omega⟩)) (fun e => kQ m c (ix1 e))) ?_).trans rfl
  intro e
  refine (qN_at _ _ _ (blk8 m c t) (fun e => kQ m c (ix1 e)) (blk5 m c t) r ?_ _).trans ?_
  · intro x
    have h := cell_real m c F (mem' t ⟨r.val / 128, by omega⟩) (at' (stp t) ⟨r.val % 128, by omega⟩) ⟨2048 + x.val, by omega⟩ (by show 1792 ≤ 2048 + x.val; omega) (by show 2048 + x.val < 2432; omega)
    rw [blk3]
    exact ⟨h.ne_bot, h.ne_top⟩
  · refine rms_of (fun e' => ?_) (by show (k.val / 64 * 64 + e.val) % 64 = e.val; omega)
    rw [blk3]
    exact cell_of _ rfl rfl (by show 2048 + ((k.val / 64 * 64 + e.val) / 64 * 64 + e'.val) = 1792 + ((4 + k.val / 64) * 64 + e'.val); omega)

theorem kHere_at (c : Dev nD) (F : FineAt m c) (t : Fin cfg0.N) (r : Fin 1024) (k : Fin 128) :
    kHere m c t (ix2 r k) = key (kP m c) (kPos m c) (kK m c) (mem' t ⟨r.val / 128, by omega⟩) (at' (stp t) ⟨r.val % 128, by omega⟩) ⟨k.val / 64, by omega⟩ ⟨k.val % 64, by omega⟩ := by
  refine (kC_at _ _ _ _ _ r _ (cosTable m c t _ _) (sinTable m c t _ _) k
    (rms (fun e => kP m c (ix3 (mem' t ⟨r.val / 128, by omega⟩) (at' (stp t) ⟨r.val % 128, by omega⟩) ⟨1792 + (512 + (k.val / 64 * 64 + e.val)), by omega⟩)) (fun e => kK m c (ix1 e))) ?_).trans rfl
  intro e
  refine (kN_at _ _ _ (blk8 m c t) (fun e => kK m c (ix1 e)) (fun k => blk6 m c t ⟨k.val, by omega⟩) r ?_ _).trans ?_
  · intro x
    have h := cell_real m c F (mem' t ⟨r.val / 128, by omega⟩) (at' (stp t) ⟨r.val % 128, by omega⟩) ⟨2304 + x.val, by omega⟩ (by show 1792 ≤ 2304 + x.val; omega) (by show 2304 + x.val < 2432; omega)
    rw [blk4]
    exact ⟨h.ne_bot, h.ne_top⟩
  · refine rms_of (fun e' => ?_) (by show (k.val / 64 * 64 + e.val) % 64 = e.val; omega)
    rw [blk4]
    exact cell_of _ rfl rfl (by show 2304 + ((k.val / 64 * 64 + e.val) / 64 * 64 + e'.val) = 1792 + (512 + (k.val / 64 * 64 + e'.val)); omega)

theorem vHere_at (c : Dev nD) (t : Fin cfg0.N) (r : Fin 1024) (k : Fin 128) :
    vHere m c t (ix2 r k) = val (kP m c) (mem' t ⟨r.val / 128, by omega⟩) (at' (stp t) ⟨r.val % 128, by omega⟩) ⟨k.val / 64, by omega⟩ ⟨k.val % 64, by omega⟩ := by
  refine (vC_at _ r k).trans ?_
  rw [blk4]
  exact cell_of _ rfl rfl (by show 2304 + (128 + k.val) = 1792 + (640 + (k.val / 64 * 64 + k.val % 64)); omega)

/-! ### The result of a point -/

section Point
variable (c : Dev nD) (F : FineAt m c) (t : Fin cfg0.N) (s : Fin 8) (h : Fin 8) (r j : Fin 128) (d : Fin 64)

abbrev row3 : Fin 16 := ⟨2 * s.val + h.val / 4, by omega⟩
abbrev col3 : Fin 512 := ⟨h.val % 4 * 128 + r.val, by omega⟩

include F in
theorem groups_qry : groups (qLow m c t) (qHigh m c t) (ix3 (row3 s h) (col3 h r) d) = qry (kP m c) (kPos m c) (kQ m c) (mem' t s) (at' (stp t) r) h d := by
  rw [groups_at]
  split
  · next e =>
    change (2 * s.val + h.val / 4) % 2 = 0 at e
    rw [qLow_at m c F]
    refine qry_of _ _ _ ?_ ?_ ?_ ?_ <;> dsimp only <;> omega
  · next e =>
    change ¬ (2 * s.val + h.val / 4) % 2 = 0 at e
    rw [qHigh_at m c F]
    refine qry_of _ _ _ ?_ ?_ ?_ ?_ <;> dsimp only <;> omega

include F in
theorem heads_key : heads (kHere m c t) (ix3 (row3 s h) j d) = key (kP m c) (kPos m c) (kK m c) (mem' t s) (at' (stp t) j) (grp h) d := by
  rw [heads_at, kHere_at m c F]
  refine key_of _ _ _ ?_ ?_ ?_ ?_ <;> dsimp only <;> omega

theorem heads_val : heads (vHere m c t) (ix3 (row3 s h) j d) = val (kP m c) (mem' t s) (at' (stp t) j) (grp h) d := by
  rw [heads_at, vHere_at m c]
  refine val_of _ ?_ ?_ ?_ ?_ <;> dsimp only <;> omega

include F in
theorem scoreC_cur : scoreC (groups (qLow m c t) (qHigh m c t)) (heads (kHere m c t)) (ix3 (row3 s h) (col3 h r) j)
    = scur (kP m c) (kPos m c) (kQ m c) (kK m c) (mem' t s) (stp t) h r j := by
  rw [scoreC_at]
  unfold scur
  refine if_congr (by show j.val ≤ (h.val % 4 * 128 + r.val) % 128 ↔ j.val ≤ r.val; omega) (Finset.sum_congr rfl fun x _ => ?_) rfl
  rw [groups_qry m c F, heads_key m c F]

theorem sink_row : (iblk m c 7 t : Vec Ideal S16x512x1 .f32) (ix3 (row3 s h) (col3 h r) 0) = kS m c (ix1 h) := by
  rw [blk7]
  exact congrArg (fun h => kS m c (ix1 h)) (Fin.ext (by show (2 * s.val + h.val / 4) % 2 * 4 + (h.val % 4 * 128 + r.val) / 128 = h.val; omega))

abbrev pointAt (z : Ideal .f32) (kp vp : FVec Ideal S1024x128 .f32) : FVec Ideal S16x512x64 .bf16 :=
  pointOut z (iblk m c 0 t) (iblk m c 1 t) (iblk m c 2 t) (iblk m c 3 t) (iblk m c 4 t) (iblk m c 5 t) (iblk m c 6 t) (iblk m c 7 t) (iblk m c 8 t) kp vp

include F in
theorem point_at (z : Ideal .f32) (kp vp : FVec Ideal S1024x128 .f32)
    (hk : ∀ j : Fin 128, scoreP (groups (qLow m c t) (qHigh m c t)) z (heads kp) (ix3 (row3 s h) (col3 h r) j)
      = sprev (kP m c) (kPos m c) (kQ m c) (kK m c) (mem' t s) (stp t) h r j)
    (hv : ∀ j : Fin 128, heads vp (ix3 (row3 s h) j d) = if 1 ≤ (stp t).val then val (kP m c) (mem' t s) (bef (stp t) j) (grp h) d else 0) :
    pointAt m c t z kp vp (ix3 (row3 s h) (col3 h r) d) = out (kP m c) (kPos m c) (kQ m c) (kK m c) (kS m c) (mem' t s) (stp t) h r d := by
  refine (out_at _ _ _ _ _ _ _ _).trans ?_
  unfold out
  rw [funext hk, funext hv, funext fun j => scoreC_cur m c F t s h r j, sink_row, funext fun j => heads_val m c t s h j d]

include F in
theorem point_first (h0 : t.val % 16 = 0) (z : Ideal .f32) (hz : z = (⊥ : EReal)) (kp vp : FVec Ideal S1024x128 .f32) (hv : ∀ i, vp i = (0 : EReal)) :
    pointAt m c t z kp vp (ix3 (row3 s h) (col3 h r) d) = out (kP m c) (kPos m c) (kQ m c) (kK m c) (kS m c) (mem' t s) (stp t) h r d := by
  refine point_at m c F t s h r d z kp vp (fun j => ?_) (fun j => ?_)
  · rw [scoreP_at, hz, EReal.add_bot]
    unfold sprev
    rw [if_neg (by rintro ⟨h1, _⟩; change 1 ≤ t.val % 16 at h1; omega)]
  · rw [heads_at, hv, if_neg (by intro h1; change 1 ≤ t.val % 16 at h1; omega)]

include F in
theorem point_next (h0 : ¬ t.val % 16 = 0) (z : Ideal .f32) (hz : z = (0 : EReal)) (u : Fin cfg0.N) (hu : u.val = t.val - 1) :
    pointAt m c t z (kHere m c u) (vHere m c u) (ix3 (row3 s h) (col3 h r) d) = out (kP m c) (kPos m c) (kQ m c) (kK m c) (kS m c) (mem' t s) (stp t) h r d := by
  refine point_at m c F t s h r d z _ _ (fun j => ?_) (fun j => ?_)
  · rw [scoreP_at, hz, add_zero]
    unfold sprev
    refine if_congr ?_ (Finset.sum_congr rfl fun x _ => ?_) rfl
    · show (h.val % 4 * 128 + r.val) % 128 < j.val ↔ 1 ≤ t.val % 16 ∧ r.val < j.val
      omega
    · rw [groups_qry m c F, heads_key m c F]
      refine congrArg (fun y => _ * y) (key_of _ _ _ ?_ ?_ rfl rfl)
      · show u.val / 16 * 8 + s.val = t.val / 16 * 8 + s.val
        omega
      · show u.val % 16 * 128 + j.val = (t.val % 16 - 1) * 128 + j.val
        omega
  · rw [heads_val, if_pos (by show 1 ≤ t.val % 16; omega)]
    refine val_of _ ?_ ?_ rfl rfl
    · show u.val / 16 * 8 + s.val = t.val / 16 * 8 + s.val
      omega
    · show u.val % 16 * 128 + j.val = (t.val % 16 - 1) * 128 + j.val
      omega

end Point

end Cert.Proof.Attn

end
-- ==== Proof.AttnSweep.lean ====
/- The attention's three results, entry by entry, over all the points. -/
module

public import proofs.«01_k».proof.Proof.AttnPoint

@[expose] public section

set_option maxRecDepth 16384
set_option maxHeartbeats 1600000

noncomputable section

namespace Cert.Proof.Attn

open Idealize.ShloMosaic Idealize.ShloMosaic.TcCoe Idealize.SL.Sem Idealize.ShloMosaic.StableHlo
open Cert.KernelIdeal Cert.KernelIdeal.Gen Cert.Proof.Spec

variable (m : (ℓ : Loc nD τ sig) → Buf (Elt Ideal) ℓ)

theorem coord1 : ∀ t : Fin cfg0.N, (grid0.coords t 1).val = t.val % 16 := (by decide +kernel : ∀ t : Fin grid0.N, (grid0.coords t 1).val = t.val % 16)

theorem first_word : ∀ n : Fin 16, Scalar.cmpi CmpIPredicate.eq (BitVec.ofNat 32 n.val) 0#32 = if n.val = 0 then 1#1 else 0#1 := by
  decide +kernel

theorem shut_first (t : Fin cfg0.N) (h0 : t.val % 16 = 0) :
    k0_pay48 (F := Ideal) (Scalar.cmpi CmpIPredicate.eq (BitVec.ofNat 32 (grid0.coords t 1).val) 0#32) = (⊥ : EReal) := by
  rw [coord1, first_word (stp t), if_pos h0]
  unfold k0_pay48
  exact neg_inf

theorem shut_next (t : Fin cfg0.N) (h0 : ¬ t.val % 16 = 0) :
    k0_pay48 (F := Ideal) (Scalar.cmpi CmpIPredicate.eq (BitVec.ofNat 32 (grid0.coords t 1).val) 0#32) = (0 : EReal) := by
  rw [coord1, first_word (stp t), if_neg h0]
  unfold k0_pay48
  exact zero_bits

theorem pay3_zero (i : S1024x128.Idx) : k0_pay3 (F := Ideal) i = (0 : EReal) := by
  obtain ⟨r, k, rfl⟩ : ∃ (r : Fin 1024) (k : Fin 128), i = ix2 r k := ⟨i 0, i 1, eq_ix2 i⟩
  pointwise [k0_pay3]

theorem carry_key (c : Dev nD) (t : Fin cfg0.N) : (outsAt0 m c t.val t.isLt).2.2.2.1 = kHere m c t := by
  by_cases h0 : t.val % 16 = 0
  · rw [outsAt0_A m c t h0]
    dsimp only
    rw [soutA_0]
  · rw [outsAt0_B m c t h0]
    dsimp only
    rw [soutB_0]

theorem carry_val (c : Dev nD) (t : Fin cfg0.N) : (outsAt0 m c t.val t.isLt).2.2.2.2 = vHere m c t := by
  by_cases h0 : t.val % 16 = 0
  · rw [outsAt0_A m c t h0]
    dsimp only
    rw [soutA_1]
  · rw [outsAt0_B m c t h0]
    dsimp only
    rw [soutB_1]

theorem rider12 (c : Dev nD) (t : Fin cfg0.N) (r : Fin 176) (k : Fin 2048) :
    (outsAt0 m c t.val t.isLt).2.1 (ix2 r k) = (iblk m c 9 t : Vec Ideal S1x176x2048 .f32) (ix3 0 r k) := by
  by_cases h0 : t.val % 16 = 0
  · rw [outsAt0_A m c t h0]
    dsimp only
    rw [outA_12]
  · rw [outsAt0_B m c t h0]
    dsimp only
    rw [outB_12]

theorem rider13 (c : Dev nD) (t : Fin cfg0.N) (r : Fin 176) (k : Fin 2048) :
    (outsAt0 m c t.val t.isLt).2.2.1 (ix2 r k) = (iblk m c 10 t : Vec Ideal S1x176x2048 .f32) (ix3 0 r k) := by
  by_cases h0 : t.val % 16 = 0
  · rw [outsAt0_A m c t h0]
    dsimp only
    rw [outA_13]
  · rw [outsAt0_B m c t h0]
    dsimp only
    rw [outB_13]

theorem place_eq (s : Fin 8) (r : Fin 128) (k : Fin 512) :
    place s r k = ix3 (row3 s ⟨k.val / 64, by omega⟩) (col3 ⟨k.val / 64, by omega⟩ r) ⟨k.val % 64, by omega⟩ := by
  have e : (⟨2 * s.val + k.val / 256, by omega⟩ : Fin 16) = row3 s ⟨k.val / 64, by omega⟩ :=
    Fin.ext (by show 2 * s.val + k.val / 256 = 2 * s.val + k.val / 64 / 4; omega)
  show ix3 (⟨2 * s.val + k.val / 256, by omega⟩ : Fin 16) _ _ = _
  rw [e]

theorem result_at (c : Dev nD) (F : FineAt m c) (t : Fin cfg0.N) (s : Fin 8) (r : Fin 128) (k : Fin 512) :
    (outsAt0 m c t.val t.isLt).1 (ix3 s r k)
      = out (kP m c) (kPos m c) (kQ m c) (kK m c) (kS m c) (mem' t s) (stp t) ⟨k.val / 64, by omega⟩ r ⟨k.val % 64, by omega⟩ := by
  by_cases h0 : t.val % 16 = 0
  · rw [outsAt0_A m c t h0]
    dsimp only
    rw [outA_11, place_eq]
    exact point_first m c F t s _ r _ h0 _ (shut_first t h0) _ _ pay3_zero
  · rw [outsAt0_B m c t h0]
    dsimp only
    rw [outB_11, place_eq, carry_key m c ⟨t.val - 1, Nat.lt_of_le_of_lt (Nat.sub_le _ _) t.isLt⟩,
      carry_val m c ⟨t.val - 1, Nat.lt_of_le_of_lt (Nat.sub_le _ _) t.isLt⟩]
    exact point_next m c F t s _ r _ h0 _ (shut_next t h0) _ rfl

/-! ### The arrays after the call -/

theorem out_of (c : Dev nD) {b b' n n' : Fin 16} {h h' : Fin 8} {i i' : Fin 128} {d d' : Fin 64} (hb : b.val = b'.val) (hn : n.val = n'.val)
    (hh : h.val = h'.val) (hi : i.val = i'.val) (hd : d.val = d'.val) :
    out (kP m c) (kPos m c) (kQ m c) (kK m c) (kS m c) b n h i d = out (kP m c) (kPos m c) (kQ m c) (kK m c) (kS m c) b' n' h' i' d' := by
  obtain rfl : b = b' := Fin.ext hb
  obtain rfl : n = n' := Fin.ext hn
  obtain rfl : h = h' := Fin.ext hh
  obtain rfl : i = i' := Fin.ext hi
  obtain rfl : d = d' := Fin.ext hd
  rfl

theorem result11 (c : Dev nD) (F : FineAt m c) (b : Fin 16) (t : Fin 2048) (k : Fin 512) :
    Value.G11 m c (ix3 b t k)
      = out (kP m c) (kPos m c) (kQ m c) (kK m c) (kS m c) b ⟨t.val / 128, by omega⟩ ⟨k.val / 64, by omega⟩ ⟨t.val % 128, by omega⟩ ⟨k.val % 64, by omega⟩ := by
  have hN : cfg0.N = 32 := N_0
  have hp : Value.pt11Of (ix3 b t k) = 16 * (b.val / 8) + t.val / 128 := by
    show 16 * (b.val / 8 - 0) + 1 * (t.val / 128 - 0) + 1 * (k.val / 512 - 0) = _
    omega
  have hl : Value.loc11Of (ix3 b t k) = ix3 ⟨b.val % 8, by omega⟩ ⟨t.val % 128, by omega⟩ k := by
    funext a
    apply Fin.ext
    match a with
    | ⟨0, _⟩ => rfl
    | ⟨1, _⟩ => rfl
    | ⟨2, _⟩ => exact Nat.mod_eq_of_lt k.isLt
  have h : Value.pt11Of (ix3 b t k) < cfg0.N := by omega
  unfold Value.G11
  rw [dif_pos h, ← Value.outsAt0_sweep m c _ h, hl]
  refine (result_at m c F ⟨_, h⟩ _ _ k).trans (out_of m c ?_ ?_ rfl rfl rfl)
  · show Value.pt11Of (ix3 b t k) / 16 * 8 + b.val % 8 = b.val
    omega
  · show Value.pt11Of (ix3 b t k) % 16 = t.val / 128
    omega

theorem result12 (c : Dev nD) (r : Fin 5632) (k : Fin 2048) :
    Value.G12 m c (ix2 r k) = (m (c.tc.loc main_arg5) : S2x5632x2048.Idx → EReal) (ix3 0 r k) := by
  have hN : cfg0.N = 32 := N_0
  have hp : Value.pt12Of (ix2 r k) = r.val / 176 := by
    show 1 * (r.val / 176 - 0) + 1 * (k.val / 2048 - 0) = _
    omega
  have hl : Value.loc12Of (ix2 r k) = ix2 ⟨r.val % 176, by omega⟩ k := by
    funext a
    apply Fin.ext
    match a with
    | ⟨0, _⟩ => rfl
    | ⟨1, _⟩ => exact Nat.mod_eq_of_lt k.isLt
  have h : Value.pt12Of (ix2 r k) < cfg0.N := by omega
  unfold Value.G12
  rw [dif_pos h, ← Value.outsAt0_sweep m c _ h, hl]
  refine (rider12 m c ⟨_, h⟩ _ k).trans ?_
  rw [blk9]
  exact congrArg (fun r => (m (c.tc.loc main_arg5) : S2x5632x2048.Idx → EReal) (ix3 0 r k)) (Fin.ext (by
    show Value.pt12Of (ix2 r k) * 176 + r.val % 176 = r.val
    omega))

theorem result13 (c : Dev nD) (r : Fin 5632) (k : Fin 2048) :
    Value.G13 m c (ix2 r k) = (m (c.tc.loc main_arg6) : S2x5632x2048.Idx → EReal) (ix3 1 r k) := by
  have hN : cfg0.N = 32 := N_0
  have hp : Value.pt13Of (ix2 r k) = r.val / 176 := by
    show 1 * (r.val / 176 - 0) + 1 * (k.val / 2048 - 0) = _
    omega
  have hl : Value.loc13Of (ix2 r k) = ix2 ⟨r.val % 176, by omega⟩ k := by
    funext a
    apply Fin.ext
    match a with
    | ⟨0, _⟩ => rfl
    | ⟨1, _⟩ => exact Nat.mod_eq_of_lt k.isLt
  have h : Value.pt13Of (ix2 r k) < cfg0.N := by omega
  unfold Value.G13
  rw [dif_pos h, ← Value.outsAt0_sweep m c _ h, hl]
  refine (rider13 m c ⟨_, h⟩ _ k).trans ?_
  rw [blk10]
  exact congrArg (fun r => (m (c.tc.loc main_arg6) : S2x5632x2048.Idx → EReal) (ix3 1 r k)) (Fin.ext (by
    show Value.pt13Of (ix2 r k) * 176 + r.val % 176 = r.val
    omega))

end Cert.Proof.Attn

end
-- ==== Proof.AttnOps.lean ====
/- The attention's reference as lists of its array operations, stage by stage, and its run. -/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option maxRecDepth 16384

noncomputable section

namespace Cert.Proof.AttnRef

open Cert.ReferenceIdeal Cert.ReferenceIdeal.Gen Idealize.ShloMosaic Idealize.ShloMosaic.TcCoe Idealize.SL.Sem Idealize.ShloMosaic.StableHlo

variable {F : FTy → Type} [FloatOps F]

/-- The parts of `main_v67` put side by side. -/
def joinQ : (main_v61 : Ref sig .tc).ty.Contents (Elt F) → (main_v66 : Ref sig .tc).ty.Contents (Elt F) → (main_v56 : Ref sig .tc).ty.Contents (Elt F) → (main_v67 : Ref sig .tc).ty.Contents (Elt F) :=
  (fun u0 u1 u2 => (concatenate S16x2048x8x64 3 [⟨S16x2048x8x8, (u0 : (⟨S16x2048x8x8, .f32⟩ : BufTy).Contents (Elt F))⟩, ⟨S16x2048x8x8, (u1 : (⟨S16x2048x8x8, .f32⟩ : BufTy).Contents (Elt F))⟩, ⟨S16x2048x8x48, (u2 : (⟨S16x2048x8x48, .f32⟩ : BufTy).Contents (Elt F))⟩] concatenates_S16x2048x8x8_S16x2048x8x8_S16x2048x8x48_S16x2048x8x64_d3 : (⟨S16x2048x8x64, .f32⟩ : BufTy).Contents (Elt F)))

/-- The parts of `main_v81` put side by side. -/
def joinK : (main_v75 : Ref sig .tc).ty.Contents (Elt F) → (main_v80 : Ref sig .tc).ty.Contents (Elt F) → (main_v70 : Ref sig .tc).ty.Contents (Elt F) → (main_v81 : Ref sig .tc).ty.Contents (Elt F) :=
  (fun u0 u1 u2 => (concatenate S16x2048x2x64 3 [⟨S16x2048x2x8, (u0 : (⟨S16x2048x2x8, .f32⟩ : BufTy).Contents (Elt F))⟩, ⟨S16x2048x2x8, (u1 : (⟨S16x2048x2x8, .f32⟩ : BufTy).Contents (Elt F))⟩, ⟨S16x2048x2x48, (u2 : (⟨S16x2048x2x48, .f32⟩ : BufTy).Contents (Elt F))⟩] concatenates_S16x2048x2x8_S16x2048x2x8_S16x2048x2x48_S16x2048x2x64_d3 : (⟨S16x2048x2x64, .f32⟩ : BufTy).Contents (Elt F)))

/-- The parts of `main_v89` put side by side. -/
def pairK : (⟨S16x16x128x2x64, .f32⟩ : BufTy).Contents (Elt F) → (⟨S16x16x128x2x64, .f32⟩ : BufTy).Contents (Elt F) → (⟨S16x16x256x2x64, .f32⟩ : BufTy).Contents (Elt F) :=
  (fun a b => concatenate S16x16x256x2x64 2 [⟨S16x16x128x2x64, a⟩, ⟨S16x16x128x2x64, b⟩] concatenates_S16x16x128x2x64_S16x16x128x2x64_S16x16x256x2x64_d2)

/-- The parts of `main_v92` put side by side. -/
def pairV : (⟨S16x16x128x2x64, .f32⟩ : BufTy).Contents (Elt F) → (⟨S16x16x128x2x64, .f32⟩ : BufTy).Contents (Elt F) → (⟨S16x16x256x2x64, .f32⟩ : BufTy).Contents (Elt F) :=
  (fun a b => concatenate S16x16x256x2x64 2 [⟨S16x16x128x2x64, a⟩, ⟨S16x16x128x2x64, b⟩] concatenates_S16x16x128x2x64_S16x16x128x2x64_S16x16x256x2x64_d2)

/-- The parts of `main_v130` put side by side. -/
def withSink : (⟨S16x16x2x4x128x256, .f32⟩ : BufTy).Contents (Elt F) → (⟨S16x16x2x4x128x1, .f32⟩ : BufTy).Contents (Elt F) → (⟨S16x16x2x4x128x257, .f32⟩ : BufTy).Contents (Elt F) :=
  (fun a b => concatenate S16x16x2x4x128x257 5 [⟨S16x16x2x4x128x256, a⟩, ⟨S16x16x2x4x128x1, b⟩] concatenates_S16x16x2x4x128x256_S16x16x2x4x128x1_S16x16x2x4x128x257_d5)

/-- The stage that computes the normalized queries. -/
abbrev opsQNorm : List (HloOp τ sig (Elt F)) :=
  [ unary main_arg0 main_v0 ((extractStridedSlice S16x2048x768 ![0, 0, 1792] · slices_S16x2048x5120_S16x2048x768_0_0_1792) : (⟨S16x2048x5120, .bf16⟩ : BufTy).Contents (Elt F) → (⟨S16x2048x768, .bf16⟩ : BufTy).Contents (Elt F)),
    unary main_v0 main_v1 ((extf .f32 · bitsLt_bf16_f32) : (⟨S16x2048x768, .bf16⟩ : BufTy).Contents (Elt F) → (⟨S16x2048x768, .f32⟩ : BufTy).Contents (Elt F)),
    unary main_v1 main_v2 ((extractStridedSlice S16x2048x512 ![0, 0, 0] · slices_S16x2048x768_S16x2048x512_0_0_0) : (⟨S16x2048x768, .f32⟩ : BufTy).Contents (Elt F) → (⟨S16x2048x512, .f32⟩ : BufTy).Contents (Elt F)),
    unary main_v1 main_v3 ((extractStridedSlice S16x2048x128 ![0, 0, 512] · slices_S16x2048x768_S16x2048x128_0_0_512) : (⟨S16x2048x768, .f32⟩ : BufTy).Contents (Elt F) → (⟨S16x2048x128, .f32⟩ : BufTy).Contents (Elt F)),
    unary main_v1 main_v4 ((extractStridedSlice S16x2048x128 ![0, 0, 640] · slices_S16x2048x768_S16x2048x128_0_0_640) : (⟨S16x2048x768, .f32⟩ : BufTy).Contents (Elt F) → (⟨S16x2048x128, .f32⟩ : BufTy).Contents (Elt F)),
    reshape main_v2 main_v5 (rfl : (.f32 : EltTy) = .f32) shapeCasts_S16x2048x512_S16x2048x8x64,
    binary main_v5 main_v5 main_v6 (mulf : (⟨S16x2048x8x64, .f32⟩ : BufTy).Contents (Elt F) → (⟨S16x2048x8x64, .f32⟩ : BufTy).Contents (Elt F) → (⟨S16x2048x8x64, .f32⟩ : BufTy).Contents (Elt F)),
    nullary main_cst (constant S_ .f32 0x00000000#32),
    binary main_v6 main_cst main_v7 ((fun x v => Host.reduceAdd x v reducesTo_S16x2048x8x64_S16x2048x8_d3 h_S_) : (⟨S16x2048x8x64, .f32⟩ : BufTy).Contents (Elt F) → (⟨S_, .f32⟩ : BufTy).Contents (Elt F) → (⟨S16x2048x8, .f32⟩ : BufTy).Contents (Elt F)),
    unary main_v7 main_v8 (broadcastInDim S16x2048x8x1 ![0, 1, 2] bcast_S16x2048x8_S16x2048x8x1_0_1_2 : (⟨S16x2048x8, .f32⟩ : BufTy).Contents (Elt F) → (⟨S16x2048x8x1, .f32⟩ : BufTy).Contents (Elt F)),
    nullary main_cst_0 (constant S_ .f32 0x42800000#32),
    unary main_cst_0 main_v9 (broadcastInDim S16x2048x8x1 ![] bcast_S_S16x2048x8x1 : (⟨S_, .f32⟩ : BufTy).Contents (Elt F) → (⟨S16x2048x8x1, .f32⟩ : BufTy).Contents (Elt F)),
    binary main_v8 main_v9 main_v10 (Host.divf : (⟨S16x2048x8x1, .f32⟩ : BufTy).Contents (Elt F) → (⟨S16x2048x8x1, .f32⟩ : BufTy).Contents (Elt F) → (⟨S16x2048x8x1, .f32⟩ : BufTy).Contents (Elt F)),
    nullary main_cst_1 (constant S_ .f32 0x358637BD#32),
    unary main_cst_1 main_v11 (broadcastInDim S16x2048x8x1 ![] bcast_S_S16x2048x8x1 : (⟨S_, .f32⟩ : BufTy).Contents (Elt F) → (⟨S16x2048x8x1, .f32⟩ : BufTy).Contents (Elt F)),
    binary main_v10 main_v11 main_v12 (addf : (⟨S16x2048x8x1, .f32⟩ : BufTy).Contents (Elt F) → (⟨S16x2048x8x1, .f32⟩ : BufTy).Contents (Elt F) → (⟨S16x2048x8x1, .f32⟩ : BufTy).Contents (Elt F)),
    unary main_v12 main_v13 (Host.rsqrt : (⟨S16x2048x8x1, .f32⟩ : BufTy).Contents (Elt F) → (⟨S16x2048x8x1, .f32⟩ : BufTy).Contents (Elt F)),
    unary main_v13 main_v14 (broadcastInDim S16x2048x8x64 ![0, 1, 2, 3] bcast_S16x2048x8x1_S16x2048x8x64_0_1_2_3 : (⟨S16x2048x8x1, .f32⟩ : BufTy).Contents (Elt F) → (⟨S16x2048x8x64, .f32⟩ : BufTy).Contents (Elt F)),
    binary main_v5 main_v14 main_v15 (mulf : (⟨S16x2048x8x64, .f32⟩ : BufTy).Contents (Elt F) → (⟨S16x2048x8x64, .f32⟩ : BufTy).Contents (Elt F) → (⟨S16x2048x8x64, .f32⟩ : BufTy).Contents (Elt F)),
    unary main_arg2 main_v16 (broadcastInDim S1x1x1x64 ![3] bcast_S64_S1x1x1x64_3 : (⟨S64, .f32⟩ : BufTy).Contents (Elt F) → (⟨S1x1x1x64, .f32⟩ : BufTy).Contents (Elt F)),
    unary main_v16 main_v17 (broadcastInDim S16x2048x8x64 ![0, 1, 2, 3] bcast_S1x1x1x64_S16x2048x8x64_0_1_2_3 : (⟨S1x1x1x64, .f32⟩ : BufTy).Contents (Elt F) → (⟨S16x2048x8x64, .f32⟩ : BufTy).Contents (Elt F)),
    binary main_v15 main_v17 main_v18 (mulf : (⟨S16x2048x8x64, .f32⟩ : BufTy).Contents (Elt F) → (⟨S16x2048x8x64, .f32⟩ : BufTy).Contents (Elt F) → (⟨S16x2048x8x64, .f32⟩ : BufTy).Contents (Elt F)) ]

/-- The stage that computes the normalized keys and the values. -/
abbrev opsKNorm : List (HloOp τ sig (Elt F)) :=
  [ reshape main_v3 main_v19 (rfl : (.f32 : EltTy) = .f32) shapeCasts_S16x2048x128_S16x2048x2x64,
    binary main_v19 main_v19 main_v20 (mulf : (⟨S16x2048x2x64, .f32⟩ : BufTy).Contents (Elt F) → (⟨S16x2048x2x64, .f32⟩ : BufTy).Contents (Elt F) → (⟨S16x2048x2x64, .f32⟩ : BufTy).Contents (Elt F)),
    nullary main_cst_2 (constant S_ .f32 0x00000000#32),
    binary main_v20 main_cst_2 main_v21 ((fun x v => Host.reduceAdd x v reducesTo_S16x2048x2x64_S16x2048x2_d3 h_S_) : (⟨S16x2048x2x64, .f32⟩ : BufTy).Contents (Elt F) → (⟨S_, .f32⟩ : BufTy).Contents (Elt F) → (⟨S16x2048x2, .f32⟩ : BufTy).Contents (Elt F)),
    unary main_v21 main_v22 (broadcastInDim S16x2048x2x1 ![0, 1, 2] bcast_S16x2048x2_S16x2048x2x1_0_1_2 : (⟨S16x2048x2, .f32⟩ : BufTy).Contents (Elt F) → (⟨S16x2048x2x1, .f32⟩ : BufTy).Contents (Elt F)),
    nullary main_cst_3 (constant S_ .f32 0x42800000#32),
    unary main_cst_3 main_v23 (broadcastInDim S16x2048x2x1 ![] bcast_S_S16x2048x2x1 : (⟨S_, .f32⟩ : BufTy).Contents (Elt F) → (⟨S16x2048x2x1, .f32⟩ : BufTy).Contents (Elt F)),
    binary main_v22 main_v23 main_v24 (Host.divf : (⟨S16x2048x2x1, .f32⟩ : BufTy).Contents (Elt F) → (⟨S16x2048x2x1, .f32⟩ : BufTy).Contents (Elt F) → (⟨S16x2048x2x1, .f32⟩ : BufTy).Contents (Elt F)),
    nullary main_cst_4 (constant S_ .f32 0x358637BD#32),
    unary main_cst_4 main_v25 (broadcastInDim S16x2048x2x1 ![] bcast_S_S16x2048x2x1 : (⟨S_, .f32⟩ : BufTy).Contents (Elt F) → (⟨S16x2048x2x1, .f32⟩ : BufTy).Contents (Elt F)),
    binary main_v24 main_v25 main_v26 (addf : (⟨S16x2048x2x1, .f32⟩ : BufTy).Contents (Elt F) → (⟨S16x2048x2x1, .f32⟩ : BufTy).Contents (Elt F) → (⟨S16x2048x2x1, .f32⟩ : BufTy).Contents (Elt F)),
    unary main_v26 main_v27 (Host.rsqrt : (⟨S16x2048x2x1, .f32⟩ : BufTy).Contents (Elt F) → (⟨S16x2048x2x1, .f32⟩ : BufTy).Contents (Elt F)),
    unary main_v27 main_v28 (broadcastInDim S16x2048x2x64 ![0, 1, 2, 3] bcast_S16x2048x2x1_S16x2048x2x64_0_1_2_3 : (⟨S16x2048x2x1, .f32⟩ : BufTy).Contents (Elt F) → (⟨S16x2048x2x64, .f32⟩ : BufTy).Contents (Elt F)),
    binary main_v19 main_v28 main_v29 (mulf : (⟨S16x2048x2x64, .f32⟩ : BufTy).Contents (Elt F) → (⟨S16x2048x2x64, .f32⟩ : BufTy).Contents (Elt F) → (⟨S16x2048x2x64, .f32⟩ : BufTy).Contents (Elt F)),
    unary main_arg3 main_v30 (broadcastInDim S1x1x1x64 ![3] bcast_S64_S1x1x1x64_3 : (⟨S64, .f32⟩ : BufTy).Contents (Elt F) → (⟨S1x1x1x64, .f32⟩ : BufTy).Contents (Elt F)),
    unary main_v30 main_v31 (broadcastInDim S16x2048x2x64 ![0, 1, 2, 3] bcast_S1x1x1x64_S16x2048x2x64_0_1_2_3 : (⟨S1x1x1x64, .f32⟩ : BufTy).Contents (Elt F) → (⟨S16x2048x2x64, .f32⟩ : BufTy).Contents (Elt F)),
    binary main_v29 main_v31 main_v32 (mulf : (⟨S16x2048x2x64, .f32⟩ : BufTy).Contents (Elt F) → (⟨S16x2048x2x64, .f32⟩ : BufTy).Contents (Elt F) → (⟨S16x2048x2x64, .f32⟩ : BufTy).Contents (Elt F)),
    reshape main_v4 main_v33 (rfl : (.f32 : EltTy) = .f32) shapeCasts_S16x2048x128_S16x2048x2x64 ]

/-- The stage that computes the angles of the positions. -/
abbrev opsAngle : List (HloOp τ sig (Elt F)) :=
  [ nullary main_v34 (sitofp .f32 (iotaInDim S8 32 0)),
    nullary main_cst_5 (constant S_ .f32 0x40000000#32),
    unary main_cst_5 main_v35 (broadcastInDim S8 ![] bcast_S_S8 : (⟨S_, .f32⟩ : BufTy).Contents (Elt F) → (⟨S8, .f32⟩ : BufTy).Contents (Elt F)),
    binary main_v35 main_v34 main_v36 (mulf : (⟨S8, .f32⟩ : BufTy).Contents (Elt F) → (⟨S8, .f32⟩ : BufTy).Contents (Elt F) → (⟨S8, .f32⟩ : BufTy).Contents (Elt F)),
    nullary main_cst_6 (constant S_ .f32 0x00000000#32),
    unary main_cst_6 main_v37 (broadcastInDim S8 ![] bcast_S_S8 : (⟨S_, .f32⟩ : BufTy).Contents (Elt F) → (⟨S8, .f32⟩ : BufTy).Contents (Elt F)),
    binary main_v37 main_v36 main_v38 (addf : (⟨S8, .f32⟩ : BufTy).Contents (Elt F) → (⟨S8, .f32⟩ : BufTy).Contents (Elt F) → (⟨S8, .f32⟩ : BufTy).Contents (Elt F)),
    unary main_v38 main_v39 (Host.negf : (⟨S8, .f32⟩ : BufTy).Contents (Elt F) → (⟨S8, .f32⟩ : BufTy).Contents (Elt F)),
    nullary main_cst_7 (constant S_ .f32 0x41800000#32),
    unary main_cst_7 main_v40 (broadcastInDim S8 ![] bcast_S_S8 : (⟨S_, .f32⟩ : BufTy).Contents (Elt F) → (⟨S8, .f32⟩ : BufTy).Contents (Elt F)),
    binary main_v39 main_v40 main_v41 (Host.divf : (⟨S8, .f32⟩ : BufTy).Contents (Elt F) → (⟨S8, .f32⟩ : BufTy).Contents (Elt F) → (⟨S8, .f32⟩ : BufTy).Contents (Elt F)),
    nullary main_cst_8 (constant S_ .f32 0x48F42400#32),
    unary main_cst_8 main_v42 (broadcastInDim S8 ![] bcast_S_S8 : (⟨S_, .f32⟩ : BufTy).Contents (Elt F) → (⟨S8, .f32⟩ : BufTy).Contents (Elt F)),
    binary main_v42 main_v41 main_v43 (Host.powf : (⟨S8, .f32⟩ : BufTy).Contents (Elt F) → (⟨S8, .f32⟩ : BufTy).Contents (Elt F) → (⟨S8, .f32⟩ : BufTy).Contents (Elt F)),
    unary main_arg1 main_v44 (sitofp .f32 : (⟨S16x2048, .i32⟩ : BufTy).Contents (Elt F) → (⟨S16x2048, .f32⟩ : BufTy).Contents (Elt F)),
    unary main_v44 main_v45 (broadcastInDim S16x2048x1 ![0, 1] bcast_S16x2048_S16x2048x1_0_1 : (⟨S16x2048, .f32⟩ : BufTy).Contents (Elt F) → (⟨S16x2048x1, .f32⟩ : BufTy).Contents (Elt F)),
    unary main_v43 main_v46 (broadcastInDim S1x1x8 ![2] bcast_S8_S1x1x8_2 : (⟨S8, .f32⟩ : BufTy).Contents (Elt F) → (⟨S1x1x8, .f32⟩ : BufTy).Contents (Elt F)),
    unary main_v45 main_v47 (broadcastInDim S16x2048x8 ![0, 1, 2] bcast_S16x2048x1_S16x2048x8_0_1_2 : (⟨S16x2048x1, .f32⟩ : BufTy).Contents (Elt F) → (⟨S16x2048x8, .f32⟩ : BufTy).Contents (Elt F)),
    unary main_v46 main_v48 (broadcastInDim S16x2048x8 ![0, 1, 2] bcast_S1x1x8_S16x2048x8_0_1_2 : (⟨S1x1x8, .f32⟩ : BufTy).Contents (Elt F) → (⟨S16x2048x8, .f32⟩ : BufTy).Contents (Elt F)),
    binary main_v47 main_v48 main_v49 (mulf : (⟨S16x2048x8, .f32⟩ : BufTy).Contents (Elt F) → (⟨S16x2048x8, .f32⟩ : BufTy).Contents (Elt F) → (⟨S16x2048x8, .f32⟩ : BufTy).Contents (Elt F)) ]

/-- The stage that computes the turned parts of the queries. -/
abbrev opsQTurn : List (HloOp τ sig (Elt F)) :=
  [ unary main_v49 main_v50 (Host.cos : (⟨S16x2048x8, .f32⟩ : BufTy).Contents (Elt F) → (⟨S16x2048x8, .f32⟩ : BufTy).Contents (Elt F)),
    unary main_v50 main_v51 (broadcastInDim S16x2048x1x8 ![0, 1, 3] bcast_S16x2048x8_S16x2048x1x8_0_1_3 : (⟨S16x2048x8, .f32⟩ : BufTy).Contents (Elt F) → (⟨S16x2048x1x8, .f32⟩ : BufTy).Contents (Elt F)),
    unary main_v49 main_v52 (Host.sin : (⟨S16x2048x8, .f32⟩ : BufTy).Contents (Elt F) → (⟨S16x2048x8, .f32⟩ : BufTy).Contents (Elt F)),
    unary main_v52 main_v53 (broadcastInDim S16x2048x1x8 ![0, 1, 3] bcast_S16x2048x8_S16x2048x1x8_0_1_3 : (⟨S16x2048x8, .f32⟩ : BufTy).Contents (Elt F) → (⟨S16x2048x1x8, .f32⟩ : BufTy).Contents (Elt F)),
    unary main_v18 main_v54 ((extractStridedSlice S16x2048x8x8 ![0, 0, 0, 0] · slices_S16x2048x8x64_S16x2048x8x8_0_0_0_0) : (⟨S16x2048x8x64, .f32⟩ : BufTy).Contents (Elt F) → (⟨S16x2048x8x8, .f32⟩ : BufTy).Contents (Elt F)),
    unary main_v18 main_v55 ((extractStridedSlice S16x2048x8x8 ![0, 0, 0, 8] · slices_S16x2048x8x64_S16x2048x8x8_0_0_0_8) : (⟨S16x2048x8x64, .f32⟩ : BufTy).Contents (Elt F) → (⟨S16x2048x8x8, .f32⟩ : BufTy).Contents (Elt F)),
    unary main_v18 main_v56 ((extractStridedSlice S16x2048x8x48 ![0, 0, 0, 16] · slices_S16x2048x8x64_S16x2048x8x48_0_0_0_16) : (⟨S16x2048x8x64, .f32⟩ : BufTy).Contents (Elt F) → (⟨S16x2048x8x48, .f32⟩ : BufTy).Contents (Elt F)),
    unary main_v51 main_v57 (broadcastInDim S16x2048x8x8 ![0, 1, 2, 3] bcast_S16x2048x1x8_S16x2048x8x8_0_1_2_3 : (⟨S16x2048x1x8, .f32⟩ : BufTy).Contents (Elt F) → (⟨S16x2048x8x8, .f32⟩ : BufTy).Contents (Elt F)),
    binary main_v54 main_v57 main_v58 (mulf : (⟨S16x2048x8x8, .f32⟩ : BufTy).Contents (Elt F) → (⟨S16x2048x8x8, .f32⟩ : BufTy).Contents (Elt F) → (⟨S16x2048x8x8, .f32⟩ : BufTy).Contents (Elt F)),
    unary main_v53 main_v59 (broadcastInDim S16x2048x8x8 ![0, 1, 2, 3] bcast_S16x2048x1x8_S16x2048x8x8_0_1_2_3 : (⟨S16x2048x1x8, .f32⟩ : BufTy).Contents (Elt F) → (⟨S16x2048x8x8, .f32⟩ : BufTy).Contents (Elt F)),
    binary main_v55 main_v59 main_v60 (mulf : (⟨S16x2048x8x8, .f32⟩ : BufTy).Contents (Elt F) → (⟨S16x2048x8x8, .f32⟩ : BufTy).Contents (Elt F) → (⟨S16x2048x8x8, .f32⟩ : BufTy).Contents (Elt F)),
    binary main_v58 main_v60 main_v61 (subf : (⟨S16x2048x8x8, .f32⟩ : BufTy).Contents (Elt F) → (⟨S16x2048x8x8, .f32⟩ : BufTy).Contents (Elt F) → (⟨S16x2048x8x8, .f32⟩ : BufTy).Contents (Elt F)),
    unary main_v51 main_v62 (broadcastInDim S16x2048x8x8 ![0, 1, 2, 3] bcast_S16x2048x1x8_S16x2048x8x8_0_1_2_3 : (⟨S16x2048x1x8, .f32⟩ : BufTy).Contents (Elt F) → (⟨S16x2048x8x8, .f32⟩ : BufTy).Contents (Elt F)),
    binary main_v55 main_v62 main_v63 (mulf : (⟨S16x2048x8x8, .f32⟩ : BufTy).Contents (Elt F) → (⟨S16x2048x8x8, .f32⟩ : BufTy).Contents (Elt F) → (⟨S16x2048x8x8, .f32⟩ : BufTy).Contents (Elt F)),
    unary main_v53 main_v64 (broadcastInDim S16x2048x8x8 ![0, 1, 2, 3] bcast_S16x2048x1x8_S16x2048x8x8_0_1_2_3 : (⟨S16x2048x1x8, .f32⟩ : BufTy).Contents (Elt F) → (⟨S16x2048x8x8, .f32⟩ : BufTy).Contents (Elt F)),
    binary main_v54 main_v64 main_v65 (mulf : (⟨S16x2048x8x8, .f32⟩ : BufTy).Contents (Elt F) → (⟨S16x2048x8x8, .f32⟩ : BufTy).Contents (Elt F) → (⟨S16x2048x8x8, .f32⟩ : BufTy).Contents (Elt F)),
    binary main_v63 main_v65 main_v66 (addf : (⟨S16x2048x8x8, .f32⟩ : BufTy).Contents (Elt F) → (⟨S16x2048x8x8, .f32⟩ : BufTy).Contents (Elt F) → (⟨S16x2048x8x8, .f32⟩ : BufTy).Contents (Elt F)) ]

/-- The stage that computes the turned queries. -/
abbrev opsQRope : List (HloOp τ sig (Elt F)) :=
  [ nary ![main_v61, main_v66, main_v56] main_v67 (fun u => joinQ (F := F) (u 0) (u 1) (u 2)) ]

/-- The stage that computes the turned parts of the keys. -/
abbrev opsKTurn : List (HloOp τ sig (Elt F)) :=
  [ unary main_v32 main_v68 ((extractStridedSlice S16x2048x2x8 ![0, 0, 0, 0] · slices_S16x2048x2x64_S16x2048x2x8_0_0_0_0) : (⟨S16x2048x2x64, .f32⟩ : BufTy).Contents (Elt F) → (⟨S16x2048x2x8, .f32⟩ : BufTy).Contents (Elt F)),
    unary main_v32 main_v69 ((extractStridedSlice S16x2048x2x8 ![0, 0, 0, 8] · slices_S16x2048x2x64_S16x2048x2x8_0_0_0_8) : (⟨S16x2048x2x64, .f32⟩ : BufTy).Contents (Elt F) → (⟨S16x2048x2x8, .f32⟩ : BufTy).Contents (Elt F)),
    unary main_v32 main_v70 ((extractStridedSlice S16x2048x2x48 ![0, 0, 0, 16] · slices_S16x2048x2x64_S16x2048x2x48_0_0_0_16) : (⟨S16x2048x2x64, .f32⟩ : BufTy).Contents (Elt F) → (⟨S16x2048x2x48, .f32⟩ : BufTy).Contents (Elt F)),
    unary main_v51 main_v71 (broadcastInDim S16x2048x2x8 ![0, 1, 2, 3] bcast_S16x2048x1x8_S16x2048x2x8_0_1_2_3 : (⟨S16x2048x1x8, .f32⟩ : BufTy).Contents (Elt F) → (⟨S16x2048x2x8, .f32⟩ : BufTy).Contents (Elt F)),
    binary main_v68 main_v71 main_v72 (mulf : (⟨S16x2048x2x8, .f32⟩ : BufTy).Contents (Elt F) → (⟨S16x2048x2x8, .f32⟩ : BufTy).Contents (Elt F) → (⟨S16x2048x2x8, .f32⟩ : BufTy).Contents (Elt F)),
    unary main_v53 main_v73 (broadcastInDim S16x2048x2x8 ![0, 1, 2, 3] bcast_S16x2048x1x8_S16x2048x2x8_0_1_2_3 : (⟨S16x2048x1x8, .f32⟩ : BufTy).Contents (Elt F) → (⟨S16x2048x2x8, .f32⟩ : BufTy).Contents (Elt F)),
    binary main_v69 main_v73 main_v74 (mulf : (⟨S16x2048x2x8, .f32⟩ : BufTy).Contents (Elt F) → (⟨S16x2048x2x8, .f32⟩ : BufTy).Contents (Elt F) → (⟨S16x2048x2x8, .f32⟩ : BufTy).Contents (Elt F)),
    binary main_v72 main_v74 main_v75 (subf : (⟨S16x2048x2x8, .f32⟩ : BufTy).Contents (Elt F) → (⟨S16x2048x2x8, .f32⟩ : BufTy).Contents (Elt F) → (⟨S16x2048x2x8, .f32⟩ : BufTy).Contents (Elt F)),
    unary main_v51 main_v76 (broadcastInDim S16x2048x2x8 ![0, 1, 2, 3] bcast_S16x2048x1x8_S16x2048x2x8_0_1_2_3 : (⟨S16x2048x1x8, .f32⟩ : BufTy).Contents (Elt F) → (⟨S16x2048x2x8, .f32⟩ : BufTy).Contents (Elt F)),
    binary main_v69 main_v76 main_v77 (mulf : (⟨S16x2048x2x8, .f32⟩ : BufTy).Contents (Elt F) → (⟨S16x2048x2x8, .f32⟩ : BufTy).Contents (Elt F) → (⟨S16x2048x2x8, .f32⟩ : BufTy).Contents (Elt F)),
    unary main_v53 main_v78 (broadcastInDim S16x2048x2x8 ![0, 1, 2, 3] bcast_S16x2048x1x8_S16x2048x2x8_0_1_2_3 : (⟨S16x2048x1x8, .f32⟩ : BufTy).Contents (Elt F) → (⟨S16x2048x2x8, .f32⟩ : BufTy).Contents (Elt F)),
    binary main_v68 main_v78 main_v79 (mulf : (⟨S16x2048x2x8, .f32⟩ : BufTy).Contents (Elt F) → (⟨S16x2048x2x8, .f32⟩ : BufTy).Contents (Elt F) → (⟨S16x2048x2x8, .f32⟩ : BufTy).Contents (Elt F)),
    binary main_v77 main_v79 main_v80 (addf : (⟨S16x2048x2x8, .f32⟩ : BufTy).Contents (Elt F) → (⟨S16x2048x2x8, .f32⟩ : BufTy).Contents (Elt F) → (⟨S16x2048x2x8, .f32⟩ : BufTy).Contents (Elt F)) ]

/-- The stage that computes the turned keys. -/
abbrev opsKRope : List (HloOp τ sig (Elt F)) :=
  [ nary ![main_v75, main_v80, main_v70] main_v81 (fun u => joinK (F := F) (u 0) (u 1) (u 2)) ]

/-- The stage that computes the scaled queries and the keys of the block before. -/
abbrev opsKBack : List (HloOp τ sig (Elt F)) :=
  [ reshape main_v67 main_v82 (rfl : (.f32 : EltTy) = .f32) shapeCasts_S16x2048x8x64_S16x16x128x2x4x64,
    nullary main_cst_9 (constant S_ .f32 0x3E000000#32),
    unary main_cst_9 main_v83 (broadcastInDim S16x16x128x2x4x64 ![] bcast_S_S16x16x128x2x4x64 : (⟨S_, .f32⟩ : BufTy).Contents (Elt F) → (⟨S16x16x128x2x4x64, .f32⟩ : BufTy).Contents (Elt F)),
    binary main_v82 main_v83 main_v84 (mulf : (⟨S16x16x128x2x4x64, .f32⟩ : BufTy).Contents (Elt F) → (⟨S16x16x128x2x4x64, .f32⟩ : BufTy).Contents (Elt F) → (⟨S16x16x128x2x4x64, .f32⟩ : BufTy).Contents (Elt F)),
    reshape main_v81 main_v85 (rfl : (.f32 : EltTy) = .f32) shapeCasts_S16x2048x2x64_S16x16x128x2x64,
    reshape main_v33 main_v86 (rfl : (.f32 : EltTy) = .f32) shapeCasts_S16x2048x2x64_S16x16x128x2x64,
    nullary main_c (constantI S_ 32 0#32),
    TRef.unary (TRef.of (T := ⟨S_, .i32⟩) main_c) (TRef.of (T := ⟨S_, .f32⟩) main_call0_v0) (sitofp .f32),
    TRef.binary (TRef.of (T := ⟨S16x16x128x2x64, .f32⟩) main_v85) (TRef.of (T := ⟨S_, .f32⟩) main_call0_v0) (TRef.of (T := ⟨S16x17x128x2x64, .f32⟩) main_v87) (fun x v => pad S16x17x128x2x64 ![0, 1, 0, 0, 0] ![0, 0, 0, 0, 0] ![0, 0, 0, 0, 0] x v pads_S16x16x128x2x64_S16x17x128x2x64_000_100_000_000_000 h_S_),
    unary main_v87 main_v88 ((extractStridedSlice S16x16x128x2x64 ![0, 0, 0, 0, 0] · slices_S16x17x128x2x64_S16x16x128x2x64_0_0_0_0_0) : (⟨S16x17x128x2x64, .f32⟩ : BufTy).Contents (Elt F) → (⟨S16x16x128x2x64, .f32⟩ : BufTy).Contents (Elt F)) ]

/-- The stage that computes the keys of two blocks. -/
abbrev opsKPair : List (HloOp τ sig (Elt F)) :=
  [ binary main_v88 main_v85 main_v89 (pairK (F := F)) ]

/-- The stage that computes the values of the block before. -/
abbrev opsVBack : List (HloOp τ sig (Elt F)) :=
  [ nullary main_c_10 (constantI S_ 32 0#32),
    TRef.unary (TRef.of (T := ⟨S_, .i32⟩) main_c_10) (TRef.of (T := ⟨S_, .f32⟩) main_call1_v0) (sitofp .f32),
    TRef.binary (TRef.of (T := ⟨S16x16x128x2x64, .f32⟩) main_v86) (TRef.of (T := ⟨S_, .f32⟩) main_call1_v0) (TRef.of (T := ⟨S16x17x128x2x64, .f32⟩) main_v90) (fun x v => pad S16x17x128x2x64 ![0, 1, 0, 0, 0] ![0, 0, 0, 0, 0] ![0, 0, 0, 0, 0] x v pads_S16x16x128x2x64_S16x17x128x2x64_000_100_000_000_000 h_S_),
    unary main_v90 main_v91 ((extractStridedSlice S16x16x128x2x64 ![0, 0, 0, 0, 0] · slices_S16x17x128x2x64_S16x16x128x2x64_0_0_0_0_0) : (⟨S16x17x128x2x64, .f32⟩ : BufTy).Contents (Elt F) → (⟨S16x16x128x2x64, .f32⟩ : BufTy).Contents (Elt F)) ]

/-- The stage that computes the values of two blocks. -/
abbrev opsVPair : List (HloOp τ sig (Elt F)) :=
  [ binary main_v91 main_v86 main_v92 (pairV (F := F)) ]

/-- The stage that computes the scores. -/
abbrev opsScores : List (HloOp τ sig (Elt F)) :=
  [ binary main_v89 main_v84 main_v93 ((fun l r => Host.dotGeneral dot_S16x16x256x2x64_S16x16x128x2x4x64_S16x16x2x256x128x4_4_5_2_24_013_013 none l r) : (⟨S16x16x256x2x64, .f32⟩ : BufTy).Contents (Elt F) → (⟨S16x16x128x2x4x64, .f32⟩ : BufTy).Contents (Elt F) → (⟨S16x16x2x256x128x4, .f32⟩ : BufTy).Contents (Elt F)),
    unary main_v93 main_v94 ((transpose S16x16x2x4x128x256 [0, 1, 2, 5, 4, 3] · transposes_S16x16x2x256x128x4_S16x16x2x4x128x256_0_1_2_5_4_3) : (⟨S16x16x2x256x128x4, .f32⟩ : BufTy).Contents (Elt F) → (⟨S16x16x2x4x128x256, .f32⟩ : BufTy).Contents (Elt F)) ]

/-- The stage that computes the first positions of the blocks. -/
abbrev opsBase : List (HloOp τ sig (Elt F)) :=
  [ nullary main_v95 (iotaInDim S16 32 0),
    unary main_v95 main_v96 (broadcastInDim S16x1 ![0] bcast_S16_S16x1_0 : (⟨S16, .i32⟩ : BufTy).Contents (Elt F) → (⟨S16x1, .i32⟩ : BufTy).Contents (Elt F)),
    nullary main_c_11 (constantI S_ 32 128#32),
    unary main_c_11 main_v97 (broadcastInDim S16x1 ![] bcast_S_S16x1 : (⟨S_, .i32⟩ : BufTy).Contents (Elt F) → (⟨S16x1, .i32⟩ : BufTy).Contents (Elt F)),
    binary main_v96 main_v97 main_v98 (muli : (⟨S16x1, .i32⟩ : BufTy).Contents (Elt F) → (⟨S16x1, .i32⟩ : BufTy).Contents (Elt F) → (⟨S16x1, .i32⟩ : BufTy).Contents (Elt F)),
    nullary main_v99 (iotaInDim S128 32 0),
    unary main_v99 main_v100 (broadcastInDim S1x128 ![1] bcast_S128_S1x128_1 : (⟨S128, .i32⟩ : BufTy).Contents (Elt F) → (⟨S1x128, .i32⟩ : BufTy).Contents (Elt F)),
    unary main_v98 main_v101 (broadcastInDim S16x128 ![0, 1] bcast_S16x1_S16x128_0_1 : (⟨S16x1, .i32⟩ : BufTy).Contents (Elt F) → (⟨S16x128, .i32⟩ : BufTy).Contents (Elt F)),
    unary main_v100 main_v102 (broadcastInDim S16x128 ![0, 1] bcast_S1x128_S16x128_0_1 : (⟨S1x128, .i32⟩ : BufTy).Contents (Elt F) → (⟨S16x128, .i32⟩ : BufTy).Contents (Elt F)),
    binary main_v101 main_v102 main_v103 (addi : (⟨S16x128, .i32⟩ : BufTy).Contents (Elt F) → (⟨S16x128, .i32⟩ : BufTy).Contents (Elt F) → (⟨S16x128, .i32⟩ : BufTy).Contents (Elt F)),
    nullary main_c_12 (constantI S_ 32 128#32),
    unary main_c_12 main_v104 (broadcastInDim S16x1 ![] bcast_S_S16x1 : (⟨S_, .i32⟩ : BufTy).Contents (Elt F) → (⟨S16x1, .i32⟩ : BufTy).Contents (Elt F)) ]

/-- The stage that computes which scores count. -/
abbrev opsMask : List (HloOp τ sig (Elt F)) :=
  [ binary main_v98 main_v104 main_v105 (subi : (⟨S16x1, .i32⟩ : BufTy).Contents (Elt F) → (⟨S16x1, .i32⟩ : BufTy).Contents (Elt F) → (⟨S16x1, .i32⟩ : BufTy).Contents (Elt F)),
    nullary main_v106 (iotaInDim S256 32 0),
    unary main_v106 main_v107 (broadcastInDim S1x256 ![1] bcast_S256_S1x256_1 : (⟨S256, .i32⟩ : BufTy).Contents (Elt F) → (⟨S1x256, .i32⟩ : BufTy).Contents (Elt F)),
    unary main_v105 main_v108 (broadcastInDim S16x256 ![0, 1] bcast_S16x1_S16x256_0_1 : (⟨S16x1, .i32⟩ : BufTy).Contents (Elt F) → (⟨S16x256, .i32⟩ : BufTy).Contents (Elt F)),
    unary main_v107 main_v109 (broadcastInDim S16x256 ![0, 1] bcast_S1x256_S16x256_0_1 : (⟨S1x256, .i32⟩ : BufTy).Contents (Elt F) → (⟨S16x256, .i32⟩ : BufTy).Contents (Elt F)),
    binary main_v108 main_v109 main_v110 (addi : (⟨S16x256, .i32⟩ : BufTy).Contents (Elt F) → (⟨S16x256, .i32⟩ : BufTy).Contents (Elt F) → (⟨S16x256, .i32⟩ : BufTy).Contents (Elt F)),
    unary main_v103 main_v111 (broadcastInDim S16x128x1 ![0, 1] bcast_S16x128_S16x128x1_0_1 : (⟨S16x128, .i32⟩ : BufTy).Contents (Elt F) → (⟨S16x128x1, .i32⟩ : BufTy).Contents (Elt F)),
    unary main_v110 main_v112 (broadcastInDim S16x1x256 ![0, 2] bcast_S16x256_S16x1x256_0_2 : (⟨S16x256, .i32⟩ : BufTy).Contents (Elt F) → (⟨S16x1x256, .i32⟩ : BufTy).Contents (Elt F)),
    unary main_v111 main_v113 (broadcastInDim S16x128x256 ![0, 1, 2] bcast_S16x128x1_S16x128x256_0_1_2 : (⟨S16x128x1, .i32⟩ : BufTy).Contents (Elt F) → (⟨S16x128x256, .i32⟩ : BufTy).Contents (Elt F)),
    unary main_v112 main_v114 (broadcastInDim S16x128x256 ![0, 1, 2] bcast_S16x1x256_S16x128x256_0_1_2 : (⟨S16x1x256, .i32⟩ : BufTy).Contents (Elt F) → (⟨S16x128x256, .i32⟩ : BufTy).Contents (Elt F)),
    binary main_v113 main_v114 main_v115 (subi : (⟨S16x128x256, .i32⟩ : BufTy).Contents (Elt F) → (⟨S16x128x256, .i32⟩ : BufTy).Contents (Elt F) → (⟨S16x128x256, .i32⟩ : BufTy).Contents (Elt F)),
    nullary main_c_13 (constantI S_ 32 0#32),
    unary main_c_13 main_v116 (broadcastInDim S16x128x256 ![] bcast_S_S16x128x256 : (⟨S_, .i32⟩ : BufTy).Contents (Elt F) → (⟨S16x128x256, .i32⟩ : BufTy).Contents (Elt F)),
    binary main_v115 main_v116 main_v117 (cmpi .sge : (⟨S16x128x256, .i32⟩ : BufTy).Contents (Elt F) → (⟨S16x128x256, .i32⟩ : BufTy).Contents (Elt F) → (⟨S16x128x256, .i1⟩ : BufTy).Contents (Elt F)),
    nullary main_c_14 (constantI S_ 32 128#32),
    unary main_c_14 main_v118 (broadcastInDim S16x128x256 ![] bcast_S_S16x128x256 : (⟨S_, .i32⟩ : BufTy).Contents (Elt F) → (⟨S16x128x256, .i32⟩ : BufTy).Contents (Elt F)),
    binary main_v115 main_v118 main_v119 (cmpi .slt : (⟨S16x128x256, .i32⟩ : BufTy).Contents (Elt F) → (⟨S16x128x256, .i32⟩ : BufTy).Contents (Elt F) → (⟨S16x128x256, .i1⟩ : BufTy).Contents (Elt F)),
    binary main_v117 main_v119 main_v120 (andi : (⟨S16x128x256, .i1⟩ : BufTy).Contents (Elt F) → (⟨S16x128x256, .i1⟩ : BufTy).Contents (Elt F) → (⟨S16x128x256, .i1⟩ : BufTy).Contents (Elt F)),
    unary main_v110 main_v121 (broadcastInDim S16x1x256 ![0, 2] bcast_S16x256_S16x1x256_0_2 : (⟨S16x256, .i32⟩ : BufTy).Contents (Elt F) → (⟨S16x1x256, .i32⟩ : BufTy).Contents (Elt F)),
    nullary main_c_15 (constantI S_ 32 0#32),
    unary main_c_15 main_v122 (broadcastInDim S16x1x256 ![] bcast_S_S16x1x256 : (⟨S_, .i32⟩ : BufTy).Contents (Elt F) → (⟨S16x1x256, .i32⟩ : BufTy).Contents (Elt F)),
    binary main_v121 main_v122 main_v123 (cmpi .sge : (⟨S16x1x256, .i32⟩ : BufTy).Contents (Elt F) → (⟨S16x1x256, .i32⟩ : BufTy).Contents (Elt F) → (⟨S16x1x256, .i1⟩ : BufTy).Contents (Elt F)),
    unary main_v123 main_v124 (broadcastInDim S16x128x256 ![0, 1, 2] bcast_S16x1x256_S16x128x256_0_1_2 : (⟨S16x1x256, .i1⟩ : BufTy).Contents (Elt F) → (⟨S16x128x256, .i1⟩ : BufTy).Contents (Elt F)),
    binary main_v120 main_v124 main_v125 (andi : (⟨S16x128x256, .i1⟩ : BufTy).Contents (Elt F) → (⟨S16x128x256, .i1⟩ : BufTy).Contents (Elt F) → (⟨S16x128x256, .i1⟩ : BufTy).Contents (Elt F)),
    unary main_v125 main_v126 (broadcastInDim S1x16x1x1x128x256 ![1, 4, 5] bcast_S16x128x256_S1x16x1x1x128x256_1_4_5 : (⟨S16x128x256, .i1⟩ : BufTy).Contents (Elt F) → (⟨S1x16x1x1x128x256, .i1⟩ : BufTy).Contents (Elt F)) ]

/-- The stage that computes the masked scores and the sinks. -/
abbrev opsSinks : List (HloOp τ sig (Elt F)) :=
  [ nullary main_cst_16 (constant S_ .f32 0xFF800000#32),
    TRef.unary (TRef.of (T := ⟨S_, .f32⟩) main_cst_16) (TRef.of (T := ⟨S_, .f32⟩) main_call2_v0) id,
    TRef.unary (TRef.of (T := ⟨S1x16x1x1x128x256, .i1⟩) main_v126) (TRef.of (T := ⟨S16x16x2x4x128x256, .i1⟩) main_call2_v1) (broadcastInDim S16x16x2x4x128x256 ![0, 1, 2, 3, 4, 5] bcast_S1x16x1x1x128x256_S16x16x2x4x128x256_0_1_2_3_4_5),
    TRef.unary (TRef.of (T := ⟨S_, .f32⟩) main_call2_v0) (TRef.of (T := ⟨S16x16x2x4x128x256, .f32⟩) main_call2_v2) (broadcastInDim S16x16x2x4x128x256 ![] bcast_S_S16x16x2x4x128x256),
    TRef.ternary (TRef.of (T := ⟨S16x16x2x4x128x256, .i1⟩) main_call2_v1) (TRef.of (T := ⟨S16x16x2x4x128x256, .f32⟩) main_v94) (TRef.of (T := ⟨S16x16x2x4x128x256, .f32⟩) main_call2_v2) (TRef.of (T := ⟨S16x16x2x4x128x256, .f32⟩) main_v127) select,
    reshape main_arg4 main_v128 (rfl : (.f32 : EltTy) = .f32) shapeCasts_S8_S1x1x2x4x1x1,
    unary main_v128 main_v129 (broadcastInDim S16x16x2x4x128x1 ![0, 1, 2, 3, 4, 5] bcast_S1x1x2x4x1x1_S16x16x2x4x128x1_0_1_2_3_4_5 : (⟨S1x1x2x4x1x1, .f32⟩ : BufTy).Contents (Elt F) → (⟨S16x16x2x4x128x1, .f32⟩ : BufTy).Contents (Elt F)) ]

/-- The stage that computes the masked scores beside the sinks. -/
abbrev opsJoined : List (HloOp τ sig (Elt F)) :=
  [ binary main_v127 main_v129 main_v130 (withSink (F := F)) ]

/-- The stage that computes the largest of each row. -/
abbrev opsTop : List (HloOp τ sig (Elt F)) :=
  [ nullary main_cst_17 (constant S_ .f32 0xFF800000#32),
    binary main_v130 main_cst_17 main_v131 ((fun x v => Host.reduce FloatOps.maximumf x v reducesTo_S16x16x2x4x128x257_S16x16x2x4x128_d5 h_S_) : (⟨S16x16x2x4x128x257, .f32⟩ : BufTy).Contents (Elt F) → (⟨S_, .f32⟩ : BufTy).Contents (Elt F) → (⟨S16x16x2x4x128, .f32⟩ : BufTy).Contents (Elt F)) ]

/-- The stage that computes the exponentials. -/
abbrev opsExps : List (HloOp τ sig (Elt F)) :=
  [ nullary main_cst_18 (constant S_ .f32 0xFF800000#32),
    unary main_cst_18 main_v132 (broadcastInDim S16x16x2x4x128 ![] bcast_S_S16x16x2x4x128 : (⟨S_, .f32⟩ : BufTy).Contents (Elt F) → (⟨S16x16x2x4x128, .f32⟩ : BufTy).Contents (Elt F)),
    binary main_v132 main_v131 main_v133 (maximumf : (⟨S16x16x2x4x128, .f32⟩ : BufTy).Contents (Elt F) → (⟨S16x16x2x4x128, .f32⟩ : BufTy).Contents (Elt F) → (⟨S16x16x2x4x128, .f32⟩ : BufTy).Contents (Elt F)),
    unary main_v133 main_v134 (broadcastInDim S16x16x2x4x128x1 ![0, 1, 2, 3, 4] bcast_S16x16x2x4x128_S16x16x2x4x128x1_0_1_2_3_4 : (⟨S16x16x2x4x128, .f32⟩ : BufTy).Contents (Elt F) → (⟨S16x16x2x4x128x1, .f32⟩ : BufTy).Contents (Elt F)),
    unary main_v134 main_v135 (broadcastInDim S16x16x2x4x128x257 ![0, 1, 2, 3, 4, 5] bcast_S16x16x2x4x128x1_S16x16x2x4x128x257_0_1_2_3_4_5 : (⟨S16x16x2x4x128x1, .f32⟩ : BufTy).Contents (Elt F) → (⟨S16x16x2x4x128x257, .f32⟩ : BufTy).Contents (Elt F)),
    binary main_v130 main_v135 main_v136 (subf : (⟨S16x16x2x4x128x257, .f32⟩ : BufTy).Contents (Elt F) → (⟨S16x16x2x4x128x257, .f32⟩ : BufTy).Contents (Elt F) → (⟨S16x16x2x4x128x257, .f32⟩ : BufTy).Contents (Elt F)),
    unary main_v136 main_v137 (Host.exp : (⟨S16x16x2x4x128x257, .f32⟩ : BufTy).Contents (Elt F) → (⟨S16x16x2x4x128x257, .f32⟩ : BufTy).Contents (Elt F)) ]

/-- The stage that computes the sums of the exponentials. -/
abbrev opsTotal : List (HloOp τ sig (Elt F)) :=
  [ nullary main_cst_19 (constant S_ .f32 0x00000000#32),
    binary main_v137 main_cst_19 main_v138 ((fun x v => Host.reduceAdd x v reducesTo_S16x16x2x4x128x257_S16x16x2x4x128_d5 h_S_) : (⟨S16x16x2x4x128x257, .f32⟩ : BufTy).Contents (Elt F) → (⟨S_, .f32⟩ : BufTy).Contents (Elt F) → (⟨S16x16x2x4x128, .f32⟩ : BufTy).Contents (Elt F)) ]

/-- The stage that computes the weighted values. -/
abbrev opsHeads : List (HloOp τ sig (Elt F)) :=
  [ unary main_v138 main_v139 (broadcastInDim S16x16x2x4x128x1 ![0, 1, 2, 3, 4] bcast_S16x16x2x4x128_S16x16x2x4x128x1_0_1_2_3_4 : (⟨S16x16x2x4x128, .f32⟩ : BufTy).Contents (Elt F) → (⟨S16x16x2x4x128x1, .f32⟩ : BufTy).Contents (Elt F)),
    unary main_v139 main_v140 (broadcastInDim S16x16x2x4x128x257 ![0, 1, 2, 3, 4, 5] bcast_S16x16x2x4x128x1_S16x16x2x4x128x257_0_1_2_3_4_5 : (⟨S16x16x2x4x128x1, .f32⟩ : BufTy).Contents (Elt F) → (⟨S16x16x2x4x128x257, .f32⟩ : BufTy).Contents (Elt F)),
    binary main_v137 main_v140 main_v141 (Host.divf : (⟨S16x16x2x4x128x257, .f32⟩ : BufTy).Contents (Elt F) → (⟨S16x16x2x4x128x257, .f32⟩ : BufTy).Contents (Elt F) → (⟨S16x16x2x4x128x257, .f32⟩ : BufTy).Contents (Elt F)),
    unary main_v141 main_v142 ((extractStridedSlice S16x16x2x4x128x256 ![0, 0, 0, 0, 0, 0] · slices_S16x16x2x4x128x257_S16x16x2x4x128x256_0_0_0_0_0_0) : (⟨S16x16x2x4x128x257, .f32⟩ : BufTy).Contents (Elt F) → (⟨S16x16x2x4x128x256, .f32⟩ : BufTy).Contents (Elt F)),
    binary main_v92 main_v142 main_v143 ((fun l r => Host.dotGeneral dot_S16x16x256x2x64_S16x16x2x4x128x256_S16x16x2x64x4x128_2_5_4_34_013_012 none l r) : (⟨S16x16x256x2x64, .f32⟩ : BufTy).Contents (Elt F) → (⟨S16x16x2x4x128x256, .f32⟩ : BufTy).Contents (Elt F) → (⟨S16x16x2x64x4x128, .f32⟩ : BufTy).Contents (Elt F)),
    unary main_v143 main_v144 ((transpose S16x16x128x2x4x64 [0, 1, 5, 2, 4, 3] · transposes_S16x16x2x64x4x128_S16x16x128x2x4x64_0_1_5_2_4_3) : (⟨S16x16x2x64x4x128, .f32⟩ : BufTy).Contents (Elt F) → (⟨S16x16x128x2x4x64, .f32⟩ : BufTy).Contents (Elt F)),
    reshape main_v144 main_v145 (rfl : (.f32 : EltTy) = .f32) shapeCasts_S16x16x128x2x4x64_S16x2048x512,
    unary main_v145 main_v146 ((truncf .bf16 · bitsLt_bf16_f32) : (⟨S16x2048x512, .f32⟩ : BufTy).Contents (Elt F) → (⟨S16x2048x512, .bf16⟩ : BufTy).Contents (Elt F)) ]

/-- The stage that computes the two carried weights. -/
abbrev opsRiders : List (HloOp τ sig (Elt F)) :=
  [ unary main_arg5 main_v147 ((extractStridedSlice S1x5632x2048 ![0, 0, 0] · slices_S2x5632x2048_S1x5632x2048_0_0_0) : (⟨S2x5632x2048, .f32⟩ : BufTy).Contents (Elt F) → (⟨S1x5632x2048, .f32⟩ : BufTy).Contents (Elt F)),
    reshape main_v147 main_v148 (rfl : (.f32 : EltTy) = .f32) shapeCasts_S1x5632x2048_S5632x2048,
    unary main_v148 main_v149 ((truncf .bf16 · bitsLt_bf16_f32) : (⟨S5632x2048, .f32⟩ : BufTy).Contents (Elt F) → (⟨S5632x2048, .bf16⟩ : BufTy).Contents (Elt F)),
    unary main_arg6 main_v150 ((extractStridedSlice S1x5632x2048 ![1, 0, 0] · slices_S2x5632x2048_S1x5632x2048_1_0_0) : (⟨S2x5632x2048, .f32⟩ : BufTy).Contents (Elt F) → (⟨S1x5632x2048, .f32⟩ : BufTy).Contents (Elt F)),
    reshape main_v150 main_v151 (rfl : (.f32 : EltTy) = .f32) shapeCasts_S1x5632x2048_S5632x2048,
    unary main_v151 main_v152 ((truncf .bf16 · bitsLt_bf16_f32) : (⟨S5632x2048, .f32⟩ : BufTy).Contents (Elt F) → (⟨S5632x2048, .bf16⟩ : BufTy).Contents (Elt F)) ]

/-- The three windows in which the program is written. -/
def opsPart0 : List (HloOp τ sig (Elt F)) := opsQNorm ++ (opsKNorm ++ (opsAngle))
def opsPart1 : List (HloOp τ sig (Elt F)) := opsQTurn ++ (opsQRope ++ (opsKTurn ++ (opsKRope ++ (opsKBack ++ (opsKPair ++ (opsVBack ++ (opsVPair ++ (opsScores ++ (opsBase)))))))))
def opsPart2 : List (HloOp τ sig (Elt F)) := opsMask ++ (opsSinks ++ (opsJoined ++ (opsTop ++ (opsExps ++ (opsTotal ++ (opsHeads ++ (opsRiders)))))))
def opsAll : List (HloOp τ sig (Elt F)) := opsPart0 ++ (opsPart1 ++ opsPart2)

theorem part0_eq (c : Dev nD) : main_part0 (F := F) c = seq opsPart0 := rfl
theorem part1_eq (c : Dev nD) : main_part1 (F := F) c = seq opsPart1 := rfl
theorem part2_eq (c : Dev nD) : main_part2 (F := F) c = seq opsPart2 := rfl

theorem main_eq (c : Dev nD) : main (F := F) c = seq opsAll := by
  simp only [opsAll, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem subQNorm : (opsQNorm : List (HloOp τ sig (Elt F))).Forall fun op => op.bufs ⊆ tcRefs τ sig :=
  ⟨unary_bufs_sub .., unary_bufs_sub .., unary_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem freshQNorm : (opsQNorm : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers that this stage writes. -/
abbrev dstQNorm : List (Ref sig .tc) := [main_v0, main_v1, main_v2, main_v3, main_v4, main_v5, main_v6, main_cst, main_v7, main_v8, main_cst_0, main_v9, main_v10, main_cst_1, main_v11, main_v12, main_v13, main_v14, main_v15, main_v16, main_v17, main_v18]
theorem writesQNorm : (opsQNorm : List (HloOp τ sig (Elt F))).Forall fun op => op.writes ⊆ (dstQNorm.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepQNorm (V : Valuation τ sig (Elt F)) (r : Ref sig .tc) (h : r ∉ dstQNorm) :
    after opsQNorm V (Proc.devRef .tc r) = V (Proc.devRef .tc r) :=
  after_of_writes_sub opsQNorm _ writesQNorm h

theorem subKNorm : (opsKNorm : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩
theorem freshKNorm : (opsKNorm : List (HloOp τ sig (Elt F))).Forall fun op => op.fresh = ∅ :=
  ⟨rfl, rfl, rfl, rfl, rfl, rfl, rfl, rfl, rfl, rfl, rfl, rfl, rfl, rfl, rfl, rfl, rfl, rfl⟩
/-- The buffers that this stage writes. -/
abbrev dstKNorm : List (Ref sig .tc) := [main_v19, main_v20, main_cst_2, main_v21, main_v22, main_cst_3, main_v23, main_v24, main_cst_4, main_v25, main_v26, main_v27, main_v28, main_v29, main_v30, main_v31, main_v32, main_v33]
theorem writesKNorm : (opsKNorm : List (HloOp τ sig (Elt F))).Forall fun op => op.writes ⊆ (dstKNorm.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepKNorm (V : Valuation τ sig (Elt F)) (r : Ref sig .tc) (h : r ∉ dstKNorm) :
    after opsKNorm V (Proc.devRef .tc r) = V (Proc.devRef .tc r) :=
  after_of_writes_sub opsKNorm _ writesKNorm h

theorem subAngle : (opsAngle : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub ..⟩
theorem freshAngle : (opsAngle : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers that this stage writes. -/
abbrev dstAngle : List (Ref sig .tc) := [main_v34, main_cst_5, main_v35, main_v36, main_cst_6, main_v37, main_v38, main_v39, main_cst_7, main_v40, main_v41, main_cst_8, main_v42, main_v43, main_v44, main_v45, main_v46, main_v47, main_v48, main_v49]
theorem writesAngle : (opsAngle : List (HloOp τ sig (Elt F))).Forall fun op => op.writes ⊆ (dstAngle.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepAngle (V : Valuation τ sig (Elt F)) (r : Ref sig .tc) (h : r ∉ dstAngle) :
    after opsAngle V (Proc.devRef .tc r) = V (Proc.devRef .tc r) :=
  after_of_writes_sub opsAngle _ writesAngle h

theorem subQTurn : (opsQTurn : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub ..⟩
theorem freshQTurn : (opsQTurn : List (HloOp τ sig (Elt F))).Forall fun op => op.fresh = ∅ :=
  ⟨rfl, rfl, rfl, rfl, rfl, rfl, rfl, rfl, rfl, rfl, rfl, rfl, rfl, rfl, rfl, rfl, rfl⟩
/-- The buffers that this stage writes. -/
abbrev dstQTurn : List (Ref sig .tc) := [main_v50, main_v51, main_v52, main_v53, main_v54, main_v55, main_v56, main_v57, main_v58, main_v59, main_v60, main_v61, main_v62, main_v63, main_v64, main_v65, main_v66]
theorem writesQTurn : (opsQTurn : List (HloOp τ sig (Elt F))).Forall fun op => op.writes ⊆ (dstQTurn.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepQTurn (V : Valuation τ sig (Elt F)) (r : Ref sig .tc) (h : r ∉ dstQTurn) :
    after opsQTurn V (Proc.devRef .tc r) = V (Proc.devRef .tc r) :=
  after_of_writes_sub opsQTurn _ writesQTurn h

theorem subQRope : (opsQRope : List (HloOp τ sig (Elt F))).Forall fun op => op.bufs ⊆ tcRefs τ sig :=
  nary_bufs_sub ..
theorem freshQRope : (opsQRope : List (HloOp τ sig (Elt F))).Forall fun op => op.fresh = ∅ :=
  rfl
/-- The buffers that this stage writes. -/
abbrev dstQRope : List (Ref sig .tc) := [main_v67]
theorem writesQRope : (opsQRope : List (HloOp τ sig (Elt F))).Forall fun op => op.writes ⊆ (dstQRope.map (Proc.devRef (τ := τ) .tc)).toFinset := by
  simp only [List.Forall]
  refine ?_ <;>
    (simp only [nullary_writes, unary_writes, binary_writes, ternary_writes, reshape_writes, nary_writes, Finset.singleton_subset_iff, List.mem_toFinset]; exact List.mem_map_of_mem (by decide))
theorem keepQRope (V : Valuation τ sig (Elt F)) (r : Ref sig .tc) (h : r ∉ dstQRope) :
    after opsQRope V (Proc.devRef .tc r) = V (Proc.devRef .tc r) :=
  after_of_writes_sub opsQRope _ writesQRope h

theorem subKTurn : (opsKTurn : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub ..⟩
theorem freshKTurn : (opsKTurn : List (HloOp τ sig (Elt F))).Forall fun op => op.fresh = ∅ :=
  ⟨rfl, rfl, rfl, rfl, rfl, rfl, rfl, rfl, rfl, rfl, rfl, rfl, rfl⟩
/-- The buffers that this stage writes. -/
abbrev dstKTurn : List (Ref sig .tc) := [main_v68, main_v69, main_v70, main_v71, main_v72, main_v73, main_v74, main_v75, main_v76, main_v77, main_v78, main_v79, main_v80]
theorem writesKTurn : (opsKTurn : List (HloOp τ sig (Elt F))).Forall fun op => op.writes ⊆ (dstKTurn.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepKTurn (V : Valuation τ sig (Elt F)) (r : Ref sig .tc) (h : r ∉ dstKTurn) :
    after opsKTurn V (Proc.devRef .tc r) = V (Proc.devRef .tc r) :=
  after_of_writes_sub opsKTurn _ writesKTurn h

theorem subKRope : (opsKRope : List (HloOp τ sig (Elt F))).Forall fun op => op.bufs ⊆ tcRefs τ sig :=
  nary_bufs_sub ..
theorem freshKRope : (opsKRope : List (HloOp τ sig (Elt F))).Forall fun op => op.fresh = ∅ :=
  rfl
/-- The buffers that this stage writes. -/
abbrev dstKRope : List (Ref sig .tc) := [main_v81]
theorem writesKRope : (opsKRope : List (HloOp τ sig (Elt F))).Forall fun op => op.writes ⊆ (dstKRope.map (Proc.devRef (τ := τ) .tc)).toFinset := by
  simp only [List.Forall]
  refine ?_ <;>
    (simp only [nullary_writes, unary_writes, binary_writes, ternary_writes, reshape_writes, nary_writes, Finset.singleton_subset_iff, List.mem_toFinset]; exact List.mem_map_of_mem (by decide))
theorem keepKRope (V : Valuation τ sig (Elt F)) (r : Ref sig .tc) (h : r ∉ dstKRope) :
    after opsKRope V (Proc.devRef .tc r) = V (Proc.devRef .tc r) :=
  after_of_writes_sub opsKRope _ writesKRope h

theorem subKBack : (opsKBack : List (HloOp τ sig (Elt F))).Forall fun op => op.bufs ⊆ tcRefs τ sig :=
  ⟨reshape_bufs_sub .., nullary_bufs_sub .., unary_bufs_sub .., binary_bufs_sub .., reshape_bufs_sub .., reshape_bufs_sub .., nullary_bufs_sub .., unary_bufs_sub .., binary_bufs_sub .., unary_bufs_sub ..⟩
theorem freshKBack : (opsKBack : List (HloOp τ sig (Elt F))).Forall fun op => op.fresh = ∅ :=
  ⟨rfl, rfl, rfl, rfl, rfl, rfl, rfl, rfl, rfl, rfl⟩
/-- The buffers that this stage writes. -/
abbrev dstKBack : List (Ref sig .tc) := [main_v82, main_cst_9, main_v83, main_v84, main_v85, main_v86, main_c, main_call0_v0, main_v87, main_v88]
theorem writesKBack : (opsKBack : List (HloOp τ sig (Elt F))).Forall fun op => op.writes ⊆ (dstKBack.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepKBack (V : Valuation τ sig (Elt F)) (r : Ref sig .tc) (h : r ∉ dstKBack) :
    after opsKBack V (Proc.devRef .tc r) = V (Proc.devRef .tc r) :=
  after_of_writes_sub opsKBack _ writesKBack h

theorem subKPair : (opsKPair : List (HloOp τ sig (Elt F))).Forall fun op => op.bufs ⊆ tcRefs τ sig :=
  binary_bufs_sub ..
theorem freshKPair : (opsKPair : List (HloOp τ sig (Elt F))).Forall fun op => op.fresh = ∅ :=
  rfl
/-- The buffers that this stage writes. -/
abbrev dstKPair : List (Ref sig .tc) := [main_v89]
theorem writesKPair : (opsKPair : List (HloOp τ sig (Elt F))).Forall fun op => op.writes ⊆ (dstKPair.map (Proc.devRef (τ := τ) .tc)).toFinset := by
  simp only [List.Forall]
  refine ?_ <;>
    (simp only [nullary_writes, unary_writes, binary_writes, ternary_writes, reshape_writes, nary_writes, Finset.singleton_subset_iff, List.mem_toFinset]; exact List.mem_map_of_mem (by decide))
theorem keepKPair (V : Valuation τ sig (Elt F)) (r : Ref sig .tc) (h : r ∉ dstKPair) :
    after opsKPair V (Proc.devRef .tc r) = V (Proc.devRef .tc r) :=
  after_of_writes_sub opsKPair _ writesKPair h

theorem subVBack : (opsVBack : List (HloOp τ sig (Elt F))).Forall fun op => op.bufs ⊆ tcRefs τ sig :=
  ⟨nullary_bufs_sub .., unary_bufs_sub .., binary_bufs_sub .., unary_bufs_sub ..⟩
theorem freshVBack : (opsVBack : List (HloOp τ sig (Elt F))).Forall fun op => op.fresh = ∅ :=
  ⟨rfl, rfl, rfl, rfl⟩
/-- The buffers that this stage writes. -/
abbrev dstVBack : List (Ref sig .tc) := [main_c_10, main_call1_v0, main_v90, main_v91]
theorem writesVBack : (opsVBack : List (HloOp τ sig (Elt F))).Forall fun op => op.writes ⊆ (dstVBack.map (Proc.devRef (τ := τ) .tc)).toFinset := by
  simp only [List.Forall]
  refine ⟨?_, ?_, ?_, ?_⟩ <;>
    (simp only [nullary_writes, unary_writes, binary_writes, ternary_writes, reshape_writes, nary_writes, Finset.singleton_subset_iff, List.mem_toFinset]; exact List.mem_map_of_mem (by decide))
theorem keepVBack (V : Valuation τ sig (Elt F)) (r : Ref sig .tc) (h : r ∉ dstVBack) :
    after opsVBack V (Proc.devRef .tc r) = V (Proc.devRef .tc r) :=
  after_of_writes_sub opsVBack _ writesVBack h

theorem subVPair : (opsVPair : List (HloOp τ sig (Elt F))).Forall fun op => op.bufs ⊆ tcRefs τ sig :=
  binary_bufs_sub ..
theorem freshVPair : (opsVPair : List (HloOp τ sig (Elt F))).Forall fun op => op.fresh = ∅ :=
  rfl
/-- The buffers that this stage writes. -/
abbrev dstVPair : List (Ref sig .tc) := [main_v92]
theorem writesVPair : (opsVPair : List (HloOp τ sig (Elt F))).Forall fun op => op.writes ⊆ (dstVPair.map (Proc.devRef (τ := τ) .tc)).toFinset := by
  simp only [List.Forall]
  refine ?_ <;>
    (simp only [nullary_writes, unary_writes, binary_writes, ternary_writes, reshape_writes, nary_writes, Finset.singleton_subset_iff, List.mem_toFinset]; exact List.mem_map_of_mem (by decide))
theorem keepVPair (V : Valuation τ sig (Elt F)) (r : Ref sig .tc) (h : r ∉ dstVPair) :
    after opsVPair V (Proc.devRef .tc r) = V (Proc.devRef .tc r) :=
  after_of_writes_sub opsVPair _ writesVPair h

theorem subScores : (opsScores : List (HloOp τ sig (Elt F))).Forall fun op => op.bufs ⊆ tcRefs τ sig :=
  ⟨binary_bufs_sub .., unary_bufs_sub ..⟩
theorem freshScores : (opsScores : List (HloOp τ sig (Elt F))).Forall fun op => op.fresh = ∅ :=
  ⟨rfl, rfl⟩
/-- The buffers that this stage writes. -/
abbrev dstScores : List (Ref sig .tc) := [main_v93, main_v94]
theorem writesScores : (opsScores : List (HloOp τ sig (Elt F))).Forall fun op => op.writes ⊆ (dstScores.map (Proc.devRef (τ := τ) .tc)).toFinset := by
  simp only [List.Forall]
  refine ⟨?_, ?_⟩ <;>
    (simp only [nullary_writes, unary_writes, binary_writes, ternary_writes, reshape_writes, nary_writes, Finset.singleton_subset_iff, List.mem_toFinset]; exact List.mem_map_of_mem (by decide))
theorem keepScores (V : Valuation τ sig (Elt F)) (r : Ref sig .tc) (h : r ∉ dstScores) :
    after opsScores V (Proc.devRef .tc r) = V (Proc.devRef .tc r) :=
  after_of_writes_sub opsScores _ writesScores h

theorem subBase : (opsBase : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub ..⟩
theorem freshBase : (opsBase : List (HloOp τ sig (Elt F))).Forall fun op => op.fresh = ∅ :=
  ⟨rfl, rfl, rfl, rfl, rfl, rfl, rfl, rfl, rfl, rfl, rfl, rfl⟩
/-- The buffers that this stage writes. -/
abbrev dstBase : List (Ref sig .tc) := [main_v95, main_v96, main_c_11, main_v97, main_v98, main_v99, main_v100, main_v101, main_v102, main_v103, main_c_12, main_v104]
theorem writesBase : (opsBase : List (HloOp τ sig (Elt F))).Forall fun op => op.writes ⊆ (dstBase.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepBase (V : Valuation τ sig (Elt F)) (r : Ref sig .tc) (h : r ∉ dstBase) :
    after opsBase V (Proc.devRef .tc r) = V (Proc.devRef .tc r) :=
  after_of_writes_sub opsBase _ writesBase h

theorem subMask : (opsMask : List (HloOp τ sig (Elt F))).Forall fun op => op.bufs ⊆ tcRefs τ sig :=
  ⟨binary_bufs_sub .., nullary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., binary_bufs_sub .., unary_bufs_sub ..⟩
theorem freshMask : (opsMask : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
/-- The buffers that this stage writes. -/
abbrev dstMask : List (Ref sig .tc) := [main_v105, main_v106, main_v107, main_v108, main_v109, main_v110, main_v111, main_v112, main_v113, main_v114, main_v115, main_c_13, main_v116, main_v117, main_c_14, main_v118, main_v119, main_v120, main_v121, main_c_15, main_v122, main_v123, main_v124, main_v125, main_v126]
theorem writesMask : (opsMask : List (HloOp τ sig (Elt F))).Forall fun op => op.writes ⊆ (dstMask.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepMask (V : Valuation τ sig (Elt F)) (r : Ref sig .tc) (h : r ∉ dstMask) :
    after opsMask V (Proc.devRef .tc r) = V (Proc.devRef .tc r) :=
  after_of_writes_sub opsMask _ writesMask h

theorem subSinks : (opsSinks : List (HloOp τ sig (Elt F))).Forall fun op => op.bufs ⊆ tcRefs τ sig :=
  ⟨nullary_bufs_sub .., unary_bufs_sub .., unary_bufs_sub .., unary_bufs_sub .., ternary_bufs_sub .., reshape_bufs_sub .., unary_bufs_sub ..⟩
theorem freshSinks : (opsSinks : List (HloOp τ sig (Elt F))).Forall fun op => op.fresh = ∅ :=
  ⟨rfl, rfl, rfl, rfl, rfl, rfl, rfl⟩
/-- The buffers that this stage writes. -/
abbrev dstSinks : List (Ref sig .tc) := [main_cst_16, main_call2_v0, main_call2_v1, main_call2_v2, main_v127, main_v128, main_v129]
theorem writesSinks : (opsSinks : List (HloOp τ sig (Elt F))).Forall fun op => op.writes ⊆ (dstSinks.map (Proc.devRef (τ := τ) .tc)).toFinset := by
  simp only [List.Forall]
  refine ⟨?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepSinks (V : Valuation τ sig (Elt F)) (r : Ref sig .tc) (h : r ∉ dstSinks) :
    after opsSinks V (Proc.devRef .tc r) = V (Proc.devRef .tc r) :=
  after_of_writes_sub opsSinks _ writesSinks h

theorem subJoined : (opsJoined : List (HloOp τ sig (Elt F))).Forall fun op => op.bufs ⊆ tcRefs τ sig :=
  binary_bufs_sub ..
theorem freshJoined : (opsJoined : List (HloOp τ sig (Elt F))).Forall fun op => op.fresh = ∅ :=
  rfl
/-- The buffers that this stage writes. -/
abbrev dstJoined : List (Ref sig .tc) := [main_v130]
theorem writesJoined : (opsJoined : List (HloOp τ sig (Elt F))).Forall fun op => op.writes ⊆ (dstJoined.map (Proc.devRef (τ := τ) .tc)).toFinset := by
  simp only [List.Forall]
  refine ?_ <;>
    (simp only [nullary_writes, unary_writes, binary_writes, ternary_writes, reshape_writes, nary_writes, Finset.singleton_subset_iff, List.mem_toFinset]; exact List.mem_map_of_mem (by decide))
theorem keepJoined (V : Valuation τ sig (Elt F)) (r : Ref sig .tc) (h : r ∉ dstJoined) :
    after opsJoined V (Proc.devRef .tc r) = V (Proc.devRef .tc r) :=
  after_of_writes_sub opsJoined _ writesJoined h

theorem subTop : (opsTop : List (HloOp τ sig (Elt F))).Forall fun op => op.bufs ⊆ tcRefs τ sig :=
  ⟨nullary_bufs_sub .., binary_bufs_sub ..⟩
theorem freshTop : (opsTop : List (HloOp τ sig (Elt F))).Forall fun op => op.fresh = ∅ :=
  ⟨rfl, rfl⟩
/-- The buffers that this stage writes. -/
abbrev dstTop : List (Ref sig .tc) := [main_cst_17, main_v131]
theorem writesTop : (opsTop : List (HloOp τ sig (Elt F))).Forall fun op => op.writes ⊆ (dstTop.map (Proc.devRef (τ := τ) .tc)).toFinset := by
  simp only [List.Forall]
  refine ⟨?_, ?_⟩ <;>
    (simp only [nullary_writes, unary_writes, binary_writes, ternary_writes, reshape_writes, nary_writes, Finset.singleton_subset_iff, List.mem_toFinset]; exact List.mem_map_of_mem (by decide))
theorem keepTop (V : Valuation τ sig (Elt F)) (r : Ref sig .tc) (h : r ∉ dstTop) :
    after opsTop V (Proc.devRef .tc r) = V (Proc.devRef .tc r) :=
  after_of_writes_sub opsTop _ writesTop h

theorem subExps : (opsExps : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub ..⟩
theorem freshExps : (opsExps : List (HloOp τ sig (Elt F))).Forall fun op => op.fresh = ∅ :=
  ⟨rfl, rfl, rfl, rfl, rfl, rfl, rfl⟩
/-- The buffers that this stage writes. -/
abbrev dstExps : List (Ref sig .tc) := [main_cst_18, main_v132, main_v133, main_v134, main_v135, main_v136, main_v137]
theorem writesExps : (opsExps : List (HloOp τ sig (Elt F))).Forall fun op => op.writes ⊆ (dstExps.map (Proc.devRef (τ := τ) .tc)).toFinset := by
  simp only [List.Forall]
  refine ⟨?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepExps (V : Valuation τ sig (Elt F)) (r : Ref sig .tc) (h : r ∉ dstExps) :
    after opsExps V (Proc.devRef .tc r) = V (Proc.devRef .tc r) :=
  after_of_writes_sub opsExps _ writesExps h

theorem subTotal : (opsTotal : List (HloOp τ sig (Elt F))).Forall fun op => op.bufs ⊆ tcRefs τ sig :=
  ⟨nullary_bufs_sub .., binary_bufs_sub ..⟩
theorem freshTotal : (opsTotal : List (HloOp τ sig (Elt F))).Forall fun op => op.fresh = ∅ :=
  ⟨rfl, rfl⟩
/-- The buffers that this stage writes. -/
abbrev dstTotal : List (Ref sig .tc) := [main_cst_19, main_v138]
theorem writesTotal : (opsTotal : List (HloOp τ sig (Elt F))).Forall fun op => op.writes ⊆ (dstTotal.map (Proc.devRef (τ := τ) .tc)).toFinset := by
  simp only [List.Forall]
  refine ⟨?_, ?_⟩ <;>
    (simp only [nullary_writes, unary_writes, binary_writes, ternary_writes, reshape_writes, nary_writes, Finset.singleton_subset_iff, List.mem_toFinset]; exact List.mem_map_of_mem (by decide))
theorem keepTotal (V : Valuation τ sig (Elt F)) (r : Ref sig .tc) (h : r ∉ dstTotal) :
    after opsTotal V (Proc.devRef .tc r) = V (Proc.devRef .tc r) :=
  after_of_writes_sub opsTotal _ writesTotal h

theorem subHeads : (opsHeads : List (HloOp τ sig (Elt F))).Forall fun op => op.bufs ⊆ tcRefs τ sig :=
  ⟨unary_bufs_sub .., unary_bufs_sub .., binary_bufs_sub .., unary_bufs_sub .., binary_bufs_sub .., unary_bufs_sub .., reshape_bufs_sub .., unary_bufs_sub ..⟩
theorem freshHeads : (opsHeads : List (HloOp τ sig (Elt F))).Forall fun op => op.fresh = ∅ :=
  ⟨rfl, rfl, rfl, rfl, rfl, rfl, rfl, rfl⟩
/-- The buffers that this stage writes. -/
abbrev dstHeads : List (Ref sig .tc) := [main_v139, main_v140, main_v141, main_v142, main_v143, main_v144, main_v145, main_v146]
theorem writesHeads : (opsHeads : List (HloOp τ sig (Elt F))).Forall fun op => op.writes ⊆ (dstHeads.map (Proc.devRef (τ := τ) .tc)).toFinset := by
  simp only [List.Forall]
  refine ⟨?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
theorem keepHeads (V : Valuation τ sig (Elt F)) (r : Ref sig .tc) (h : r ∉ dstHeads) :
    after opsHeads V (Proc.devRef .tc r) = V (Proc.devRef .tc r) :=
  after_of_writes_sub opsHeads _ writesHeads h

theorem subRiders : (opsRiders : List (HloOp τ sig (Elt F))).Forall fun op => op.bufs ⊆ tcRefs τ sig :=
  ⟨unary_bufs_sub .., reshape_bufs_sub .., unary_bufs_sub .., unary_bufs_sub .., reshape_bufs_sub .., unary_bufs_sub ..⟩
theorem freshRiders : (opsRiders : List (HloOp τ sig (Elt F))).Forall fun op => op.fresh = ∅ :=
  ⟨rfl, rfl, rfl, rfl, rfl, rfl⟩
/-- The buffers that this stage writes. -/
abbrev dstRiders : List (Ref sig .tc) := [main_v147, main_v148, main_v149, main_v150, main_v151, main_v152]
theorem writesRiders : (opsRiders : List (HloOp τ sig (Elt F))).Forall fun op => op.writes ⊆ (dstRiders.map (Proc.devRef (τ := τ) .tc)).toFinset := by
  simp only [List.Forall]
  refine ⟨?_, ?_, ?_, ?_, ?_, ?_⟩ <;>
    (simp only [nullary_writes, unary_writes, binary_writes, ternary_writes, reshape_writes, nary_writes, Finset.singleton_subset_iff, List.mem_toFinset]; exact List.mem_map_of_mem (by decide))
theorem keepRiders (V : Valuation τ sig (Elt F)) (r : Ref sig .tc) (h : r ∉ dstRiders) :
    after opsRiders V (Proc.devRef .tc r) = V (Proc.devRef .tc r) :=
  after_of_writes_sub opsRiders _ writesRiders h

theorem subAll : (opsAll : List (HloOp τ sig (Elt F))).Forall fun op => op.bufs ⊆ tcRefs τ sig :=
  List.forall_iff_forall_mem.mpr fun op h => by
    simp only [opsAll, opsPart0, opsPart1, opsPart2, List.mem_append, or_assoc] at h
    rcases h with h | h | h | h | h | h | h | h | h | h | h | h | h | h | h | h | h | h | h | h | h
    exacts [List.forall_iff_forall_mem.mp subQNorm op h, List.forall_iff_forall_mem.mp subKNorm op h, List.forall_iff_forall_mem.mp subAngle op h, List.forall_iff_forall_mem.mp subQTurn op h, List.forall_iff_forall_mem.mp subQRope op h, List.forall_iff_forall_mem.mp subKTurn op h, List.forall_iff_forall_mem.mp subKRope op h, List.forall_iff_forall_mem.mp subKBack op h, List.forall_iff_forall_mem.mp subKPair op h, List.forall_iff_forall_mem.mp subVBack op h, List.forall_iff_forall_mem.mp subVPair op h, List.forall_iff_forall_mem.mp subScores op h, List.forall_iff_forall_mem.mp subBase op h, List.forall_iff_forall_mem.mp subMask op h, List.forall_iff_forall_mem.mp subSinks op h, List.forall_iff_forall_mem.mp subJoined op h, List.forall_iff_forall_mem.mp subTop op h, List.forall_iff_forall_mem.mp subExps op h, List.forall_iff_forall_mem.mp subTotal op h, List.forall_iff_forall_mem.mp subHeads op h, List.forall_iff_forall_mem.mp subRiders op h]
theorem freshAll : ∀ op ∈ (opsAll : List (HloOp τ sig (Elt F))), op.fresh = ∅ := fun op h => by
    simp only [opsAll, opsPart0, opsPart1, opsPart2, List.mem_append, or_assoc] at h
    rcases h with h | h | h | h | h | h | h | h | h | h | h | h | h | h | h | h | h | h | h | h | h
    exacts [List.forall_iff_forall_mem.mp freshQNorm op h, List.forall_iff_forall_mem.mp freshKNorm op h, List.forall_iff_forall_mem.mp freshAngle op h, List.forall_iff_forall_mem.mp freshQTurn op h, List.forall_iff_forall_mem.mp freshQRope op h, List.forall_iff_forall_mem.mp freshKTurn op h, List.forall_iff_forall_mem.mp freshKRope op h, List.forall_iff_forall_mem.mp freshKBack op h, List.forall_iff_forall_mem.mp freshKPair op h, List.forall_iff_forall_mem.mp freshVBack op h, List.forall_iff_forall_mem.mp freshVPair op h, List.forall_iff_forall_mem.mp freshScores op h, List.forall_iff_forall_mem.mp freshBase op h, List.forall_iff_forall_mem.mp freshMask op h, List.forall_iff_forall_mem.mp freshSinks op h, List.forall_iff_forall_mem.mp freshJoined op h, List.forall_iff_forall_mem.mp freshTop op h, List.forall_iff_forall_mem.mp freshExps op h, List.forall_iff_forall_mem.mp freshTotal op h, List.forall_iff_forall_mem.mp freshHeads op h, List.forall_iff_forall_mem.mp freshRiders op h]

/-! ### What each stage leaves -/

/-- The contents after the normalized queries. -/
def atQNorm (V : Valuation τ sig (Elt F)) : Valuation τ sig (Elt F) := after opsQNorm V
/-- The contents after the normalized keys and the values. -/
def atKNorm (V : Valuation τ sig (Elt F)) : Valuation τ sig (Elt F) := after opsKNorm (atQNorm V)
/-- The contents after the angles of the positions. -/
def atAngle (V : Valuation τ sig (Elt F)) : Valuation τ sig (Elt F) := after opsAngle (atKNorm V)
/-- The contents after the turned parts of the queries. -/
def atQTurn (V : Valuation τ sig (Elt F)) : Valuation τ sig (Elt F) := after opsQTurn (atAngle V)
/-- The contents after the turned queries. -/
def atQRope (V : Valuation τ sig (Elt F)) : Valuation τ sig (Elt F) := after opsQRope (atQTurn V)
/-- The contents after the turned parts of the keys. -/
def atKTurn (V : Valuation τ sig (Elt F)) : Valuation τ sig (Elt F) := after opsKTurn (atQRope V)
/-- The contents after the turned keys. -/
def atKRope (V : Valuation τ sig (Elt F)) : Valuation τ sig (Elt F) := after opsKRope (atKTurn V)
/-- The contents after the scaled queries and the keys of the block before. -/
def atKBack (V : Valuation τ sig (Elt F)) : Valuation τ sig (Elt F) := after opsKBack (atKRope V)
/-- The contents after the keys of two blocks. -/
def atKPair (V : Valuation τ sig (Elt F)) : Valuation τ sig (Elt F) := after opsKPair (atKBack V)
/-- The contents after the values of the block before. -/
def atVBack (V : Valuation τ sig (Elt F)) : Valuation τ sig (Elt F) := after opsVBack (atKPair V)
/-- The contents after the values of two blocks. -/
def atVPair (V : Valuation τ sig (Elt F)) : Valuation τ sig (Elt F) := after opsVPair (atVBack V)
/-- The contents after the scores. -/
def atScores (V : Valuation τ sig (Elt F)) : Valuation τ sig (Elt F) := after opsScores (atVPair V)
/-- The contents after the first positions of the blocks. -/
def atBase (V : Valuation τ sig (Elt F)) : Valuation τ sig (Elt F) := after opsBase (atScores V)
/-- The contents after which scores count. -/
def atMask (V : Valuation τ sig (Elt F)) : Valuation τ sig (Elt F) := after opsMask (atBase V)
/-- The contents after the masked scores and the sinks. -/
def atSinks (V : Valuation τ sig (Elt F)) : Valuation τ sig (Elt F) := after opsSinks (atMask V)
/-- The contents after the masked scores beside the sinks. -/
def atJoined (V : Valuation τ sig (Elt F)) : Valuation τ sig (Elt F) := after opsJoined (atSinks V)
/-- The contents after the largest of each row. -/
def atTop (V : Valuation τ sig (Elt F)) : Valuation τ sig (Elt F) := after opsTop (atJoined V)
/-- The contents after the exponentials. -/
def atExps (V : Valuation τ sig (Elt F)) : Valuation τ sig (Elt F) := after opsExps (atTop V)
/-- The contents after the sums of the exponentials. -/
def atTotal (V : Valuation τ sig (Elt F)) : Valuation τ sig (Elt F) := after opsTotal (atExps V)
/-- The contents after the weighted values. -/
def atHeads (V : Valuation τ sig (Elt F)) : Valuation τ sig (Elt F) := after opsHeads (atTotal V)
/-- The contents after the two carried weights. -/
def atRiders (V : Valuation τ sig (Elt F)) : Valuation τ sig (Elt F) := after opsRiders (atHeads V)

theorem after_opsAll (V : Valuation τ sig (Elt F)) : after opsAll V = atRiders V := by
  simp only [opsAll, opsPart0, opsPart1, opsPart2, after_append]
  rfl

/-- Every run ends with each buffer as the last stage leaves it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = atRiders (launchContents m c) (Proc.devRef .tc b) :=
  (θ_run _ _ _).mono (fun r h c b => (h c b).trans (congrFun (after_opsAll (launchContents m c)) _))
    (run_seq scopedRefs_eq scopedSems_eq defs main (fun _ => opsAll) main_eq (fun _ => subAll) m ρ fun _ => freshAll)

/-- A buffer that no stage writes keeps its contents. -/
theorem kept (V : Valuation τ sig (Elt F)) (r : Ref sig .tc) (h0 : r ∉ dstQNorm) (h1 : r ∉ dstKNorm) (h2 : r ∉ dstAngle) (h3 : r ∉ dstQTurn) (h4 : r ∉ dstQRope) (h5 : r ∉ dstKTurn) (h6 : r ∉ dstKRope) (h7 : r ∉ dstKBack) (h8 : r ∉ dstKPair) (h9 : r ∉ dstVBack) (h10 : r ∉ dstVPair) (h11 : r ∉ dstScores) (h12 : r ∉ dstBase) (h13 : r ∉ dstMask) (h14 : r ∉ dstSinks) (h15 : r ∉ dstJoined) (h16 : r ∉ dstTop) (h17 : r ∉ dstExps) (h18 : r ∉ dstTotal) (h19 : r ∉ dstHeads) (h20 : r ∉ dstRiders) :
    atRiders V (Proc.devRef .tc r) = V (Proc.devRef .tc r) :=
  (keepRiders (atHeads V) r h20).trans ((keepHeads (atTotal V) r h19).trans ((keepTotal (atExps V) r h18).trans ((keepExps (atTop V) r h17).trans ((keepTop (atJoined V) r h16).trans ((keepJoined (atSinks V) r h15).trans ((keepSinks (atMask V) r h14).trans ((keepMask (atBase V) r h13).trans ((keepBase (atScores V) r h12).trans ((keepScores (atVPair V) r h11).trans ((keepVPair (atVBack V) r h10).trans ((keepVBack (atKPair V) r h9).trans ((keepKPair (atKBack V) r h8).trans ((keepKBack (atKRope V) r h7).trans ((keepKRope (atKTurn V) r h6).trans ((keepKTurn (atQRope V) r h5).trans ((keepQRope (atQTurn V) r h4).trans ((keepQTurn (atAngle V) r h3).trans ((keepAngle (atKNorm V) r h2).trans ((keepKNorm (atQNorm V) r h1).trans (keepQNorm V r h0))))))))))))))))))))

end Cert.Proof.AttnRef

end
-- ==== Proof.AttnRef.lean ====
/- The attention's reference, entry by entry: what each stage leaves, and the masked scores with their sink. -/
module

public import proofs.«01_k».proof.Proof.AttnOps
public import proofs.«01_k».proof.Proof.AttnSpec
public import Idealize.ShloMosaic.Lib.StableHlo.ReadAt
public import Idealize.ShloMosaic.Lib.Pointwise
public import Idealize.ShloMosaic.Lib.Tactic.WordOmega

@[expose] public section

set_option maxRecDepth 16384

noncomputable section

namespace Cert.Proof.AttnRef

open Cert.ReferenceIdeal Cert.ReferenceIdeal.Gen Idealize.ShloMosaic Idealize.ShloMosaic.TcCoe Idealize.SL.Sem Idealize.ShloMosaic.StableHlo
open Cert.Proof.Spec

variable (V : Valuation τ sig (Elt Ideal))

/-! One buffer of a state, as an array. -/

abbrev rd_v18 (W : Valuation τ sig (Elt Ideal)) : S16x2048x8x64.Idx → EReal := W (Proc.devRef .tc main_v18)
abbrev rd_v3 (W : Valuation τ sig (Elt Ideal)) : S16x2048x128.Idx → EReal := W (Proc.devRef .tc main_v3)
abbrev rd_v4 (W : Valuation τ sig (Elt Ideal)) : S16x2048x128.Idx → EReal := W (Proc.devRef .tc main_v4)
abbrev rd_v32 (W : Valuation τ sig (Elt Ideal)) : S16x2048x2x64.Idx → EReal := W (Proc.devRef .tc main_v32)
abbrev rd_arg3 (W : Valuation τ sig (Elt Ideal)) : S64.Idx → EReal := W (Proc.devRef .tc main_arg3)
abbrev rd_v33 (W : Valuation τ sig (Elt Ideal)) : S16x2048x2x64.Idx → EReal := W (Proc.devRef .tc main_v33)
abbrev rd_v49 (W : Valuation τ sig (Elt Ideal)) : S16x2048x8.Idx → EReal := W (Proc.devRef .tc main_v49)
abbrev rd_arg1 (W : Valuation τ sig (Elt Ideal)) : S16x2048.Idx → BitVec 32 := W (Proc.devRef .tc main_arg1)
abbrev rd_v61 (W : Valuation τ sig (Elt Ideal)) : S16x2048x8x8.Idx → EReal := W (Proc.devRef .tc main_v61)
abbrev rd_v66 (W : Valuation τ sig (Elt Ideal)) : S16x2048x8x8.Idx → EReal := W (Proc.devRef .tc main_v66)
abbrev rd_v56 (W : Valuation τ sig (Elt Ideal)) : S16x2048x8x48.Idx → EReal := W (Proc.devRef .tc main_v56)
abbrev rd_v67 (W : Valuation τ sig (Elt Ideal)) : S16x2048x8x64.Idx → EReal := W (Proc.devRef .tc main_v67)
abbrev rd_v75 (W : Valuation τ sig (Elt Ideal)) : S16x2048x2x8.Idx → EReal := W (Proc.devRef .tc main_v75)
abbrev rd_v51 (W : Valuation τ sig (Elt Ideal)) : S16x2048x1x8.Idx → EReal := W (Proc.devRef .tc main_v51)
abbrev rd_v53 (W : Valuation τ sig (Elt Ideal)) : S16x2048x1x8.Idx → EReal := W (Proc.devRef .tc main_v53)
abbrev rd_v80 (W : Valuation τ sig (Elt Ideal)) : S16x2048x2x8.Idx → EReal := W (Proc.devRef .tc main_v80)
abbrev rd_v70 (W : Valuation τ sig (Elt Ideal)) : S16x2048x2x48.Idx → EReal := W (Proc.devRef .tc main_v70)
abbrev rd_v81 (W : Valuation τ sig (Elt Ideal)) : S16x2048x2x64.Idx → EReal := W (Proc.devRef .tc main_v81)
abbrev rd_v84 (W : Valuation τ sig (Elt Ideal)) : S16x16x128x2x4x64.Idx → EReal := W (Proc.devRef .tc main_v84)
abbrev rd_v85 (W : Valuation τ sig (Elt Ideal)) : S16x16x128x2x64.Idx → EReal := W (Proc.devRef .tc main_v85)
abbrev rd_v86 (W : Valuation τ sig (Elt Ideal)) : S16x16x128x2x64.Idx → EReal := W (Proc.devRef .tc main_v86)
abbrev rd_v88 (W : Valuation τ sig (Elt Ideal)) : S16x16x128x2x64.Idx → EReal := W (Proc.devRef .tc main_v88)
abbrev rd_v89 (W : Valuation τ sig (Elt Ideal)) : S16x16x256x2x64.Idx → EReal := W (Proc.devRef .tc main_v89)
abbrev rd_v91 (W : Valuation τ sig (Elt Ideal)) : S16x16x128x2x64.Idx → EReal := W (Proc.devRef .tc main_v91)
abbrev rd_v92 (W : Valuation τ sig (Elt Ideal)) : S16x16x256x2x64.Idx → EReal := W (Proc.devRef .tc main_v92)
abbrev rd_v94 (W : Valuation τ sig (Elt Ideal)) : S16x16x2x4x128x256.Idx → EReal := W (Proc.devRef .tc main_v94)
abbrev rd_v103 (W : Valuation τ sig (Elt Ideal)) : S16x128.Idx → BitVec 32 := W (Proc.devRef .tc main_v103)
abbrev rd_v98 (W : Valuation τ sig (Elt Ideal)) : S16x1.Idx → BitVec 32 := W (Proc.devRef .tc main_v98)
abbrev rd_v104 (W : Valuation τ sig (Elt Ideal)) : S16x1.Idx → BitVec 32 := W (Proc.devRef .tc main_v104)
abbrev rd_v126 (W : Valuation τ sig (Elt Ideal)) : S1x16x1x1x128x256.Idx → BitVec 1 := W (Proc.devRef .tc main_v126)
abbrev rd_v127 (W : Valuation τ sig (Elt Ideal)) : S16x16x2x4x128x256.Idx → EReal := W (Proc.devRef .tc main_v127)
abbrev rd_v129 (W : Valuation τ sig (Elt Ideal)) : S16x16x2x4x128x1.Idx → EReal := W (Proc.devRef .tc main_v129)
abbrev rd_arg4 (W : Valuation τ sig (Elt Ideal)) : S8.Idx → EReal := W (Proc.devRef .tc main_arg4)
abbrev rd_v130 (W : Valuation τ sig (Elt Ideal)) : S16x16x2x4x128x257.Idx → EReal := W (Proc.devRef .tc main_v130)

/-- The arguments, as arrays of extended reals and of words. -/
abbrev aP : S16x2048x5120.Idx → EReal := V (Proc.devRef .tc main_arg0)
abbrev aPos : S16x2048.Idx → BitVec 32 := V (Proc.devRef .tc main_arg1)
abbrev aQ : S64.Idx → EReal := V (Proc.devRef .tc main_arg2)
abbrev aK : S64.Idx → EReal := V (Proc.devRef .tc main_arg3)
abbrev aS : S8.Idx → EReal := V (Proc.devRef .tc main_arg4)

theorem q_normed (b : Fin 16) (t : Fin 2048) (h : Fin 8) (d : Fin 64) :
    rd_v18 (atQNorm V) (ix4 b t h d)
      = rms (fun e => aP V (ix3 b t ⟨1792 + (h.val * 64 + e.val), by omega⟩)) (fun e => aQ V (ix1 e)) d := by
  unfold atQNorm rms
  dsimp only [rd_v18]
  after_reads_at

theorem k_cols (b : Fin 16) (t : Fin 2048) (k : Fin 128) :
    rd_v3 (atQNorm V) (ix3 b t k) = aP V (ix3 b t ⟨1792 + (512 + k.val), by omega⟩) := by
  unfold atQNorm
  dsimp only [rd_v3]
  after_reads_at

theorem v_cols (b : Fin 16) (t : Fin 2048) (k : Fin 128) :
    rd_v4 (atQNorm V) (ix3 b t k) = aP V (ix3 b t ⟨1792 + (640 + k.val), by omega⟩) := by
  unfold atQNorm
  dsimp only [rd_v4]
  after_reads_at

theorem k_step (W : Valuation τ sig (Elt Ideal)) (b : Fin 16) (t : Fin 2048) (kh : Fin 2) (d : Fin 64) :
    rd_v32 (after opsKNorm W) (ix4 b t kh d)
      = rms (fun e => rd_v3 W (ix3 b t ⟨kh.val * 64 + e.val, by omega⟩))
          (fun e => rd_arg3 W (ix1 e)) d := by
  unfold rms
  dsimp only [rd_arg3, rd_v3, rd_v32]
  after_reads_at

theorem v_step (W : Valuation τ sig (Elt Ideal)) (b : Fin 16) (t : Fin 2048) (kh : Fin 2) (d : Fin 64) :
    rd_v33 (after opsKNorm W) (ix4 b t kh d)
      = rd_v4 W (ix3 b t ⟨kh.val * 64 + d.val, by omega⟩) := by
  dsimp only [rd_v33, rd_v4]
  after_reads_at

theorem k_normed (b : Fin 16) (t : Fin 2048) (kh : Fin 2) (d : Fin 64) :
    rd_v32 (atKNorm V) (ix4 b t kh d)
      = rms (fun e => aP V (ix3 b t ⟨1792 + (512 + (kh.val * 64 + e.val)), by omega⟩)) (fun e => aK V (ix1 e)) d := by
  unfold atKNorm
  rw [k_step]
  exact congrArg₂ (fun x g => rms x g d) (funext fun e => k_cols V b t _)
    (funext fun e => congrFun (show rd_arg3 (atQNorm V) = rd_arg3 V from keepQNorm V main_arg3 (by decide)) _)

theorem v_plain (b : Fin 16) (t : Fin 2048) (kh : Fin 2) (d : Fin 64) :
    rd_v33 (atKNorm V) (ix4 b t kh d) = val (aP V) b t kh d := by
  unfold atKNorm val
  rw [v_step, v_cols]

theorem a_step (W : Valuation τ sig (Elt Ideal)) (b : Fin 16) (t : Fin 2048) (i : Fin 8) :
    rd_v49 (after opsAngle W) (ix3 b t i)
      = angle (rd_arg1 W (ix2 b t)) i := by
  unfold angle
  dsimp only [rd_arg1, rd_v49]
  after_reads_at

theorem a_at (b : Fin 16) (t : Fin 2048) (i : Fin 8) :
    rd_v49 (atAngle V) (ix3 b t i) = angle (aPos V (ix2 b t)) i := by
  unfold atAngle
  rw [a_step, show rd_arg1 (atKNorm V) = rd_arg1 V from
    (keepKNorm _ main_arg1 (by decide)).trans (keepQNorm V main_arg1 (by decide))]

/-! ### The turned heads -/

theorem q_low (W : Valuation τ sig (Elt Ideal)) (b : Fin 16) (t : Fin 2048) (h : Fin 8) (e : Fin 8) :
    rd_v61 (after opsQTurn W) (ix4 b t h e)
      = rd_v18 W (ix4 b t h ⟨e.val, by omega⟩)
          * Ideal.cos (rd_v49 W (ix3 b t e))
        - rd_v18 W (ix4 b t h ⟨8 + e.val, by omega⟩)
          * Ideal.sin (rd_v49 W (ix3 b t e)) := by
  dsimp only [rd_v18, rd_v49, rd_v61]
  after_reads_at

theorem q_high (W : Valuation τ sig (Elt Ideal)) (b : Fin 16) (t : Fin 2048) (h : Fin 8) (e : Fin 8) :
    rd_v66 (after opsQTurn W) (ix4 b t h e)
      = rd_v18 W (ix4 b t h ⟨8 + e.val, by omega⟩)
          * Ideal.cos (rd_v49 W (ix3 b t e))
        + rd_v18 W (ix4 b t h ⟨e.val, by omega⟩)
          * Ideal.sin (rd_v49 W (ix3 b t e)) := by
  dsimp only [rd_v18, rd_v49, rd_v66]
  after_reads_at

theorem q_rest (W : Valuation τ sig (Elt Ideal)) (b : Fin 16) (t : Fin 2048) (h : Fin 8) (e : Fin 48) :
    rd_v56 (after opsQTurn W) (ix4 b t h e)
      = rd_v18 W (ix4 b t h ⟨16 + e.val, by omega⟩) := by
  dsimp only [rd_v18, rd_v56]
  after_reads_at

theorem q_join (W : Valuation τ sig (Elt Ideal)) (b : Fin 16) (t : Fin 2048) (h : Fin 8) (d : Fin 64) :
    rd_v67 (after opsQRope W) (ix4 b t h d)
      = if h1 : d.val < 8 then rd_v61 W (ix4 b t h ⟨d.val, h1⟩)
        else if h2 : d.val - 8 < 8 then rd_v66 W (ix4 b t h ⟨d.val - 8, h2⟩)
        else rd_v56 W (ix4 b t h ⟨d.val - 8 - 8, by omega⟩) := by
  dsimp only [rd_v56, rd_v61, rd_v66, rd_v67]
  after_reads_at
  unfold joinQ
  pointwise

theorem q_turned (b : Fin 16) (t : Fin 2048) (h : Fin 8) (d : Fin 64) :
    rd_v67 (atQRope V) (ix4 b t h d)
      = turn (rms (fun e => aP V (ix3 b t ⟨1792 + (h.val * 64 + e.val), by omega⟩)) (fun e => aQ V (ix1 e))) (angle (aPos V (ix2 b t))) d := by
  have hq : ∀ e, rd_v18 (atAngle V) (ix4 b t h e)
      = rms (fun e => aP V (ix3 b t ⟨1792 + (h.val * 64 + e.val), by omega⟩)) (fun e => aQ V (ix1 e)) e := fun e => by
    rw [← q_normed, show rd_v18 (atAngle V) = rd_v18 (atQNorm V) from
      (keepAngle _ main_v18 (by decide)).trans (keepKNorm _ main_v18 (by decide))]
  unfold atQRope
  rw [q_join]
  unfold atQTurn turn
  by_cases h1 : d.val < 8
  · rw [dif_pos h1, dif_pos h1, q_low, hq, hq, a_at]
  · rw [dif_neg h1, dif_neg h1]
    by_cases h2 : d.val - 8 < 8
    · rw [dif_pos h2, dif_pos h2, q_high, hq, hq, a_at]
      simp only [show 8 + (d.val - 8) = d.val by omega]
    · rw [dif_neg h2, dif_neg h2, q_rest, hq]
      simp only [show 16 + (d.val - 8 - 8) = d.val by omega]

theorem k_low (W : Valuation τ sig (Elt Ideal)) (b : Fin 16) (t : Fin 2048) (h : Fin 2) (e : Fin 8) :
    rd_v75 (after opsKTurn W) (ix4 b t h e)
      = rd_v32 W (ix4 b t h ⟨e.val, by omega⟩)
          * rd_v51 W (ix4 b t 0 e)
        - rd_v32 W (ix4 b t h ⟨8 + e.val, by omega⟩)
          * rd_v53 W (ix4 b t 0 e) := by
  dsimp only [rd_v32, rd_v51, rd_v53, rd_v75]
  after_reads_at

theorem k_high (W : Valuation τ sig (Elt Ideal)) (b : Fin 16) (t : Fin 2048) (h : Fin 2) (e : Fin 8) :
    rd_v80 (after opsKTurn W) (ix4 b t h e)
      = rd_v32 W (ix4 b t h ⟨8 + e.val, by omega⟩)
          * rd_v51 W (ix4 b t 0 e)
        + rd_v32 W (ix4 b t h ⟨e.val, by omega⟩)
          * rd_v53 W (ix4 b t 0 e) := by
  dsimp only [rd_v32, rd_v51, rd_v53, rd_v80]
  after_reads_at

theorem k_rest (W : Valuation τ sig (Elt Ideal)) (b : Fin 16) (t : Fin 2048) (h : Fin 2) (e : Fin 48) :
    rd_v70 (after opsKTurn W) (ix4 b t h e)
      = rd_v32 W (ix4 b t h ⟨16 + e.val, by omega⟩) := by
  dsimp only [rd_v32, rd_v70]
  after_reads_at

theorem k_join (W : Valuation τ sig (Elt Ideal)) (b : Fin 16) (t : Fin 2048) (h : Fin 2) (d : Fin 64) :
    rd_v81 (after opsKRope W) (ix4 b t h d)
      = if h1 : d.val < 8 then rd_v75 W (ix4 b t h ⟨d.val, h1⟩)
        else if h2 : d.val - 8 < 8 then rd_v80 W (ix4 b t h ⟨d.val - 8, h2⟩)
        else rd_v70 W (ix4 b t h ⟨d.val - 8 - 8, by omega⟩) := by
  dsimp only [rd_v70, rd_v75, rd_v80, rd_v81]
  after_reads_at
  unfold joinK
  pointwise

theorem cos_step (W : Valuation τ sig (Elt Ideal)) (b : Fin 16) (t : Fin 2048) (e : Fin 8) :
    rd_v51 (after opsQTurn W) (ix4 b t 0 e)
      = Ideal.cos (rd_v49 W (ix3 b t e)) := by
  dsimp only [rd_v49, rd_v51]
  after_reads_at

theorem sin_step (W : Valuation τ sig (Elt Ideal)) (b : Fin 16) (t : Fin 2048) (e : Fin 8) :
    rd_v53 (after opsQTurn W) (ix4 b t 0 e)
      = Ideal.sin (rd_v49 W (ix3 b t e)) := by
  dsimp only [rd_v49, rd_v53]
  after_reads_at

theorem k_turned (b : Fin 16) (t : Fin 2048) (kh : Fin 2) (d : Fin 64) :
    rd_v81 (atKRope V) (ix4 b t kh d) = key (aP V) (aPos V) (aK V) b t kh d := by
  have hk : ∀ e, rd_v32 (atQRope V) (ix4 b t kh e)
      = rms (fun e => aP V (ix3 b t ⟨1792 + (512 + (kh.val * 64 + e.val)), by omega⟩)) (fun e => aK V (ix1 e)) e := fun e => by
    rw [← k_normed, show rd_v32 (atQRope V) = rd_v32 (atKNorm V) from
      (keepQRope _ main_v32 (by decide)).trans ((keepQTurn _ main_v32 (by decide)).trans (keepAngle _ main_v32 (by decide)))]
  have hc : ∀ e, rd_v51 (atQRope V) (ix4 b t 0 e) = Ideal.cos (angle (aPos V (ix2 b t)) e) := fun e => by
    rw [show rd_v51 (atQRope V) = rd_v51 (atQTurn V) from keepQRope _ main_v51 (by decide)]
    unfold atQTurn
    rw [cos_step, a_at]
  have hs : ∀ e, rd_v53 (atQRope V) (ix4 b t 0 e) = Ideal.sin (angle (aPos V (ix2 b t)) e) := fun e => by
    rw [show rd_v53 (atQRope V) = rd_v53 (atQTurn V) from keepQRope _ main_v53 (by decide)]
    unfold atQTurn
    rw [sin_step, a_at]
  unfold atKRope
  rw [k_join]
  unfold atKTurn key turn
  by_cases h1 : d.val < 8
  · rw [dif_pos h1, dif_pos h1, k_low, hk, hk, hc, hs]
  · rw [dif_neg h1, dif_neg h1]
    by_cases h2 : d.val - 8 < 8
    · rw [dif_pos h2, dif_pos h2, k_high, hk, hk, hc, hs]
      simp only [show 8 + (d.val - 8) = d.val by omega]
    · rw [dif_neg h2, dif_neg h2, k_rest, hk]
      simp only [show 16 + (d.val - 8 - 8) = d.val by omega]

/-! ### The blocks -/

theorem q_step (W : Valuation τ sig (Elt Ideal)) (b n : Fin 16) (i : Fin 128) (kh : Fin 2) (g : Fin 4) (d : Fin 64) :
    rd_v84 (after opsKBack W) (ix6 b n i kh g d)
      = rd_v67 W (ix4 b (at' n i) ⟨kh.val * 4 + g.val, by omega⟩ d) * eighth := by
  unfold eighth
  dsimp only [rd_v67, rd_v84]
  after_reads_at

theorem kc_step (W : Valuation τ sig (Elt Ideal)) (b n : Fin 16) (i : Fin 128) (kh : Fin 2) (d : Fin 64) :
    rd_v85 (after opsKBack W) (ix5 b n i kh d)
      = rd_v81 W (ix4 b (at' n i) kh d) := by
  dsimp only [rd_v81, rd_v85]
  after_reads_at

theorem vc_step (W : Valuation τ sig (Elt Ideal)) (b n : Fin 16) (i : Fin 128) (kh : Fin 2) (d : Fin 64) :
    rd_v86 (after opsKBack W) (ix5 b n i kh d)
      = rd_v33 W (ix4 b (at' n i) kh d) := by
  dsimp only [rd_v33, rd_v86]
  after_reads_at

theorem kb_step (W : Valuation τ sig (Elt Ideal)) (b n : Fin 16) (i : Fin 128) (kh : Fin 2) (d : Fin 64) :
    rd_v88 (after opsKBack W) (ix5 b n i kh d)
      = if _h : 1 ≤ n.val ∧ n.val - 1 < 16 then rd_v81 W (ix4 b (bef n i) kh d)
        else (FloatOps.sitofp (F := Ideal) FTy.f32 (0#32 : BitVec 32) : EReal) := by
  dsimp only [rd_v81, rd_v88]
  after_reads_at

theorem kp_step (W : Valuation τ sig (Elt Ideal)) (b n : Fin 16) (j : Fin 256) (kh : Fin 2) (d : Fin 64) :
    rd_v89 (after opsKPair W) (ix5 b n j kh d)
      = if h : j.val < 128 then rd_v88 W (ix5 b n ⟨j.val, h⟩ kh d)
        else rd_v85 W (ix5 b n ⟨j.val - 128, by omega⟩ kh d) := by
  dsimp only [rd_v85, rd_v88, rd_v89]
  after_reads_at
  unfold pairK
  pointwise

theorem vb_step (W : Valuation τ sig (Elt Ideal)) (b n : Fin 16) (i : Fin 128) (kh : Fin 2) (d : Fin 64) :
    rd_v91 (after opsVBack W) (ix5 b n i kh d)
      = if h : 1 ≤ n.val ∧ n.val - 1 < 16 then rd_v86 W (ix5 b ⟨n.val - 1, h.2⟩ i kh d)
        else (FloatOps.sitofp (F := Ideal) FTy.f32 (0#32 : BitVec 32) : EReal) := by
  dsimp only [rd_v86, rd_v91]
  after_reads_at

theorem vp_step (W : Valuation τ sig (Elt Ideal)) (b n : Fin 16) (j : Fin 256) (kh : Fin 2) (d : Fin 64) :
    rd_v92 (after opsVPair W) (ix5 b n j kh d)
      = if h : j.val < 128 then rd_v91 W (ix5 b n ⟨j.val, h⟩ kh d)
        else rd_v86 W (ix5 b n ⟨j.val - 128, by omega⟩ kh d) := by
  dsimp only [rd_v86, rd_v91, rd_v92]
  after_reads_at
  unfold pairV
  pointwise

theorem sc_step (W : Valuation τ sig (Elt Ideal)) (b n : Fin 16) (kh : Fin 2) (g : Fin 4) (i : Fin 128) (j : Fin 256) :
    rd_v94 (after opsScores W) (ix6 b n kh g i j)
      = ∑ d : Fin 64, rd_v89 W (ix5 b n j kh d)
          * rd_v84 W (ix6 b n i kh g d) := by
  dsimp only [rd_v84, rd_v89, rd_v94]
  after_reads_at

/-- Zero as a whole number is zero. -/
theorem zero_word : (FloatOps.sitofp (F := Ideal) FTy.f32 (0#32 : BitVec 32) : EReal) = 0 := by
  simp [FloatOps.sitofp]

abbrev hd (kh : Fin 2) (g : Fin 4) : Fin 8 := ⟨kh.val * 4 + g.val, by omega⟩

theorem q_block (b n : Fin 16) (i : Fin 128) (kh : Fin 2) (g : Fin 4) (d : Fin 64) :
    rd_v84 (atKBack V) (ix6 b n i kh g d)
      = qry (aP V) (aPos V) (aQ V) b (at' n i) (hd kh g) d := by
  unfold atKBack qry
  rw [q_step, ← q_turned, show rd_v67 (atKRope V) = rd_v67 (atQRope V) from
    (keepKRope _ main_v67 (by decide)).trans (keepKTurn _ main_v67 (by decide))]

theorem k_pair (b n : Fin 16) (j : Fin 256) (kh : Fin 2) (d : Fin 64) :
    rd_v89 (atKPair V) (ix5 b n j kh d)
      = if h : j.val < 128 then (if 1 ≤ n.val then key (aP V) (aPos V) (aK V) b (bef n ⟨j.val, h⟩) kh d else 0)
        else key (aP V) (aPos V) (aK V) b (at' n ⟨j.val - 128, by omega⟩) kh d := by
  unfold atKPair
  rw [kp_step]
  unfold atKBack
  split
  · rw [kb_step, k_turned, zero_word]
    by_cases hn : 1 ≤ n.val
    · rw [dif_pos ⟨hn, by omega⟩, if_pos hn]
    · rw [dif_neg (fun h => hn h.1), if_neg hn]
  · rw [kc_step, k_turned]

theorem v_pair (b n : Fin 16) (j : Fin 256) (kh : Fin 2) (d : Fin 64) :
    rd_v92 (atVPair V) (ix5 b n j kh d)
      = if h : j.val < 128 then (if 1 ≤ n.val then val (aP V) b (bef n ⟨j.val, h⟩) kh d else 0)
        else val (aP V) b (at' n ⟨j.val - 128, by omega⟩) kh d := by
  have hv : ∀ (n : Fin 16) i d, rd_v86 (atKPair V) (ix5 b n i kh d) = val (aP V) b (at' n i) kh d := by
    intro n i d
    rw [show rd_v86 (atKPair V) = rd_v86 (atKBack V) from keepKPair _ main_v86 (by decide)]
    unfold atKBack
    rw [vc_step, ← v_plain, show rd_v33 (atKRope V) = rd_v33 (atKNorm V) from
      (keepKRope _ main_v33 (by decide)).trans ((keepKTurn _ main_v33 (by decide)).trans ((keepQRope _ main_v33 (by decide)).trans
        ((keepQTurn _ main_v33 (by decide)).trans (keepAngle _ main_v33 (by decide)))))]
  unfold atVPair
  rw [vp_step]
  split
  · unfold atVBack
    rw [vb_step, zero_word]
    by_cases hn : 1 ≤ n.val
    · rw [dif_pos ⟨hn, by omega⟩, if_pos hn, hv]
    · rw [dif_neg (fun h => hn h.1), if_neg hn]
  · rw [show rd_v86 (atVBack V) = rd_v86 (atKPair V) from keepVBack _ main_v86 (by decide), hv]

theorem scores (b n : Fin 16) (kh : Fin 2) (g : Fin 4) (i : Fin 128) (j : Fin 256) :
    rd_v94 (atScores V) (ix6 b n kh g i j)
      = ∑ d : Fin 64, qry (aP V) (aPos V) (aQ V) b (at' n i) (hd kh g) d
          * (if h : j.val < 128 then (if 1 ≤ n.val then key (aP V) (aPos V) (aK V) b (bef n ⟨j.val, h⟩) kh d else 0)
        else key (aP V) (aPos V) (aK V) b (at' n ⟨j.val - 128, by omega⟩) kh d) := by
  unfold atScores
  rw [sc_step]
  refine Finset.sum_congr rfl fun d _ => ?_
  rw [← q_block, ← k_pair, mul_comm,
    show rd_v89 (atVPair V) = rd_v89 (atKPair V) from
      (keepVPair _ main_v89 (by decide)).trans (keepVBack _ main_v89 (by decide)),
    show rd_v84 (atVPair V) = rd_v84 (atKBack V) from
      (keepVPair _ main_v84 (by decide)).trans ((keepVBack _ main_v84 (by decide)).trans (keepKPair _ main_v84 (by decide)))]

/-! ### The mask -/

theorem rows_step (W : Valuation τ sig (Elt Ideal)) (n : Fin 16) (i : Fin 128) :
    rd_v103 (after opsBase W) (ix2 n i)
      = IntOp.addi (IntOp.muli (BitVec.ofNat 32 n.val) 128#32) (BitVec.ofNat 32 i.val) := by
  dsimp only [rd_v103]
  after_reads_at

theorem base_step (W : Valuation τ sig (Elt Ideal)) (n : Fin 16) :
    rd_v98 (after opsBase W) (ix2 n 0) = IntOp.muli (BitVec.ofNat 32 n.val) 128#32 := by
  dsimp only [rd_v98]
  after_reads_at

theorem size_step (W : Valuation τ sig (Elt Ideal)) (n : Fin 16) :
    rd_v104 (after opsBase W) (ix2 n 0) = 128#32 := by
  dsimp only [rd_v104]
  after_reads_at

theorem mask_step (W : Valuation τ sig (Elt Ideal)) (n : Fin 16) (i : Fin 128) (j : Fin 256) :
    rd_v126 (after opsMask W) (ix6 0 n 0 0 i j)
      = IntOp.andi
          (IntOp.andi
            (IntOp.cmpi CmpIPredicate.sge
              (IntOp.subi (rd_v103 W (ix2 n i))
                (IntOp.addi (IntOp.subi (rd_v98 W (ix2 n 0)) (rd_v104 W (ix2 n 0)))
                  (BitVec.ofNat 32 j.val))) 0#32)
            (IntOp.cmpi CmpIPredicate.slt
              (IntOp.subi (rd_v103 W (ix2 n i))
                (IntOp.addi (IntOp.subi (rd_v98 W (ix2 n 0)) (rd_v104 W (ix2 n 0)))
                  (BitVec.ofNat 32 j.val))) 128#32))
          (IntOp.cmpi CmpIPredicate.sge
            (IntOp.addi (IntOp.subi (rd_v98 W (ix2 n 0)) (rd_v104 W (ix2 n 0)))
              (BitVec.ofNat 32 j.val)) 0#32) := by
  dsimp only [rd_v103, rd_v104, rd_v126, rd_v98]
  after_reads_at

/-- Which scores count: those of the block before that are less than a block away, and those of the block not ahead. -/
def counts (n : Fin 16) (i : Fin 128) (j : Fin 256) : Prop :=
  (j.val < 128 ∧ 1 ≤ n.val ∧ i.val < j.val) ∨ (128 ≤ j.val ∧ j.val ≤ 128 + i.val)

instance (n : Fin 16) (i : Fin 128) (j : Fin 256) : Decidable (counts n i j) := by unfold counts; infer_instance

theorem bit_of_iff {w : BitVec 1} {p : Prop} [Decidable p] (h : w = 1#1 ↔ p) : w = if p then 1#1 else 0#1 := by
  by_cases hp : p
  · rw [if_pos hp, h.mpr hp]
  · rw [if_neg hp]
    have : w ≠ 1#1 := fun e => hp (h.mp e)
    have two : ∀ w : BitVec 1, w ≠ 1#1 → w = 0#1 := by decide
    exact two w this

theorem mask_word (n : Fin 16) (i : Fin 128) (j : Fin 256) :
    rd_v126 (atMask V) (ix6 0 n 0 0 i j) = if counts n i j then 1#1 else 0#1 := by
  unfold atMask
  rw [mask_step]
  unfold atBase
  rw [rows_step, base_step, size_step]
  have hn := n.isLt
  have hi := i.isLt
  have hj := j.isLt
  rw [show IntOp.muli (BitVec.ofNat 32 n.val) 128#32 = BitVec.ofNat 32 (n.val * 128) from by
    apply BitVec.eq_of_toNat_eq
    simp [IntOp.muli, BitVec.toNat_mul]]
  simp only [IntOp.subi, IntOp.addi]
  rw [show (BitVec.ofNat 32 (n.val * 128) + BitVec.ofNat 32 i.val - (BitVec.ofNat 32 (n.val * 128) - 128#32 + BitVec.ofNat 32 j.val))
    = BitVec.ofNat 32 (128 + i.val) - BitVec.ofNat 32 j.val from by bv_omega]
  refine bit_of_iff ?_
  rw [IntOp.andi_eq_one, IntOp.andi_eq_one, IntOp.cmpi_sge, IntOp.cmpi_slt, IntOp.cmpi_sge]
  unfold counts
  have e1 : ∀ x : ℕ, x < 4294967296 → (BitVec.ofNat 32 x).toNat = x := fun x hx => by rw [BitVec.toNat_ofNat]; omega
  simp only [BitVec.toInt_eq_toNat_cond, BitVec.toNat_sub, BitVec.toNat_add, e1 (128 + i.val) (by omega), e1 j.val (by omega), e1 (n.val * 128) (by omega),
    e1 128 (by omega), e1 0 (by omega)]
  by_cases hj' : 128 ≤ j.val
  · split_ifs <;> omega
  · split_ifs <;> omega

theorem constant_at : (constant (F := Ideal) S_ FTy.f32 4286578688#32) ix0 = Ideal.ofBits FTy.f32 4286578688#32 := by
  rfl

theorem masked_step (W : Valuation τ sig (Elt Ideal)) (b n : Fin 16) (kh : Fin 2) (g : Fin 4) (i : Fin 128) (j : Fin 256) :
    rd_v127 (after opsSinks W) (ix6 b n kh g i j)
      = Scalar.select (rd_v126 W (ix6 0 n 0 0 i j))
          (rd_v94 W (ix6 b n kh g i j)) (Ideal.ofBits FTy.f32 0xFF800000#32) := by
  dsimp only [rd_v126, rd_v127, rd_v94]
  after_reads_at
  simp only [id_eq, constant_at]

theorem sink_step (W : Valuation τ sig (Elt Ideal)) (b n : Fin 16) (kh : Fin 2) (g : Fin 4) (i : Fin 128) (o : Fin 1) :
    rd_v129 (after opsSinks W) (ix6 b n kh g i o)
      = rd_arg4 W (ix1 (hd kh g)) := by
  dsimp only [rd_arg4, rd_v129]
  after_reads_at

theorem join_step (W : Valuation τ sig (Elt Ideal)) (b n : Fin 16) (kh : Fin 2) (g : Fin 4) (i : Fin 128) (l : Fin 257) :
    rd_v130 (after opsJoined W) (ix6 b n kh g i l)
      = if h : l.val < 256 then rd_v127 W (ix6 b n kh g i ⟨l.val, h⟩)
        else rd_v129 W (ix6 b n kh g i ⟨l.val - 256, by omega⟩) := by
  dsimp only [rd_v127, rd_v129, rd_v130]
  after_reads_at
  unfold withSink
  pointwise

theorem neg_inf : Ideal.ofBits FTy.f32 0xFF800000#32 = (⊥ : EReal) := by
  simp [Ideal.ofBits, Ideal.ieee]

end Cert.Proof.AttnRef

end
-- ==== Proof.AttnSoft.lean ====
/- The attention's reference, entry by entry: the softmax of the masked scores and its weighted values. -/
module

public import proofs.«01_k».proof.Proof.AttnRef
public import Idealize.ShloMosaic.Lib.Pointwise.Reduce

@[expose] public section

set_option maxRecDepth 16384

noncomputable section

namespace Cert.Proof.AttnRef

open Cert.ReferenceIdeal Cert.ReferenceIdeal.Gen Idealize.ShloMosaic Idealize.ShloMosaic.TcCoe Idealize.SL.Sem Idealize.ShloMosaic.StableHlo
open Cert.Proof.Spec

abbrev rd_v131 (W : Valuation τ sig (Elt Ideal)) : S16x16x2x4x128.Idx → EReal := W (Proc.devRef .tc main_v131)
abbrev rd_v137 (W : Valuation τ sig (Elt Ideal)) : S16x16x2x4x128x257.Idx → EReal := W (Proc.devRef .tc main_v137)
abbrev rd_v138 (W : Valuation τ sig (Elt Ideal)) : S16x16x2x4x128.Idx → EReal := W (Proc.devRef .tc main_v138)
abbrev rd_v146 (W : Valuation τ sig (Elt Ideal)) : S16x2048x512.Idx → EReal := W (Proc.devRef .tc main_v146)
abbrev rd_v149 (W : Valuation τ sig (Elt Ideal)) : S5632x2048.Idx → EReal := W (Proc.devRef .tc main_v149)
abbrev rd_v152 (W : Valuation τ sig (Elt Ideal)) : S5632x2048.Idx → EReal := W (Proc.devRef .tc main_v152)
abbrev rd_arg5 (W : Valuation τ sig (Elt Ideal)) : S2x5632x2048.Idx → EReal := W (Proc.devRef .tc main_arg5)
abbrev rd_arg6 (W : Valuation τ sig (Elt Ideal)) : S2x5632x2048.Idx → EReal := W (Proc.devRef .tc main_arg6)

theorem drop_iff (h : S16x16x2x4x128x257.ReducesTo [5] S16x16x2x4x128) (b n : Fin 16) (kh : Fin 2) (g : Fin 4) (p : Fin 128)
    (i : S16x16x2x4x128x257.Idx) : h.drop i = ix5 b n kh g p ↔ ∃ k : Fin 257, ix6 b n kh g p k = i := by
  constructor
  · intro e
    refine ⟨i 5, ?_⟩
    funext a
    apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem sum_rows (v : S16x16x2x4x128x257.Idx → EReal) (init : S_.Idx → EReal) (hi : ∀ i, init i = 0)
    (b n : Fin 16) (kh : Fin 2) (g : Fin 4) (p : Fin 128) :
    (Host.reduceAdd (F := Ideal) (φ := .f32) v init reducesTo_S16x16x2x4x128x257_S16x16x2x4x128_d5 h_S_) (ix5 b n kh g p)
      = ∑ k : Fin 257, v (ix6 b n kh g p k) := by
  rw [Host.reduceAdd_apply, Ideal.hostReduceAdd_def, hi]
  unfold Ideal.hostReduceAdd
  rw [zero_add]
  exact Finset.sum_filter_eq_sum_of_fiber _ (fun k : Fin 257 => ix6 b n kh g p k) (fun _ _ e => congrFun e 5)
    (drop_iff reducesTo_S16x16x2x4x128x257_S16x16x2x4x128_d5 b n kh g p) v

theorem max_rows (v : S16x16x2x4x128x257.Idx → EReal) (init : S_.Idx → EReal) (hi : ∀ i, init i = ⊥)
    (b n : Fin 16) (kh : Fin 2) (g : Fin 4) (p : Fin 128) :
    (Host.reduce (FloatOps.maximumf (F := Ideal) (φ := .f32)) v init reducesTo_S16x16x2x4x128x257_S16x16x2x4x128_d5 h_S_) (ix5 b n kh g p)
      = Finset.univ.sup fun k : Fin 257 => v (ix6 b n kh g p k) := by
  rw [Host.reduce_eq_fold, hi]
  exact Finset.fold_filter_eq_fold_of_fiber (FloatOps.maximumf (F := Ideal) (φ := .f32)) _ (fun k : Fin 257 => ix6 b n kh g p k) (fun _ _ e => congrFun e 5)
    (drop_iff reducesTo_S16x16x2x4x128x257_S16x16x2x4x128_d5 b n kh g p) ⊥ v

theorem top_step (W : Valuation τ sig (Elt Ideal)) (b n : Fin 16) (kh : Fin 2) (g : Fin 4) (i : Fin 128) :
    rd_v131 (after opsTop W) (ix5 b n kh g i) = Finset.univ.sup fun l : Fin 257 => rd_v130 W (ix6 b n kh g i l) := by
  dsimp only [rd_v131, rd_v130]
  after_reads_simp
  exact max_rows (rd_v130 W) (constant (F := Ideal) S_ FTy.f32 0xFF800000#32) (fun _ => neg_inf) b n kh g i

theorem exp_step (W : Valuation τ sig (Elt Ideal)) (b n : Fin 16) (kh : Fin 2) (g : Fin 4) (i : Fin 128) (l : Fin 257) :
    rd_v137 (after opsExps W) (ix6 b n kh g i l)
      = Ideal.exp (rd_v130 W (ix6 b n kh g i l) - max (Ideal.ofBits FTy.f32 0xFF800000#32) (rd_v131 W (ix5 b n kh g i))) := by
  dsimp only [rd_v137, rd_v130, rd_v131]
  after_reads_at

theorem total_step (W : Valuation τ sig (Elt Ideal)) (b n : Fin 16) (kh : Fin 2) (g : Fin 4) (i : Fin 128) :
    rd_v138 (after opsTotal W) (ix5 b n kh g i) = ∑ l : Fin 257, rd_v137 W (ix6 b n kh g i l) := by
  dsimp only [rd_v138, rd_v137]
  after_reads_simp
  exact sum_rows (rd_v137 W) (constant (F := Ideal) S_ FTy.f32 0#32) (fun _ => by simp [constant, Ideal.ofBits, Ideal.ieee]) b n kh g i

theorem heads_step (W : Valuation τ sig (Elt Ideal)) (b : Fin 16) (t : Fin 2048) (c : Fin 512) :
    rd_v146 (after opsHeads W) (ix3 b t c)
      = ∑ x : Fin 256, rd_v92 W (ix5 b ⟨t.val / 128, by omega⟩ x ⟨c.val / 256, by omega⟩ ⟨c.val % 64, by omega⟩)
          * Ideal.div (rd_v137 W (ix6 b ⟨t.val / 128, by omega⟩ ⟨c.val / 256, by omega⟩ ⟨c.val / 64 % 4, by omega⟩ ⟨t.val % 128, by omega⟩ ⟨x.val, by omega⟩))
              (rd_v138 W (ix5 b ⟨t.val / 128, by omega⟩ ⟨c.val / 256, by omega⟩ ⟨c.val / 64 % 4, by omega⟩ ⟨t.val % 128, by omega⟩)) := by
  dsimp only [rd_v146, rd_v92, rd_v137, rd_v138]
  after_reads_at

theorem rider5_step (W : Valuation τ sig (Elt Ideal)) (r : Fin 5632) (k : Fin 2048) :
    rd_v149 (after opsRiders W) (ix2 r k) = rd_arg5 W (ix3 0 r k) := by
  dsimp only [rd_v149, rd_arg5]
  after_reads_at

theorem rider6_step (W : Valuation τ sig (Elt Ideal)) (r : Fin 5632) (k : Fin 2048) :
    rd_v152 (after opsRiders W) (ix2 r k) = rd_arg6 W (ix3 1 r k) := by
  dsimp only [rd_v152, rd_arg6]
  after_reads_at

end Cert.Proof.AttnRef

end
-- ==== Proof.AttnEnd.lean ====
/- The attention's reference, entry by entry: its three results from its arguments. -/
module

public import proofs.«01_k».proof.Proof.AttnSoft
public import proofs.«01_k».proof.Proof.AttnReal

@[expose] public section

set_option maxRecDepth 16384

noncomputable section

namespace Cert.Proof.AttnRef

open Cert.ReferenceIdeal Cert.ReferenceIdeal.Gen Idealize.ShloMosaic Idealize.ShloMosaic.TcCoe Idealize.SL.Sem Idealize.ShloMosaic.StableHlo
open Cert.Proof.Spec

variable (V : Valuation τ sig (Elt Ideal))

/-- The scores of the block before, as a row. -/
abbrev rowP (b n : Fin 16) (kh : Fin 2) (g : Fin 4) (i : Fin 128) : Fin 128 → EReal := sprev (aP V) (aPos V) (aQ V) (aK V) b n (hd kh g) i
/-- The scores of the block itself, as a row. -/
abbrev rowC (b n : Fin 16) (kh : Fin 2) (g : Fin 4) (i : Fin 128) : Fin 128 → EReal := scur (aP V) (aPos V) (aQ V) (aK V) b n (hd kh g) i
abbrev rowS (kh : Fin 2) (g : Fin 4) : EReal := aS V (ix1 (hd kh g))

theorem grp_hd (kh : Fin 2) (g : Fin 4) : grp (hd kh g) = kh := Fin.ext (by show (kh.val * 4 + g.val) / 4 = kh.val; omega)

theorem select_if (p : Prop) [Decidable p] (x y : EReal) : Scalar.select (if p then 1#1 else 0#1) x y = if p then x else y := by
  by_cases h : p
  · simp [h, Scalar.select]
  · simp [h, Scalar.select]

theorem masked (b n : Fin 16) (kh : Fin 2) (g : Fin 4) (i : Fin 128) (j : Fin 256) :
    rd_v127 (atSinks V) (ix6 b n kh g i j)
      = if h : j.val < 128 then rowP V b n kh g i ⟨j.val, h⟩ else rowC V b n kh g i ⟨j.val - 128, by omega⟩ := by
  unfold atSinks
  rw [masked_step, mask_word, neg_inf, select_if, show rd_v94 (atMask V) = rd_v94 (atScores V) from
    (keepMask _ main_v94 (by decide)).trans (keepBase _ main_v94 (by decide)), scores]
  unfold rowP rowC sprev scur
  rw [grp_hd]
  by_cases h : j.val < 128
  · rw [dif_pos h]
    by_cases hc : 1 ≤ n.val ∧ i.val < j.val
    · rw [if_pos (show counts n i j from Or.inl ⟨h, hc⟩), if_pos hc]
      refine Finset.sum_congr rfl fun x _ => ?_
      rw [dif_pos h, if_pos hc.1]
    · rw [if_neg (show ¬ counts n i j from by unfold counts; omega), if_neg hc]
  · rw [dif_neg h]
    by_cases hc : j.val - 128 ≤ i.val
    · rw [if_pos (show counts n i j from by unfold counts; omega), if_pos hc]
      refine Finset.sum_congr rfl fun x _ => ?_
      rw [dif_neg h]
    · rw [if_neg (show ¬ counts n i j from by unfold counts; omega), if_neg hc]

theorem sinks_kept : rd_arg4 (atMask V) = aS V :=
  (keepMask (atBase V) main_arg4 (by decide)).trans ((keepBase (atScores V) main_arg4 (by decide)).trans ((keepScores (atVPair V) main_arg4 (by decide)).trans
    ((keepVPair (atVBack V) main_arg4 (by decide)).trans ((keepVBack (atKPair V) main_arg4 (by decide)).trans ((keepKPair (atKBack V) main_arg4 (by decide)).trans
    ((keepKBack (atKRope V) main_arg4 (by decide)).trans ((keepKRope (atKTurn V) main_arg4 (by decide)).trans ((keepKTurn (atQRope V) main_arg4 (by decide)).trans
    ((keepQRope (atQTurn V) main_arg4 (by decide)).trans ((keepQTurn (atAngle V) main_arg4 (by decide)).trans ((keepAngle (atKNorm V) main_arg4 (by decide)).trans
    ((keepKNorm (atQNorm V) main_arg4 (by decide)).trans (keepQNorm V main_arg4 (by decide))))))))))))))

theorem joined_at (b n : Fin 16) (kh : Fin 2) (g : Fin 4) (i : Fin 128) (l : Fin 257) :
    rd_v130 (atJoined V) (ix6 b n kh g i l) = joined (rowP V b n kh g i) (rowC V b n kh g i) (rowS V kh g) l := by
  unfold atJoined
  rw [join_step]
  unfold joined
  by_cases h1 : l.val < 128
  · rw [dif_pos h1, dif_pos (by omega), masked, dif_pos h1]
  · rw [dif_neg h1]
    by_cases h2 : l.val < 256
    · rw [dif_pos h2, dif_pos h2, masked, dif_neg h1]
    · rw [dif_neg h2, dif_neg h2]
      unfold atSinks
      rw [sink_step, sinks_kept]

/-- The row of values of the block before and the block itself. -/
abbrev valP (b n : Fin 16) (kh : Fin 2) (d : Fin 64) : Fin 128 → EReal := fun j => if 1 ≤ n.val then val (aP V) b (bef n j) kh d else 0
abbrev valC (b n : Fin 16) (kh : Fin 2) (d : Fin 64) : Fin 128 → EReal := fun j => val (aP V) b (at' n j) kh d

theorem paired_at (b n : Fin 16) (kh : Fin 2) (d : Fin 64) (x : Fin 256) :
    rd_v92 (atTotal V) (ix5 b n x kh d) = paired (valP V b n kh d) (valC V b n kh d) x := by
  rw [show rd_v92 (atTotal V) = rd_v92 (atVPair V) from
    (keepTotal (atExps V) main_v92 (by decide)).trans ((keepExps (atTop V) main_v92 (by decide)).trans ((keepTop (atJoined V) main_v92 (by decide)).trans
    ((keepJoined (atSinks V) main_v92 (by decide)).trans ((keepSinks (atMask V) main_v92 (by decide)).trans ((keepMask (atBase V) main_v92 (by decide)).trans
    ((keepBase (atScores V) main_v92 (by decide)).trans (keepScores (atVPair V) main_v92 (by decide)))))))), v_pair]
  rfl

theorem exps_at (b n : Fin 16) (kh : Fin 2) (g : Fin 4) (i : Fin 128) (l : Fin 257) :
    rd_v137 (atExps V) (ix6 b n kh g i l)
      = Ideal.exp (joined (rowP V b n kh g i) (rowC V b n kh g i) (rowS V kh g) l
          - max ⊥ (Finset.univ.sup (joined (rowP V b n kh g i) (rowC V b n kh g i) (rowS V kh g)))) := by
  unfold atExps
  rw [exp_step, neg_inf, show rd_v130 (atTop V) = rd_v130 (atJoined V) from keepTop (atJoined V) main_v130 (by decide), joined_at]
  unfold atTop
  rw [top_step, funext fun l => joined_at V b n kh g i l]

theorem total_at (b n : Fin 16) (kh : Fin 2) (g : Fin 4) (i : Fin 128) :
    rd_v138 (atTotal V) (ix5 b n kh g i)
      = ∑ l : Fin 257, Ideal.exp (joined (rowP V b n kh g i) (rowC V b n kh g i) (rowS V kh g) l
          - max ⊥ (Finset.univ.sup (joined (rowP V b n kh g i) (rowC V b n kh g i) (rowS V kh g)))) := by
  unfold atTotal
  rw [total_step]
  exact Finset.sum_congr rfl fun l _ => exps_at V b n kh g i l

theorem result_head (F : Fine (aP V) (aQ V) (aK V) (aS V)) (b n : Fin 16) (kh : Fin 2) (g : Fin 4) (i : Fin 128) (d : Fin 64) :
    (∑ x : Fin 256, rd_v92 (atTotal V) (ix5 b n x kh d)
        * Ideal.div (rd_v137 (atTotal V) (ix6 b n kh g i ⟨x.val, by omega⟩)) (rd_v138 (atTotal V) (ix5 b n kh g i)))
      = out (aP V) (aPos V) (aQ V) (aK V) (aS V) b n (hd kh g) i d := by
  rw [show rd_v137 (atTotal V) = rd_v137 (atExps V) from keepTotal (atExps V) main_v137 (by decide), total_at]
  refine (Finset.sum_congr rfl fun x _ => by rw [paired_at, exps_at]).trans
    ((soft_eq (rowP V b n kh g i) (rowC V b n kh g i) (rowS V kh g) (valP V b n kh d) (valC V b n kh d)
      (fun j => sprev_top F b n _ i j) (fun j => scur_top F b n _ i j) (F.sink _) i (scur_diag F b n _ i)).trans ?_)
  unfold out
  rw [grp_hd]

theorem result146 (F : Fine (aP V) (aQ V) (aK V) (aS V)) (b : Fin 16) (t : Fin 2048) (k : Fin 512) :
    rd_v146 (atRiders V) (ix3 b t k)
      = out (aP V) (aPos V) (aQ V) (aK V) (aS V) b ⟨t.val / 128, by omega⟩ ⟨k.val / 64, by omega⟩ ⟨t.val % 128, by omega⟩ ⟨k.val % 64, by omega⟩ := by
  rw [show rd_v146 (atRiders V) = rd_v146 (atHeads V) from keepRiders (atHeads V) main_v146 (by decide)]
  unfold atHeads
  rw [heads_step, result_head V F]
  exact congrArg (fun h => out (aP V) (aPos V) (aQ V) (aK V) (aS V) b _ h _ _) (Fin.ext (by
    show k.val / 256 * 4 + k.val / 64 % 4 = k.val / 64
    omega))

theorem arg5_kept : rd_arg5 (atRiders V) = rd_arg5 V :=
  kept V main_arg5 (by decide) (by decide) (by decide) (by decide) (by decide) (by decide) (by decide) (by decide) (by decide) (by decide) (by decide) (by decide) (by decide) (by decide) (by decide) (by decide) (by decide) (by decide) (by decide) (by decide) (by decide)

theorem arg6_kept : rd_arg6 (atRiders V) = rd_arg6 V :=
  kept V main_arg6 (by decide) (by decide) (by decide) (by decide) (by decide) (by decide) (by decide) (by decide) (by decide) (by decide) (by decide) (by decide) (by decide) (by decide) (by decide) (by decide) (by decide) (by decide) (by decide) (by decide) (by decide)

theorem result149 (r : Fin 5632) (k : Fin 2048) : rd_v149 (atRiders V) (ix2 r k) = rd_arg5 V (ix3 0 r k) := by
  rw [← arg5_kept, show rd_arg5 (atRiders V) = rd_arg5 (atHeads V) from keepRiders (atHeads V) main_arg5 (by decide)]
  unfold atRiders
  rw [rider5_step]

theorem result152 (r : Fin 5632) (k : Fin 2048) : rd_v152 (atRiders V) (ix2 r k) = rd_arg6 V (ix3 1 r k) := by
  rw [← arg6_kept, show rd_arg6 (atRiders V) = rd_arg6 (atHeads V) from keepRiders (atHeads V) main_arg6 (by decide)]
  unfold atRiders
  rw [rider6_step]

end Cert.Proof.AttnRef

end
-- ==== Proof.AttnPre.lean ====
/- What the attention's precondition says of the arguments: the columns of the queries and keys and the two gains are real
   numbers, and no sink is infinitely high. -/
module

public import proofs.«01_k».proof.Pre_finite
public import proofs.«01_k».proof.Proof.AttnReal
public import Idealize.ShloMosaic.Lib.ReduceAll
public import Idealize.ShloMosaic.Lib.Affine
public import Idealize.ShloMosaic.Lib.Decide
public import Idealize.ShloMosaic.Lib.Pointwise

@[expose] public section

set_option maxRecDepth 16384

noncomputable section

namespace Cert.Proof.AttnPre

open Idealize.ShloMosaic Cert.Pre_finite Cert.Proof.Spec

/-- The shape facts the precondition's text states. -/
theorem facts : Cert.Pre_finite.Facts where
  slices_S16x2048x5120_S16x2048x640_0_0_1792 := by decide
  bitsLt_bf16_f32 := by decide
  bcast_S_S16x2048x640 := by decide
  reducesTo_S16x2048x640_S_d0_1_2 := by decide
  h_S_ := by decide
  bcast_S_S64 := by decide
  reducesTo_S64_S_d0 := by decide
  bcast_S_S8 := by decide
  reducesTo_S8_S_d0 := by decide

theorem inf_bits : Ideal.ofBits FTy.f32 0x7F800000#32 = (⊤ : EReal) := by
  simp [Ideal.ofBits, Ideal.ieee]

theorem lt_top_of {x : EReal} (h : Ideal.cmp .olt x (Ideal.ofBits FTy.f32 0x7F800000#32) = 1#1) : x < ⊤ := by
  rw [inf_bits] at h
  by_contra hn
  simp [Ideal.cmp, hn] at h

theorem real_of {x : EReal} (h : max x (-x) < ⊤) : IsR x := by
  refine isR_of_ne ?_ ?_
  · rintro rfl
    simp at h
  · rintro rfl
    simp at h

instance : Subsingleton S_.Idx := ⟨fun a b => funext fun d => d.elim0⟩

theorem fine [Cert.Pre_finite.Facts] (P : S16x2048x5120.Idx → EReal) (pos : S16x2048.Idx → BitVec 32) (gq gk : S64.Idx → EReal) (sk : S8.Idx → EReal) (d5 d6 : S2x5632x2048.Idx → EReal)
    (h : Cert.Pre_finite.fn (F := Ideal) P pos gq gk sk d5 d6 = fun _ => 1#1) : Fine P gq gk sk := by
  have h0 := congrFun h ix0
  unfold Cert.Pre_finite.fn Cert.Pre_finite.fn_part1 at h0
  dsimp only at h0
  obtain ⟨h1, hs⟩ := IntOp.andi_eq_one.mp h0
  obtain ⟨h2, hk⟩ := IntOp.andi_eq_one.mp h1
  obtain ⟨hp, hq⟩ := IntOp.andi_eq_one.mp h2
  refine ⟨fun b t e => ?_, fun e => ?_, fun e => ?_, fun e => ?_⟩
  · have := Host.reduce_andi_all _ _ _ _ _ hp (ix3 b t e)
    refine real_of (lt_top_of ((Eq.trans ?_ this)))
    pointwise
    rfl
  · have := Host.reduce_andi_all _ _ _ _ _ hq (ix1 e)
    exact real_of (lt_top_of this)
  · have := Host.reduce_andi_all _ _ _ _ _ hk (ix1 e)
    exact real_of (lt_top_of this)
  · have := Host.reduce_andi_all _ _ _ _ _ hs (ix1 e)
    exact (lt_top_of this).ne

end Cert.Proof.AttnPre

end
-- ==== Proof.Attn.lean ====
/- The attention: the whole result arrays, and the claims. -/
module

public import proofs.«01_k».proof.Defs
public import proofs.«01_k».proof.Proof.AttnSweep
public import proofs.«01_k».proof.Proof.AttnEnd
public import proofs.«01_k».proof.Proof.AttnPre

@[expose] public section

set_option maxRecDepth 16384

noncomputable section

namespace Cert.Proof.Attn

open Idealize.ShloMosaic Idealize.ShloMosaic.TcCoe Idealize.SL.Sem Idealize.ShloMosaic.StableHlo
open Cert.KernelIdeal Cert.KernelIdeal.Gen Cert.Proof.Spec

section Reference

open Cert.ReferenceIdeal Cert.ReferenceIdeal.Gen

/-- Every argument of the reference ends as it was. -/
theorem args_r (m : (ℓ : Loc Cert.ReferenceIdeal.nD Cert.ReferenceIdeal.τ Cert.ReferenceIdeal.sig) → Buf (Elt Ideal) ℓ) (c : Dev Cert.ReferenceIdeal.nD)
    (s : (ℓ : Loc Cert.ReferenceIdeal.nD Cert.ReferenceIdeal.τ Cert.ReferenceIdeal.sig) → Buf (Elt Ideal) ℓ)
    (h : ∀ b : Ref Cert.ReferenceIdeal.sig .tc, s (c.tc.loc b) = AttnRef.atRiders (launchContents m c) (Proc.devRef .tc b)) :
    s (c.tc.loc Cert.ReferenceIdeal.main_arg0) = m (c.tc.loc Cert.ReferenceIdeal.main_arg0)
    ∧ s (c.tc.loc Cert.ReferenceIdeal.main_arg1) = m (c.tc.loc Cert.ReferenceIdeal.main_arg1)
    ∧ s (c.tc.loc Cert.ReferenceIdeal.main_arg2) = m (c.tc.loc Cert.ReferenceIdeal.main_arg2)
    ∧ s (c.tc.loc Cert.ReferenceIdeal.main_arg3) = m (c.tc.loc Cert.ReferenceIdeal.main_arg3)
    ∧ s (c.tc.loc Cert.ReferenceIdeal.main_arg4) = m (c.tc.loc Cert.ReferenceIdeal.main_arg4)
    ∧ s (c.tc.loc Cert.ReferenceIdeal.main_arg5) = m (c.tc.loc Cert.ReferenceIdeal.main_arg5)
    ∧ s (c.tc.loc Cert.ReferenceIdeal.main_arg6) = m (c.tc.loc Cert.ReferenceIdeal.main_arg6) := by
  refine ⟨(h _).trans ?_, (h _).trans ?_, (h _).trans ?_, (h _).trans ?_, (h _).trans ?_, (h _).trans ?_, (h _).trans ?_⟩ <;>
  exact AttnRef.kept (launchContents m c) _ (by decide) (by decide) (by decide) (by decide) (by decide) (by decide) (by decide) (by decide) (by decide) (by decide)
    (by decide) (by decide) (by decide) (by decide) (by decide) (by decide) (by decide) (by decide) (by decide) (by decide) (by decide)

end Reference

/-- The reference runs, leaves its arguments as they were, and has no semaphore. -/
theorem frame_r : Cert.quiescent_ReferenceIdeal := fun m ρ _ =>
  (θ_run _ _ _).mono (fun r h => ⟨fun c => args_r m c r.2.mem (h c), sem_eq_zero_of_no_sems (by decide) r.2⟩) (AttnRef.run (F := Ideal) m ρ)

section Results

variable (m : (ℓ : Loc nD τ sig) → Buf (Elt Ideal) ℓ)
  (m' : (ℓ : Loc Cert.ReferenceIdeal.nD Cert.ReferenceIdeal.τ Cert.ReferenceIdeal.sig) → Buf (Elt Ideal) ℓ)

theorem same11 (c : Dev nD) (F : FineAt m c)
    (h0 : m' (c.tc.loc Cert.ReferenceIdeal.main_arg0) = m (c.tc.loc main_arg0)) (h1 : m' (c.tc.loc Cert.ReferenceIdeal.main_arg1) = m (c.tc.loc main_arg1))
    (h2 : m' (c.tc.loc Cert.ReferenceIdeal.main_arg2) = m (c.tc.loc main_arg2)) (h3 : m' (c.tc.loc Cert.ReferenceIdeal.main_arg3) = m (c.tc.loc main_arg3))
    (h4 : m' (c.tc.loc Cert.ReferenceIdeal.main_arg4) = m (c.tc.loc main_arg4)) :
    AttnRef.rd_v146 (AttnRef.atRiders (launchContents m' c)) = Value.G11 m c := by
  funext i
  obtain ⟨b, t, k, rfl⟩ : ∃ (b : Fin 16) (t : Fin 2048) (k : Fin 512), i = ix3 b t k := ⟨i 0, i 1, i 2, eq_ix3 i⟩
  have e0 : AttnRef.aP (launchContents m' c) = kP m c := h0
  have e1 : AttnRef.aPos (launchContents m' c) = kPos m c := h1
  have e2 : AttnRef.aQ (launchContents m' c) = kQ m c := h2
  have e3 : AttnRef.aK (launchContents m' c) = kK m c := h3
  have e4 : AttnRef.aS (launchContents m' c) = kS m c := h4
  have F' : Fine (AttnRef.aP (launchContents m' c)) (AttnRef.aQ (launchContents m' c)) (AttnRef.aK (launchContents m' c)) (AttnRef.aS (launchContents m' c)) := by
    rw [e0, e2, e3, e4]; exact F
  rw [AttnRef.result146 (launchContents m' c) F' b t k, result11 m c F, e0, e1, e2, e3, e4]

theorem same12 (c : Dev nD) (h5 : m' (c.tc.loc Cert.ReferenceIdeal.main_arg5) = m (c.tc.loc main_arg5)) :
    AttnRef.rd_v149 (AttnRef.atRiders (launchContents m' c)) = Value.G12 m c := by
  funext i
  obtain ⟨r, k, rfl⟩ : ∃ (r : Fin 5632) (k : Fin 2048), i = ix2 r k := ⟨i 0, i 1, eq_ix2 i⟩
  rw [AttnRef.result149, result12]
  exact congrFun h5 (ix3 0 r k)

theorem same13 (c : Dev nD) (h6 : m' (c.tc.loc Cert.ReferenceIdeal.main_arg6) = m (c.tc.loc main_arg6)) :
    AttnRef.rd_v152 (AttnRef.atRiders (launchContents m' c)) = Value.G13 m c := by
  funext i
  obtain ⟨r, k, rfl⟩ : ∃ (r : Fin 5632) (k : Fin 2048), i = ix2 r k := ⟨i 0, i 1, eq_ix2 i⟩
  rw [AttnRef.result152, result13]
  exact congrFun h6 (ix3 1 r k)

end Results

/-- From equal arguments that satisfy the precondition the kernel and its reference end with equal results. -/
theorem algebraic [Cert.Pre_finite.Facts] : Cert.algebraic_KernelIdeal_ReferenceIdeal_pre_finite := fun m ρ m' ρ' hpre hag =>
  ⟨fun c => Value.G11 m c, fun c => Value.G12 m c, fun c => Value.G13 m c,
    Value.run (F := Ideal) m ρ,
    (θ_run _ _ _).mono
      (fun r h c => by
        obtain ⟨h0, h1, h2, h3, h4, h5, h6⟩ := hag c
        exact ⟨(h c _).trans (same11 m m' c (AttnPre.fine _ _ _ _ _ _ _ (hpre c)) h0 h1 h2 h3 h4), (h c _).trans (same12 m m' c h5),
          (h c _).trans (same13 m m' c h6), args_r m' c r.2.mem (h c)⟩)
      (AttnRef.run (F := Ideal) m' ρ')⟩

end Cert.Proof.Attn

end
-- ==== Proof.S5Prep.lean ====
/- The discretisation of the S5 mixer: the kernel's four results and the reference's, element by element, and the claims. -/
module

public import proofs.«01_k».proof.Proof.Gen.Kernel5Ideal.Value
public import proofs.«01_k».proof.Proof.Gen.Reference5Ideal.Run
public import proofs.«01_k».proof.Proof.Gen.Reference5Ideal.Read
public import proofs.«01_k».proof.Pre_nonzero
public import Idealize.ShloMosaic.Lib.Pointwise
public import Idealize.ShloMosaic.Lib.StableHlo.ReadAt
public import Idealize.ShloMosaic.Lib.ReduceAll
public import Idealize.ShloMosaic.Lib.IdealHost
public import proofs.«01_k».proof.Proof.Sums
public import proofs.«01_k».proof.Defs
public import Idealize.ShloMosaic.Lib.Quiescent

@[expose] public section

set_option maxRecDepth 16384

noncomputable section

namespace Cert.Proof.S5Prep

open Idealize.ShloMosaic Idealize.ShloMosaic.TcCoe Idealize.SL.Sem
open Cert.Kernel5Ideal Cert.Kernel5Ideal.Gen Cert.Proof.Sums

/-! ### One state's numbers: the rate `x + i y`, the logarithm `s` of the step -/

/-- The real part of `exp (λ Δ)`. -/
def barRe (x y s : EReal) : EReal := Ideal.exp (x * Ideal.exp s) * Ideal.cos (y * Ideal.exp s)

/-- The imaginary part of `exp (λ Δ)`. -/
def barIm (x y s : EReal) : EReal := Ideal.exp (x * Ideal.exp s) * Ideal.sin (y * Ideal.exp s)

/-- The real part of `(exp (λ Δ) - 1) / λ`. -/
def quoRe (x y s : EReal) : EReal := Ideal.div ((barRe x y s - 1) * x + barIm x y s * y) (x * x + y * y)

/-- The imaginary part of `(exp (λ Δ) - 1) / λ`. -/
def quoIm (x y s : EReal) : EReal := Ideal.div (barIm x y s * x - (barRe x y s - 1) * y) (x * x + y * y)

/-! ### The kernel's block -/

theorem hz3 : (![0, 0, 0] : Fin 3 → Nat) = fun _ => 0 := funext fun a => by fin_cases a <;> rfl

section Block

variable (x0 x1 : Vec Ideal S32x64 .f32) (x2 : Vec Ideal S32x1 .f32) (x3 x4 : Vec Ideal S32x16x64 .f32)

theorem ld0 (x : Vec Ideal S32x64 .f32) : View.ld x r0_0 = x := View.ld_unit_zero (S := S32x64) hz _ x
theorem ld1 (x : Vec Ideal S32x1 .f32) : View.ld x r0_1 = x := View.ld_unit_zero (S := S32x1) hz _ x
theorem ld2 (x : Vec Ideal S32x16x64 .f32) : View.ld x r0_2 = x := View.ld_unit_zero (S := S32x16x64) hz3 _ x

theorem pay5_apply (g : Fin 32) (p : Fin 64) :
    k0_pay5 (F := Ideal) x0 x1 x2 (ix2 g p) = barRe (x0 (ix2 g p)) (x1 (ix2 g p)) (x2 (ix2 g 0)) := by
  unfold barRe
  pointwise [k0_pay5, k0_pay4, k0_pay3]

theorem pay6_apply (g : Fin 32) (p : Fin 64) :
    k0_pay6 (F := Ideal) x0 x1 x2 (ix2 g p) = barIm (x0 (ix2 g p)) (x1 (ix2 g p)) (x2 (ix2 g 0)) := by
  unfold barIm
  pointwise [k0_pay6, k0_pay4, k0_pay3]

theorem pay8_apply (g : Fin 32) (p : Fin 64) (h : x0 (ix2 g p) * x0 (ix2 g p) + x1 (ix2 g p) * x1 (ix2 g p) ≠ 0) :
    k0_pay8 (F := Ideal) x0 x1 x2 (ix2 g p) = quoRe (x0 (ix2 g p)) (x1 (ix2 g p)) (x2 (ix2 g 0)) := by
  unfold quoRe
  rw [← pay5_apply x0 x1 x2 g p, ← pay6_apply x0 x1 x2 g p, ← Ideal.mul_one_div h]
  pointwise [k0_pay8, k0_pay7]

theorem pay9_apply (g : Fin 32) (p : Fin 64) (h : x0 (ix2 g p) * x0 (ix2 g p) + x1 (ix2 g p) * x1 (ix2 g p) ≠ 0) :
    k0_pay9 (F := Ideal) x0 x1 x2 (ix2 g p) = quoIm (x0 (ix2 g p)) (x1 (ix2 g p)) (x2 (ix2 g 0)) := by
  unfold quoIm
  rw [← pay5_apply x0 x1 x2 g p, ← pay6_apply x0 x1 x2 g p, ← Ideal.mul_one_div h]
  pointwise [k0_pay9, k0_pay7]

theorem out5_apply (g : Fin 32) (p : Fin 64) :
    out0_5 (F := Ideal) x0 x1 x2 x3 x4 (ix2 g p) = barRe (x0 (ix2 g p)) (x1 (ix2 g p)) (x2 (ix2 g 0)) := by
  unfold out0_5
  rw [View.canon_unit_zero hz]
  rw [ld0, ld0, ld1]
  exact pay5_apply x0 x1 x2 g p

theorem out6_apply (g : Fin 32) (p : Fin 64) :
    out0_6 (F := Ideal) x0 x1 x2 x3 x4 (ix2 g p) = barIm (x0 (ix2 g p)) (x1 (ix2 g p)) (x2 (ix2 g 0)) := by
  unfold out0_6
  rw [View.canon_unit_zero hz]
  rw [ld0, ld0, ld1]
  exact pay6_apply x0 x1 x2 g p

theorem out7_apply (g : Fin 32) (h : Fin 16) (p : Fin 64) (hq : x0 (ix2 g p) * x0 (ix2 g p) + x1 (ix2 g p) * x1 (ix2 g p) ≠ 0) :
    out0_7 (F := Ideal) x0 x1 x2 x3 x4 (ix3 g h p)
      = quoRe (x0 (ix2 g p)) (x1 (ix2 g p)) (x2 (ix2 g 0)) * x3 (ix3 g h p)
        - quoIm (x0 (ix2 g p)) (x1 (ix2 g p)) (x2 (ix2 g 0)) * x4 (ix3 g h p) := by
  unfold_out out0_7
  rw [View.canon_unit_zero hz3]
  rw [ld0, ld0, ld1, ld2, ld2]
  rw [← pay8_apply x0 x1 x2 g p hq, ← pay9_apply x0 x1 x2 g p hq]
  generalize k0_pay8 (F := Ideal) x0 x1 x2 = a
  generalize k0_pay9 (F := Ideal) x0 x1 x2 = b
  pointwise [k0_pay1, k0_pay10, k0_pay11]

theorem out8_apply (g : Fin 32) (h : Fin 16) (p : Fin 64) (hq : x0 (ix2 g p) * x0 (ix2 g p) + x1 (ix2 g p) * x1 (ix2 g p) ≠ 0) :
    out0_8 (F := Ideal) x0 x1 x2 x3 x4 (ix3 g h p)
      = quoRe (x0 (ix2 g p)) (x1 (ix2 g p)) (x2 (ix2 g 0)) * x4 (ix3 g h p)
        + quoIm (x0 (ix2 g p)) (x1 (ix2 g p)) (x2 (ix2 g 0)) * x3 (ix3 g h p) := by
  unfold_out out0_8
  rw [View.canon_unit_zero hz3]
  rw [ld0, ld0, ld1, ld2, ld2]
  rw [← pay8_apply x0 x1 x2 g p hq, ← pay9_apply x0 x1 x2 g p hq]
  generalize k0_pay8 (F := Ideal) x0 x1 x2 = a
  generalize k0_pay9 (F := Ideal) x0 x1 x2 = b
  pointwise [k0_pay2, k0_pay10, k0_pay11]

end Block

/-! ### The reference's results -/

section Ref

variable (x y : S32x64.Idx → EReal) (s : S32.Idx → EReal) (br bi : S32x64x16.Idx → EReal)

abbrev ref0 : S32x64.Idx → EReal := Cert.Reference5Ideal.Read.val_main_v8 (F := Ideal) x y s
abbrev ref1 : S32x64.Idx → EReal := Cert.Reference5Ideal.Read.val_main_v12 (F := Ideal) x y s
abbrev ref2 : S32x16x64.Idx → EReal := Cert.Reference5Ideal.Read.val_main_v40 (F := Ideal) x y s br bi
abbrev ref3 : S32x16x64.Idx → EReal := Cert.Reference5Ideal.Read.val_main_v41 (F := Ideal) x y s br bi

theorem ref0_apply (g : Fin 32) (p : Fin 64) : ref0 x y s (ix2 g p) = barRe (x (ix2 g p)) (y (ix2 g p)) (s (ix1 g)) := by
  unfold ref0 barRe
  rw [← Cert.Reference5Ideal.Read.val_main_v8_eq]
  pointwise

theorem ref1_apply (g : Fin 32) (p : Fin 64) : ref1 x y s (ix2 g p) = barIm (x (ix2 g p)) (y (ix2 g p)) (s (ix1 g)) := by
  unfold ref1 barIm
  rw [← Cert.Reference5Ideal.Read.val_main_v12_eq]
  pointwise

theorem ref2_apply (g : Fin 32) (h : Fin 16) (p : Fin 64) :
    ref2 x y s br bi (ix3 g h p) = quoRe (x (ix2 g p)) (y (ix2 g p)) (s (ix1 g)) * br (ix3 g p h)
      - quoIm (x (ix2 g p)) (y (ix2 g p)) (s (ix1 g)) * bi (ix3 g p h) := by
  unfold ref2 quoRe quoIm barRe barIm
  rw [← Cert.Reference5Ideal.Read.val_main_v40_eq]
  pointwise

theorem ref3_apply (g : Fin 32) (h : Fin 16) (p : Fin 64) :
    ref3 x y s br bi (ix3 g h p) = quoRe (x (ix2 g p)) (y (ix2 g p)) (s (ix1 g)) * bi (ix3 g p h)
      + quoIm (x (ix2 g p)) (y (ix2 g p)) (s (ix1 g)) * br (ix3 g p h) := by
  unfold ref3 quoRe quoIm barRe barIm
  rw [← Cert.Reference5Ideal.Read.val_main_v41_eq]
  pointwise

end Ref

/-! ### The precondition -/

/-- The shape facts the precondition's text states. -/
theorem facts : Cert.Pre_nonzero.Facts where
  bcast_S_S32x64 := by decide
  reducesTo_S32x64_S_d0_1 := by decide
  h_S_ := by decide

instance : Subsingleton Cert.Pre_nonzero.S_.Idx := ⟨fun a b => funext fun d => d.elim0⟩

theorem ne_zero_of {x : EReal} (h : Ideal.cmp .ogt x (Ideal.ofBits FTy.f32 0x00000000#32) = 1#1) : x ≠ 0 := by
  rintro rfl
  simp [Ideal.cmp, Ideal.ofBits, Ideal.ieee] at h

/-- The square of a rate's size is not zero. -/
def Nonzero (x y : S32x64.Idx → EReal) : Prop :=
  ∀ (g : Fin 32) (p : Fin 64), x (ix2 g p) * x (ix2 g p) + y (ix2 g p) * y (ix2 g p) ≠ 0

/-- No rate is zero: the square of its size is not zero. -/
theorem nonzero [Cert.Pre_nonzero.Facts] (x y : S32x64.Idx → EReal) (s : S32.Idx → EReal) (br bi : S32x64x16.Idx → EReal)
    (h : Cert.Pre_nonzero.fn (F := Ideal) x y s br bi = fun _ => 1#1) : Nonzero x y := by
  intro g p
  have h0 := congrFun h ix0
  unfold Cert.Pre_nonzero.fn at h0
  dsimp only at h0
  exact ne_zero_of (Host.reduce_andi_all _ _ _ _ _ h0 (ix2 g p))

/-! ### The arrays as the kernel's call finds them -/

variable (m : (ℓ : Loc nD τ sig) → Buf (Elt Ideal) ℓ)

theorem V0 (c : Dev nD) (g : Fin 32) (p : Fin 64) :
    (V m c main_arg0 : S32x64.Idx → EReal) (ix2 g p) = (m (c.tc.loc main_arg0) : S32x64.Idx → EReal) (ix2 g p) := by
  unfold V
  after_reads_at

theorem V1 (c : Dev nD) (g : Fin 32) (p : Fin 64) :
    (V m c main_arg1 : S32x64.Idx → EReal) (ix2 g p) = (m (c.tc.loc main_arg1) : S32x64.Idx → EReal) (ix2 g p) := by
  unfold V
  after_reads_at

theorem V2 (c : Dev nD) (g : Fin 32) :
    (V m c main_v0 : S32x1.Idx → EReal) (ix2 g 0) = (m (c.tc.loc main_arg2) : S32.Idx → EReal) (ix1 g) := by
  unfold V
  after_reads_at

theorem V3 (c : Dev nD) (g : Fin 32) (h : Fin 16) (p : Fin 64) :
    (V m c main_v1 : S32x16x64.Idx → EReal) (ix3 g h p) = (m (c.tc.loc main_arg3) : S32x64x16.Idx → EReal) (ix3 g p h) := by
  unfold V
  after_reads_at

theorem V4 (c : Dev nD) (g : Fin 32) (h : Fin 16) (p : Fin 64) :
    (V m c main_v2 : S32x16x64.Idx → EReal) (ix3 g h p) = (m (c.tc.loc main_arg4) : S32x64x16.Idx → EReal) (ix3 g p h) := by
  unfold V
  after_reads_at

/-! ### The windows' blocks: whole arrays -/

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0, 0] := (by decide +kernel : ∀ t : Fin grid0.N, win0_8.index t = ![0, 0, 0])

theorem blk0 (c : Dev nD) (t : Fin cfg0.N) (g : Fin 32) (p : Fin 64) :
    (iblk m c 0 t : Vec Ideal S32x64 .f32) (ix2 g p) = (m (c.tc.loc main_arg0) : S32x64.Idx → EReal) (ix2 g p) := by
  refine Eq.trans ?_ (V0 m c g p)
  unfold iblk
  rw [View.read_apply]
  show V m c main_arg0 _ = V m c main_arg0 _
  congr 1
  funext a
  apply Fin.ext
  match a with
  | ⟨0, _⟩ => show win0_0.index t 0 * 32 + 1 * g.val = g.val; rw [idx0]; simp
  | ⟨1, _⟩ => show win0_0.index t 1 * 64 + 1 * p.val = p.val; rw [idx0]; simp

theorem blk1 (c : Dev nD) (t : Fin cfg0.N) (g : Fin 32) (p : Fin 64) :
    (iblk m c 1 t : Vec Ideal S32x64 .f32) (ix2 g p) = (m (c.tc.loc main_arg1) : S32x64.Idx → EReal) (ix2 g p) := by
  refine Eq.trans ?_ (V1 m c g p)
  unfold iblk
  rw [View.read_apply]
  show V m c main_arg1 _ = V m c main_arg1 _
  congr 1
  funext a
  apply Fin.ext
  match a with
  | ⟨0, _⟩ => show win0_1.index t 0 * 32 + 1 * g.val = g.val; rw [idx1]; simp
  | ⟨1, _⟩ => show win0_1.index t 1 * 64 + 1 * p.val = p.val; rw [idx1]; simp

theorem blk2 (c : Dev nD) (t : Fin cfg0.N) (g : Fin 32) :
    (iblk m c 2 t : Vec Ideal S32x1 .f32) (ix2 g 0) = (m (c.tc.loc main_arg2) : S32.Idx → EReal) (ix1 g) := by
  refine Eq.trans ?_ (V2 m c g)
  unfold iblk
  rw [View.read_apply]
  show V m c main_v0 _ = V m c main_v0 _
  congr 1
  funext a
  apply Fin.ext
  match a with
  | ⟨0, _⟩ => show win0_2.index t 0 * 32 + 1 * g.val = g.val; rw [idx2]; simp
  | ⟨1, _⟩ => show win0_2.index t 1 * 1 + 1 * 0 = 0; rw [idx2]; simp

theorem blk3 (c : Dev nD) (t : Fin cfg0.N) (g : Fin 32) (h : Fin 16) (p : Fin 64) :
    (iblk m c 3 t : Vec Ideal S32x16x64 .f32) (ix3 g h p) = (m (c.tc.loc main_arg3) : S32x64x16.Idx → EReal) (ix3 g p h) := by
  refine Eq.trans ?_ (V3 m c g h p)
  unfold iblk
  rw [View.read_apply]
  show V m c main_v1 _ = V m c main_v1 _
  congr 1
  funext a
  apply Fin.ext
  match a with
  | ⟨0, _⟩ => show win0_3.index t 0 * 32 + 1 * g.val = g.val; rw [idx3]; simp
  | ⟨1, _⟩ => show win0_3.index t 1 * 16 + 1 * h.val = h.val; rw [idx3]; simp
  | ⟨2, _⟩ => show win0_3.index t 2 * 64 + 1 * p.val = p.val; rw [idx3]; simp

theorem blk4 (c : Dev nD) (t : Fin cfg0.N) (g : Fin 32) (h : Fin 16) (p : Fin 64) :
    (iblk m c 4 t : Vec Ideal S32x16x64 .f32) (ix3 g h p) = (m (c.tc.loc main_arg4) : S32x64x16.Idx → EReal) (ix3 g p h) := by
  refine Eq.trans ?_ (V4 m c g h p)
  unfold iblk
  rw [View.read_apply]
  show V m c main_v2 _ = V m c main_v2 _
  congr 1
  funext a
  apply Fin.ext
  match a with
  | ⟨0, _⟩ => show win0_4.index t 0 * 32 + 1 * g.val = g.val; rw [idx4]; simp
  | ⟨1, _⟩ => show win0_4.index t 1 * 16 + 1 * h.val = h.val; rw [idx4]; simp
  | ⟨2, _⟩ => show win0_4.index t 2 * 64 + 1 * p.val = p.val; rw [idx4]; simp

/-! ### The result arrays -/

/-- No rate of the arguments at launch is zero. -/
abbrev NonzeroAt (c : Dev nD) : Prop := Nonzero (m (c.tc.loc main_arg0)) (m (c.tc.loc main_arg1))

/-- The four results as functions of the argument arrays at launch. -/
abbrev G5 (c : Dev nD) : S32x64.Idx → EReal := ref0 (m (c.tc.loc main_arg0)) (m (c.tc.loc main_arg1)) (m (c.tc.loc main_arg2))
abbrev G6 (c : Dev nD) : S32x64.Idx → EReal := ref1 (m (c.tc.loc main_arg0)) (m (c.tc.loc main_arg1)) (m (c.tc.loc main_arg2))
abbrev G7 (c : Dev nD) : S32x16x64.Idx → EReal :=
  ref2 (m (c.tc.loc main_arg0)) (m (c.tc.loc main_arg1)) (m (c.tc.loc main_arg2)) (m (c.tc.loc main_arg3)) (m (c.tc.loc main_arg4))
abbrev G8 (c : Dev nD) : S32x16x64.Idx → EReal :=
  ref3 (m (c.tc.loc main_arg0)) (m (c.tc.loc main_arg1)) (m (c.tc.loc main_arg2)) (m (c.tc.loc main_arg3)) (m (c.tc.loc main_arg4))

theorem flushed5 (c : Dev nD) (t : Fin cfg0.N) (_ : (cfg0.win 5).flush t = true) :
    (dats m 0 c).flushed 5 t = ((cfg0.win 5).blk t).view.read (Elt Ideal) (G5 m c) := by
  rw [Value.flushed5]
  funext j
  obtain ⟨g, p, rfl⟩ : ∃ (g : Fin 32) (p : Fin 64), j = ix2 g p := ⟨j 0, j 1, eq_ix2 j⟩
  rw [View.read_apply, cast_eq]
  have hi : ((cfg0.win 5).blk t).view.emb (ix2 g p) = ix2 g p := by
    funext a
    apply Fin.ext
    match a with
    | ⟨0, _⟩ => show win0_5.index t 0 * 32 + 1 * g.val = g.val; rw [idx5]; simp
    | ⟨1, _⟩ => show win0_5.index t 1 * 64 + 1 * p.val = p.val; rw [idx5]; simp
  rw [hi]
  refine (out5_apply _ _ _ _ _ g p).trans ?_
  unfold G5
  rw [ref0_apply, blk0, blk1, blk2]

theorem covered5 (i : S32x64.Idx) (t : Fin cfg0.N) : i ∈ ((cfg0.win 5).blk t).view.set := by
  have h0 : (i 0 : Nat) < 32 := (i 0).isLt
  have h1 : (i 1 : Nat) < 64 := (i 1).isLt
  show i ∈ ((View.whole main_v3_0).slice (win0_5.rect t)).set
  rw [View.set_slice_whole, Rect.mem_set_unit]
  intro a
  match a with
  | ⟨0, _⟩ =>
    show win0_5.index t 0 * 32 ≤ (i 0 : Nat) ∧ (i 0 : Nat) < win0_5.index t 0 * 32 + 32
    rw [idx5]; simp; omega
  | ⟨1, _⟩ =>
    show win0_5.index t 1 * 64 ≤ (i 1 : Nat) ∧ (i 1 : Nat) < win0_5.index t 1 * 64 + 64
    rw [idx5]; simp; omega

theorem final5 (c : Dev nD) : (dats m 0 c).arrAt 5 cfg0.N = G5 m c :=
  (dats m 0 c).arrAt_eq_of_cover 5 (G5 m c) (flushed5 m c) fun i => ⟨t0_0, flush0_5 _, covered5 i _⟩

theorem flushed6 (c : Dev nD) (t : Fin cfg0.N) (_ : (cfg0.win 6).flush t = true) :
    (dats m 0 c).flushed 6 t = ((cfg0.win 6).blk t).view.read (Elt Ideal) (G6 m c) := by
  rw [Value.flushed6]
  funext j
  obtain ⟨g, p, rfl⟩ : ∃ (g : Fin 32) (p : Fin 64), j = ix2 g p := ⟨j 0, j 1, eq_ix2 j⟩
  rw [View.read_apply, cast_eq]
  have hi : ((cfg0.win 6).blk t).view.emb (ix2 g p) = ix2 g p := by
    funext a
    apply Fin.ext
    match a with
    | ⟨0, _⟩ => show win0_6.index t 0 * 32 + 1 * g.val = g.val; rw [idx6]; simp
    | ⟨1, _⟩ => show win0_6.index t 1 * 64 + 1 * p.val = p.val; rw [idx6]; simp
  rw [hi]
  refine (out6_apply _ _ _ _ _ g p).trans ?_
  unfold G6
  rw [ref1_apply, blk0, blk1, blk2]

theorem covered6 (i : S32x64.Idx) (t : Fin cfg0.N) : i ∈ ((cfg0.win 6).blk t).view.set := by
  have h0 : (i 0 : Nat) < 32 := (i 0).isLt
  have h1 : (i 1 : Nat) < 64 := (i 1).isLt
  show i ∈ ((View.whole main_v3_1).slice (win0_6.rect t)).set
  rw [View.set_slice_whole, Rect.mem_set_unit]
  intro a
  match a with
  | ⟨0, _⟩ =>
    show win0_6.index t 0 * 32 ≤ (i 0 : Nat) ∧ (i 0 : Nat) < win0_6.index t 0 * 32 + 32
    rw [idx6]; simp; omega
  | ⟨1, _⟩ =>
    show win0_6.index t 1 * 64 ≤ (i 1 : Nat) ∧ (i 1 : Nat) < win0_6.index t 1 * 64 + 64
    rw [idx6]; simp; omega

theorem final6 (c : Dev nD) : (dats m 0 c).arrAt 6 cfg0.N = G6 m c :=
  (dats m 0 c).arrAt_eq_of_cover 6 (G6 m c) (flushed6 m c) fun i => ⟨t0_0, flush0_6 _, covered6 i _⟩

theorem flushed7 (c : Dev nD) (F : NonzeroAt m c) (t : Fin cfg0.N) (_ : (cfg0.win 7).flush t = true) :
    (dats m 0 c).flushed 7 t = ((cfg0.win 7).blk t).view.read (Elt Ideal) (G7 m c) := by
  rw [Value.flushed7]
  funext j
  obtain ⟨g, h, p, rfl⟩ : ∃ (g : Fin 32) (h : Fin 16) (p : Fin 64), j = ix3 g h p := ⟨j 0, j 1, j 2, eq_ix3 j⟩
  rw [View.read_apply, cast_eq]
  have hi : ((cfg0.win 7).blk t).view.emb (ix3 g h p) = ix3 g h p := by
    funext a
    apply Fin.ext
    match a with
    | ⟨0, _⟩ => show win0_7.index t 0 * 32 + 1 * g.val = g.val; rw [idx7]; simp
    | ⟨1, _⟩ => show win0_7.index t 1 * 16 + 1 * h.val = h.val; rw [idx7]; simp
    | ⟨2, _⟩ => show win0_7.index t 2 * 64 + 1 * p.val = p.val; rw [idx7]; simp
  rw [hi]
  refine (out7_apply _ _ _ _ _ g h p (by rw [blk0, blk1]; exact F g p)).trans ?_
  unfold G7
  rw [ref2_apply, blk0, blk1, blk2, blk3, blk4]

theorem covered7 (i : S32x16x64.Idx) (t : Fin cfg0.N) : i ∈ ((cfg0.win 7).blk t).view.set := by
  have h0 : (i 0 : Nat) < 32 := (i 0).isLt
  have h1 : (i 1 : Nat) < 16 := (i 1).isLt
  have h2 : (i 2 : Nat) < 64 := (i 2).isLt
  show i ∈ ((View.whole main_v3_2).slice (win0_7.rect t)).set
  rw [View.set_slice_whole, Rect.mem_set_unit]
  intro a
  match a with
  | ⟨0, _⟩ =>
    show win0_7.index t 0 * 32 ≤ (i 0 : Nat) ∧ (i 0 : Nat) < win0_7.index t 0 * 32 + 32
    rw [idx7]; simp; omega
  | ⟨1, _⟩ =>
    show win0_7.index t 1 * 16 ≤ (i 1 : Nat) ∧ (i 1 : Nat) < win0_7.index t 1 * 16 + 16
    rw [idx7]; simp; omega
  | ⟨2, _⟩ =>
    show win0_7.index t 2 * 64 ≤ (i 2 : Nat) ∧ (i 2 : Nat) < win0_7.index t 2 * 64 + 64
    rw [idx7]; simp; omega

theorem final7 (c : Dev nD) (F : NonzeroAt m c) : (dats m 0 c).arrAt 7 cfg0.N = G7 m c :=
  (dats m 0 c).arrAt_eq_of_cover 7 (G7 m c) (flushed7 m c F) fun i => ⟨t0_0, flush0_7 _, covered7 i _⟩

theorem flushed8 (c : Dev nD) (F : NonzeroAt m c) (t : Fin cfg0.N) (_ : (cfg0.win 8).flush t = true) :
    (dats m 0 c).flushed 8 t = ((cfg0.win 8).blk t).view.read (Elt Ideal) (G8 m c) := by
  rw [Value.flushed8]
  funext j
  obtain ⟨g, h, p, rfl⟩ : ∃ (g : Fin 32) (h : Fin 16) (p : Fin 64), j = ix3 g h p := ⟨j 0, j 1, j 2, eq_ix3 j⟩
  rw [View.read_apply, cast_eq]
  have hi : ((cfg0.win 8).blk t).view.emb (ix3 g h p) = ix3 g h p := by
    funext a
    apply Fin.ext
    match a with
    | ⟨0, _⟩ => show win0_8.index t 0 * 32 + 1 * g.val = g.val; rw [idx8]; simp
    | ⟨1, _⟩ => show win0_8.index t 1 * 16 + 1 * h.val = h.val; rw [idx8]; simp
    | ⟨2, _⟩ => show win0_8.index t 2 * 64 + 1 * p.val = p.val; rw [idx8]; simp
  rw [hi]
  refine (out8_apply _ _ _ _ _ g h p (by rw [blk0, blk1]; exact F g p)).trans ?_
  unfold G8
  rw [ref3_apply, blk0, blk1, blk2, blk3, blk4]

theorem covered8 (i : S32x16x64.Idx) (t : Fin cfg0.N) : i ∈ ((cfg0.win 8).blk t).view.set := by
  have h0 : (i 0 : Nat) < 32 := (i 0).isLt
  have h1 : (i 1 : Nat) < 16 := (i 1).isLt
  have h2 : (i 2 : Nat) < 64 := (i 2).isLt
  show i ∈ ((View.whole main_v3_3).slice (win0_8.rect t)).set
  rw [View.set_slice_whole, Rect.mem_set_unit]
  intro a
  match a with
  | ⟨0, _⟩ =>
    show win0_8.index t 0 * 32 ≤ (i 0 : Nat) ∧ (i 0 : Nat) < win0_8.index t 0 * 32 + 32
    rw [idx8]; simp; omega
  | ⟨1, _⟩ =>
    show win0_8.index t 1 * 16 ≤ (i 1 : Nat) ∧ (i 1 : Nat) < win0_8.index t 1 * 16 + 16
    rw [idx8]; simp; omega
  | ⟨2, _⟩ =>
    show win0_8.index t 2 * 64 ≤ (i 2 : Nat) ∧ (i 2 : Nat) < win0_8.index t 2 * 64 + 64
    rw [idx8]; simp; omega

theorem final8 (c : Dev nD) (F : NonzeroAt m c) : (dats m 0 c).arrAt 8 cfg0.N = G8 m c :=
  (dats m 0 c).arrAt_eq_of_cover 8 (G8 m c) (flushed8 m c F) fun i => ⟨t0_0, flush0_8 _, covered8 i _⟩

/-! ### The claims -/

/-- The reference runs, leaves its arguments as they were, and has no semaphore. -/
theorem frame_r : Cert.quiescent_Reference5Ideal := fun m ρ _ =>
  (θ_run _ _ _).mono (fun r h => ⟨fun c => (h c).2.2.2.2, sem_eq_zero_of_no_sems (by decide) r.2⟩)
    (Cert.Reference5Ideal.Value.run (F := Ideal) m ρ)

/-- From equal arguments that satisfy the precondition the kernel and its reference end with equal results. -/
theorem algebraic [Cert.Pre_nonzero.Facts] : Cert.algebraic_Kernel5Ideal_Reference5Ideal_pre_nonzero := fun m ρ m' ρ' hpre hag =>
  ⟨fun c => G5 m c, fun c => G6 m c, fun c => G7 m c, fun c => G8 m c,
    (θ_run _ _ _).mono
      (fun _ h c => by
        have F : NonzeroAt m c := nonzero _ _ _ _ _ (hpre c)
        obtain ⟨h5, h6, h7, h8, hr⟩ := h c
        exact ⟨h5.trans (final5 m c), h6.trans (final6 m c), h7.trans (final7 m c F), h8.trans (final8 m c F), hr⟩)
      (Value.run_blocks (F := Ideal) m ρ),
    (θ_run _ _ _).mono
      (fun _ h c => by
        obtain ⟨e0, e1, e2, e3, e4⟩ := hag c
        obtain ⟨h5, h6, h7, h8, hr⟩ := h c
        refine ⟨h5.trans ?_, h6.trans ?_, h7.trans ?_, h8.trans ?_, hr⟩
        · rw [e0, e1, e2]
          exact Cert.Reference5Ideal.Read.val_main_v8_eq _ _ _
        · rw [e0, e1, e2]
          exact Cert.Reference5Ideal.Read.val_main_v12_eq _ _ _
        · rw [e0, e1, e2, e3, e4]
          exact Cert.Reference5Ideal.Read.val_main_v40_eq _ _ _ _ _
        · rw [e0, e1, e2, e3, e4]
          exact Cert.Reference5Ideal.Read.val_main_v41_eq _ _ _ _ _)
      (Cert.Reference5Ideal.Value.run (F := Ideal) m' ρ')⟩

end Cert.Proof.S5Prep

end
-- ==== Proof.Rope.lean ====
/- The rotary tables and the four weights cast beside them: the kernel's six results and the reference's, element by element, and the claims. -/
module

public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pointwise
public import Idealize.ShloMosaic.Lib.StableHlo.ReadAt
public import Idealize.ShloMosaic.Lib.Pipeline.Value
public import proofs.«01_k».proof.Proof.Sums
public import proofs.«01_k».proof.Defs
public import Idealize.ShloMosaic.Lib.Quiescent

@[expose] public section

set_option maxRecDepth 16384

noncomputable section

namespace Cert.Proof.Rope

open Idealize.ShloMosaic Idealize.ShloMosaic.TcCoe Idealize.SL.Sem Idealize.ShloMosaic.StableHlo
open Cert.Kernel6Ideal Cert.Kernel6Ideal.Gen Cert.Proof.Sums

/-! ### The frequency of a lane -/

theorem gather_lane (x : S8.Idx → EReal) (idx : IVec S128x1 32) (k : Fin 128) :
    Host.gather gather_S8_S128x1_S128_n_0_n_n_0_1_1 x idx (ix1 k) = x (ix1 ⟨min (idx (ix2 k 0)).toInt.toNat 7, by omega⟩) := by
  unfold Host.gather
  congr 1
  funext a
  obtain rfl : a = 0 := Subsingleton.elim _ _
  refine Fin.ext ?_
  show (gather_S8_S128x1_S128_n_0_n_n_0_1_1).start (ix1 k) idx 0 + (gather_S8_S128x1_S128_n_0_n_n_0_1_1).batchCoord (ix1 k) 0
    + (gather_S8_S128x1_S128_n_0_n_n_0_1_1).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S8_S128x1_S128_n_0_n_n_0_1_1).startIndexMap from List.mem_singleton.mpr rfl)]
  have hsi : (gather_S8_S128x1_S128_n_0_n_n_0_1_1).siIdx (ix1 k) ⟨List.idxOf (0 : Fin 1) (gather_S8_S128x1_S128_n_0_n_n_0_1_1).startIndexMap,
      List.idxOf_lt_length_iff.2 (List.mem_singleton.mpr rfl)⟩ = ix2 k 0 := by
    funext b; refine Fin.ext ?_
    match b with
    | ⟨0, _⟩ => rfl
    | ⟨1, _⟩ => rfl
  rw [hsi]
  rfl

/-- The eight frequencies. -/
def freqs (j : Fin 8) : EReal :=
  Ideal.pow (Ideal.ofBits FTy.f32 0x48F42400#32)
      (Ideal.div (-(Ideal.ofBits FTy.f32 0x40000000#32 * (FloatOps.sitofp (F := Ideal) FTy.f32 (BitVec.ofNat 32 j.val) : EReal)))
        (Ideal.ofBits FTy.f32 0x41800000#32))

/-- The frequencies as the kernel's host lines compute them. -/
abbrev freqOps : S8.Idx → EReal :=
  (Host.powf (F := Ideal) (φ := .f32) (broadcastInDim S8 ![] bcast_S_S8 (constant S_ FTy.f32 1223959552#32))
              (Host.divf
                (Host.negf
                  (addf (broadcastInDim S8 ![] bcast_S_S8 (constant S_ FTy.f32 0#32))
                    (mulf (broadcastInDim S8 ![] bcast_S_S8 (constant S_ FTy.f32 1073741824#32))
                      (sitofp FTy.f32 (iotaInDim S8 32 0)))))
                (broadcastInDim S8 ![] bcast_S_S8 (constant S_ FTy.f32 1098907648#32))))

theorem zero_bits : Ideal.ofBits FTy.f32 0#32 = (0 : EReal) := by
  simp [Ideal.ofBits, Ideal.ieee]

theorem freq_at (j : Fin 8) : freqOps (ix1 j) = freqs j := by
  unfold freqOps freqs
  pointwise

theorem row_lane_val : ∀ k : Fin 128, (S128.rowMajor (ix1 k)).val = k.val := by
  decide +kernel

theorem row_lane (k : Fin 128) : S128.rowMajor (ix1 k) = k := Fin.ext (row_lane_val k)

/-- Which frequency a lane takes. -/
abbrev laneOps : IVec S128x1 32 :=
  (broadcastInDim S128x1 ![0] bcast_S128_S128x1_0
              (select (constantI S128 1 0#1)
                (addi (fun i => lit0 (S128.rowMajor i)) (broadcastInDim S128 ![] bcast_S_S128 (constantI S_ 32 8#32)))
                fun i => lit0 (S128.rowMajor i)))

theorem lane_at (k : Fin 128) : laneOps (ix2 k 0) = BitVec.ofNat 32 (k.val % 8) := by
  have h1 : laneOps (ix2 k 0) = lit0 (S128.rowMajor (ix1 k)) := by
    unfold laneOps
    pointwise
  rw [h1, row_lane]
  revert k
  decide +kernel

theorem lane_bit (k : Fin 128) : lit1 (S128.rowMajor (ix1 k)) = if k.val % 64 < 16 then 1#1 else 0#1 := by
  rw [row_lane]
  revert k
  decide +kernel

theorem clamp_lane : ∀ k : Fin 128, min (BitVec.ofNat 32 (k.val % 8)).toInt.toNat 7 = k.val % 8 := by
  decide +kernel

/-- The frequency of a lane of the tables: 0 for the lanes that are not rotated. -/
def lane (k : Fin 128) : EReal := if k.val % 64 < 16 then freqs ⟨k.val % 64 % 8, by omega⟩ else 0

theorem lane_freq (k : Fin 128) (z : EReal) (hz : z = 0) :
    Scalar.select (lit1 (S128.rowMajor (ix1 k))) (Host.gather gather_S8_S128x1_S128_n_0_n_n_0_1_1 freqOps laneOps (ix1 k)) z
      = lane k := by
  unfold lane
  rw [lane_bit, gather_lane, freq_at, hz]
  have e : min (laneOps (ix2 k 0)).toInt.toNat 7 = k.val % 64 % 8 := by
    rw [lane_at, clamp_lane]; omega
  by_cases h : k.val % 64 < 16
  · rw [if_pos h, if_pos h]
    show freqs _ = _
    exact congrArg freqs (Fin.ext e)
  · rw [if_neg h, if_neg h]
    rfl

theorem cos_rest (x : EReal) : Ideal.cos (x * 0) = 1 := by
  rw [mul_zero]
  show ((Real.cos 0 : ℝ) : EReal) = 1
  simp

theorem sin_rest (x : EReal) : Ideal.sin (x * 0) = 0 := by
  rw [mul_zero]
  show ((Real.sin 0 : ℝ) : EReal) = 0
  simp

/-! ### The kernel's block -/

theorem hz3 : (![0, 0, 0] : Fin 3 → Nat) = fun _ => 0 := funext fun a => by fin_cases a <;> rfl

section Block

variable (x0 : Vec Ideal S1024x1 .i32) (x1 : Vec Ideal S1x128 .f32) (x2 x3 : Vec Ideal S1x64x5632 .f32) (x4 : Vec Ideal S1x176x2048 .f32)
  (x5 : Vec Ideal S1x64x5120 .f32)

theorem pay2_apply (r : Fin 1024) (k : Fin 128) :
    k0_pay2 (F := Ideal) x0 x1 (ix2 r k)
      = Ideal.cos ((FloatOps.sitofp (F := Ideal) FTy.f32 (x0 (ix2 r 0)) : EReal) * x1 (ix2 0 k)) := by
  pointwise [k0_pay2, k0_pay1]

theorem pay3_apply (r : Fin 1024) (k : Fin 128) :
    k0_pay3 (F := Ideal) x0 x1 (ix2 r k)
      = Ideal.sin ((FloatOps.sitofp (F := Ideal) FTy.f32 (x0 (ix2 r 0)) : EReal) * x1 (ix2 0 k)) := by
  pointwise [k0_pay3, k0_pay1]

theorem pay4_apply (r : Fin 64) (k : Fin 5632) : k0_pay4 (F := Ideal) x2 (ix2 r k) = x2 (ix3 0 r k) := by
  pointwise [k0_pay4]

theorem pay5_apply (r : Fin 64) (k : Fin 5632) : k0_pay5 (F := Ideal) x3 (ix2 r k) = x3 (ix3 0 r k) := by
  pointwise [k0_pay5]

theorem pay6_apply (r : Fin 176) (k : Fin 2048) : k0_pay6 (F := Ideal) x4 (ix2 r k) = x4 (ix3 0 r k) := by
  pointwise [k0_pay6]

theorem pay7_apply (r : Fin 64) (k : Fin 5120) : k0_pay7 (F := Ideal) x5 (ix2 r k) = x5 (ix3 0 r k) := by
  pointwise [k0_pay7]

theorem ld_r0_0 (x : Vec Ideal S1024x1 .i32) : View.ld x r0_0 = x := View.ld_unit_zero (S := S1024x1) hz _ x
theorem ld_r0_1 (x : Vec Ideal S1x128 .f32) : View.ld x r0_1 = x := View.ld_unit_zero (S := S1x128) hz _ x
theorem ld_r0_3 (x : Vec Ideal S1x64x5632 .f32) : View.ld x r0_3 = x := View.ld_unit_zero (S := S1x64x5632) hz3 _ x
theorem ld_r0_5 (x : Vec Ideal S1x176x2048 .f32) : View.ld x r0_5 = x := View.ld_unit_zero (S := S1x176x2048) hz3 _ x
theorem ld_r0_7 (x : Vec Ideal S1x64x5120 .f32) : View.ld x r0_7 = x := View.ld_unit_zero (S := S1x64x5120) hz3 _ x

theorem out6_apply (r : Fin 1024) (k : Fin 128) :
    out0_6 (F := Ideal) x0 x1 x2 x3 x4 x5 (ix2 r k) = Ideal.cos ((FloatOps.sitofp (F := Ideal) FTy.f32 (x0 (ix2 r 0)) : EReal) * x1 (ix2 0 k)) := by
  unfold out0_6
  rw [View.canon_unit_zero hz]
  rw [ld_r0_0, ld_r0_1]
  exact pay2_apply x0 x1 r k

theorem out7_apply (r : Fin 1024) (k : Fin 128) :
    out0_7 (F := Ideal) x0 x1 x2 x3 x4 x5 (ix2 r k) = Ideal.sin ((FloatOps.sitofp (F := Ideal) FTy.f32 (x0 (ix2 r 0)) : EReal) * x1 (ix2 0 k)) := by
  unfold out0_7
  rw [View.canon_unit_zero hz]
  rw [ld_r0_0, ld_r0_1]
  exact pay3_apply x0 x1 r k

theorem out8_apply (r : Fin 64) (k : Fin 5632) :
    out0_8 (F := Ideal) x0 x1 x2 x3 x4 x5 (ix2 r k) = x2 (ix3 0 r k) := by
  unfold out0_8
  rw [View.canon_unit_zero hz]
  rw [ld_r0_3]
  exact pay4_apply x2 r k

theorem out9_apply (r : Fin 64) (k : Fin 5632) :
    out0_9 (F := Ideal) x0 x1 x2 x3 x4 x5 (ix2 r k) = x3 (ix3 0 r k) := by
  unfold out0_9
  rw [View.canon_unit_zero hz]
  rw [ld_r0_3]
  exact pay5_apply x3 r k

theorem out10_apply (r : Fin 176) (k : Fin 2048) :
    out0_10 (F := Ideal) x0 x1 x2 x3 x4 x5 (ix2 r k) = x4 (ix3 0 r k) := by
  unfold out0_10
  rw [View.canon_unit_zero hz]
  rw [ld_r0_5]
  exact pay6_apply x4 r k

theorem out11_apply (r : Fin 64) (k : Fin 5120) :
    out0_11 (F := Ideal) x0 x1 x2 x3 x4 x5 (ix2 r k) = x5 (ix3 0 r k) := by
  unfold out0_11
  rw [View.canon_unit_zero hz]
  rw [ld_r0_7]
  exact pay7_apply x5 r k

end Block

/-! ### The reference's results -/

section Ref

variable (x0 : S16x2048.Idx → BitVec 32) (x1 x2 : S2x2048x5632.Idx → EReal) (x3 : S2x5632x2048.Idx → EReal) (x4 : S2x2048x5120.Idx → EReal)

abbrev ref0 : S32768x128.Idx → EReal := Cert.Reference6Ideal.Read.val_main_v21 (F := Ideal) x0
abbrev ref1 : S32768x128.Idx → EReal := Cert.Reference6Ideal.Read.val_main_v23 (F := Ideal) x0
abbrev ref2 : S2048x5632.Idx → EReal := Cert.Reference6Ideal.Read.val_main_v26 (F := Ideal) x1
abbrev ref3 : S2048x5632.Idx → EReal := Cert.Reference6Ideal.Read.val_main_v29 (F := Ideal) x2
abbrev ref4 : S5632x2048.Idx → EReal := Cert.Reference6Ideal.Read.val_main_v32 (F := Ideal) x3
abbrev ref5 : S2048x5120.Idx → EReal := Cert.Reference6Ideal.Read.val_main_v35 (F := Ideal) x4

/-- The position of a row of the tables, as a number. -/
def pos (n : Fin 32768) : EReal :=
  (FloatOps.sitofp (F := Ideal) FTy.f32 (x0 (ix2 ⟨n.val / 2048, by omega⟩ ⟨n.val % 2048, by omega⟩)) : EReal)

/-- A row of a table, piece after piece: the rotated lanes of each half take their frequency's entry, the others `z`. -/
theorem parts (f : Fin 8 → EReal) (z : EReal) (k : Fin 128) :
    (if h : k.val < 8 then f ⟨k.val, h⟩
      else if h : k.val - 8 < 8 then f ⟨k.val - 8, h⟩
      else if _ : k.val - 8 - 8 < 48 then z
      else if h : k.val - 8 - 8 - 48 < 8 then f ⟨k.val - 8 - 8 - 48, h⟩
      else if h : k.val - 8 - 8 - 48 - 8 < 8 then f ⟨k.val - 8 - 8 - 48 - 8, h⟩
      else z)
      = if _ : k.val % 64 < 16 then f ⟨k.val % 64 % 8, by omega⟩ else z := by
  have hk := k.isLt
  split_ifs <;> first
    | omega
    | rfl
    | exact congrArg f (Fin.ext (by dsimp only; omega))

theorem ref0_apply (n : Fin 32768) (k : Fin 128) : ref0 x0 (ix2 n k) = Ideal.cos (pos x0 n * lane k) := by
  have hc : ∀ x : EReal, Ideal.cos (x * lane k) = if h : k.val % 64 < 16 then Ideal.cos (x * freqs ⟨k.val % 64 % 8, by omega⟩) else 1 := by
    intro x
    unfold lane
    by_cases h : k.val % 64 < 16
    · rw [if_pos h, dif_pos h]
    · rw [if_neg h, dif_neg h]; exact cos_rest x
  rw [hc]
  unfold ref0 pos freqs
  rw [← Cert.Reference6Ideal.Read.val_main_v21_eq]
  pointwise
  exact parts (fun j => Ideal.cos (pos x0 n * freqs j)) 1 k

theorem ref1_apply (n : Fin 32768) (k : Fin 128) : ref1 x0 (ix2 n k) = Ideal.sin (pos x0 n * lane k) := by
  have hc : ∀ x : EReal, Ideal.sin (x * lane k) = if h : k.val % 64 < 16 then Ideal.sin (x * freqs ⟨k.val % 64 % 8, by omega⟩) else 0 := by
    intro x
    unfold lane
    by_cases h : k.val % 64 < 16
    · rw [if_pos h, dif_pos h]
    · rw [if_neg h, dif_neg h]; exact sin_rest x
  rw [hc]
  unfold ref1 pos freqs
  rw [← Cert.Reference6Ideal.Read.val_main_v23_eq]
  pointwise
  exact parts (fun j => Ideal.sin (pos x0 n * freqs j)) 0 k

theorem ref2_apply (n : Fin 2048) (k : Fin 5632) : ref2 x1 (ix2 n k) = x1 (ix3 0 n k) := by
  unfold ref2
  rw [← Cert.Reference6Ideal.Read.val_main_v26_eq]
  pointwise

theorem ref3_apply (n : Fin 2048) (k : Fin 5632) : ref3 x2 (ix2 n k) = x2 (ix3 0 n k) := by
  unfold ref3
  rw [← Cert.Reference6Ideal.Read.val_main_v29_eq]
  pointwise

theorem ref4_apply (n : Fin 5632) (k : Fin 2048) : ref4 x3 (ix2 n k) = x3 (ix3 0 n k) := by
  unfold ref4
  rw [← Cert.Reference6Ideal.Read.val_main_v32_eq]
  pointwise

theorem ref5_apply (n : Fin 2048) (k : Fin 5120) : ref5 x4 (ix2 n k) = x4 (ix3 0 n k) := by
  unfold ref5
  rw [← Cert.Reference6Ideal.Read.val_main_v35_eq]
  pointwise

end Ref

/-! ### The arrays as the kernel's call finds them -/

variable (m : (ℓ : Loc nD τ sig) → Buf (Elt Ideal) ℓ)

theorem V17 (c : Dev nD) (n : Fin 32768) :
    (V m c main_v17 : S32768x1.Idx → BitVec 32) (ix2 n 0)
      = (m (c.tc.loc main_arg0) : S16x2048.Idx → BitVec 32) (ix2 ⟨n.val / 2048, by omega⟩ ⟨n.val % 2048, by omega⟩) := by
  unfold V
  after_reads_at

theorem V16 (c : Dev nD) (k : Fin 128) : (V m c main_v16 : S1x128.Idx → EReal) (ix2 0 k) = lane k := by
  rw [← lane_freq k (id (constant (F := Ideal) S_ FTy.f32 0#32) ix0) zero_bits]
  unfold V freqOps laneOps
  after_reads_at
  rfl

/-! ### The windows' blocks -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![0, t.val, 0] := (by decide +kernel : ∀ t : Fin grid0.N, win0_3.index t = ![0, t.val, 0])
theorem idx4 : ∀ t : Fin cfg0.N, win0_4.index t = ![0, t.val, 0] := (by decide +kernel : ∀ t : Fin grid0.N, win0_4.index t = ![0, t.val, 0])
theorem idx5 : ∀ t : Fin cfg0.N, win0_5.index t = ![0, t.val, 0] := (by decide +kernel : ∀ t : Fin grid0.N, win0_5.index t = ![0, t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])

theorem t_lt (t : Fin cfg0.N) : t.val < 32 := t.isLt

theorem blk0 (c : Dev nD) (t : Fin cfg0.N) (r : Fin 1024) :
    (FloatOps.sitofp (F := Ideal) FTy.f32 ((iblk m c 0 t : Vec Ideal S1024x1 .i32) (ix2 r 0)) : EReal)
      = pos (m (c.tc.loc main_arg0)) ⟨t.val * 1024 + r.val, by have := t_lt t; omega⟩ := by
  unfold pos
  refine congrArg (FloatOps.sitofp (F := Ideal) FTy.f32) ?_
  refine Eq.trans ?_ (V17 m c ⟨t.val * 1024 + r.val, by have := t_lt t; omega⟩)
  unfold iblk
  rw [View.read_apply]
  show V m c main_v17 _ = V m c main_v17 _
  congr 1
  funext a
  apply Fin.ext
  match a with
  | ⟨0, _⟩ => show win0_0.index t 0 * 1024 + 1 * r.val = t.val * 1024 + r.val; rw [idx0]; simp
  | ⟨1, _⟩ => show win0_0.index t 1 * 1 + 1 * 0 = 0; rw [idx0]; simp

theorem blk1 (c : Dev nD) (t : Fin cfg0.N) (k : Fin 128) : (iblk m c 1 t : Vec Ideal S1x128 .f32) (ix2 0 k) = lane k := by
  refine Eq.trans ?_ (V16 m c k)
  unfold iblk
  rw [View.read_apply]
  show V m c main_v16 _ = V m c main_v16 _
  congr 1
  funext a
  apply Fin.ext
  match a with
  | ⟨0, _⟩ => show win0_1.index t 0 * 1 + 1 * 0 = 0; rw [idx1]; simp
  | ⟨1, _⟩ => show win0_1.index t 1 * 128 + 1 * k.val = k.val; rw [idx1]; simp

theorem blk2 (c : Dev nD) (t : Fin cfg0.N) (r : Fin 64) (k : Fin 5632) :
    (iblk m c 2 t : Vec Ideal S1x64x5632 .f32) (ix3 0 r k)
      = (m (c.tc.loc main_arg1) : S2x2048x5632.Idx → EReal) (ix3 0 ⟨t.val * 64 + r.val, by have := t_lt t; omega⟩ k) := by
  refine Eq.trans ?_ (congrFun (V_main_arg1 m c) (ix3 0 ⟨t.val * 64 + r.val, by have := t_lt t; omega⟩ k))
  unfold iblk
  rw [View.read_apply]
  show V m c main_arg1 _ = V m c main_arg1 _
  congr 1
  funext a
  apply Fin.ext
  match a with
  | ⟨0, _⟩ => show win0_2.index t 0 * 1 + 1 * 0 = 0; rw [idx2]; simp
  | ⟨1, _⟩ => show win0_2.index t 1 * 64 + 1 * r.val = t.val * 64 + r.val; rw [idx2]; simp
  | ⟨2, _⟩ => show win0_2.index t 2 * 5632 + 1 * k.val = k.val; rw [idx2]; simp

theorem blk3 (c : Dev nD) (t : Fin cfg0.N) (r : Fin 64) (k : Fin 5632) :
    (iblk m c 3 t : Vec Ideal S1x64x5632 .f32) (ix3 0 r k)
      = (m (c.tc.loc main_arg2) : S2x2048x5632.Idx → EReal) (ix3 0 ⟨t.val * 64 + r.val, by have := t_lt t; omega⟩ k) := by
  refine Eq.trans ?_ (congrFun (V_main_arg2 m c) (ix3 0 ⟨t.val * 64 + r.val, by have := t_lt t; omega⟩ k))
  unfold iblk
  rw [View.read_apply]
  show V m c main_arg2 _ = V m c main_arg2 _
  congr 1
  funext a
  apply Fin.ext
  match a with
  | ⟨0, _⟩ => show win0_3.index t 0 * 1 + 1 * 0 = 0; rw [idx3]; simp
  | ⟨1, _⟩ => show win0_3.index t 1 * 64 + 1 * r.val = t.val * 64 + r.val; rw [idx3]; simp
  | ⟨2, _⟩ => show win0_3.index t 2 * 5632 + 1 * k.val = k.val; rw [idx3]; simp

theorem blk4 (c : Dev nD) (t : Fin cfg0.N) (r : Fin 176) (k : Fin 2048) :
    (iblk m c 4 t : Vec Ideal S1x176x2048 .f32) (ix3 0 r k)
      = (m (c.tc.loc main_arg3) : S2x5632x2048.Idx → EReal) (ix3 0 ⟨t.val * 176 + r.val, by have := t_lt t; omega⟩ k) := by
  refine Eq.trans ?_ (congrFun (V_main_arg3 m c) (ix3 0 ⟨t.val * 176 + r.val, by have := t_lt t; omega⟩ k))
  unfold iblk
  rw [View.read_apply]
  show V m c main_arg3 _ = V m c main_arg3 _
  congr 1
  funext a
  apply Fin.ext
  match a with
  | ⟨0, _⟩ => show win0_4.index t 0 * 1 + 1 * 0 = 0; rw [idx4]; simp
  | ⟨1, _⟩ => show win0_4.index t 1 * 176 + 1 * r.val = t.val * 176 + r.val; rw [idx4]; simp
  | ⟨2, _⟩ => show win0_4.index t 2 * 2048 + 1 * k.val = k.val; rw [idx4]; simp

theorem blk5 (c : Dev nD) (t : Fin cfg0.N) (r : Fin 64) (k : Fin 5120) :
    (iblk m c 5 t : Vec Ideal S1x64x5120 .f32) (ix3 0 r k)
      = (m (c.tc.loc main_arg4) : S2x2048x5120.Idx → EReal) (ix3 0 ⟨t.val * 64 + r.val, by have := t_lt t; omega⟩ k) := by
  refine Eq.trans ?_ (congrFun (V_main_arg4 m c) (ix3 0 ⟨t.val * 64 + r.val, by have := t_lt t; omega⟩ k))
  unfold iblk
  rw [View.read_apply]
  show V m c main_arg4 _ = V m c main_arg4 _
  congr 1
  funext a
  apply Fin.ext
  match a with
  | ⟨0, _⟩ => show win0_5.index t 0 * 1 + 1 * 0 = 0; rw [idx5]; simp
  | ⟨1, _⟩ => show win0_5.index t 1 * 64 + 1 * r.val = t.val * 64 + r.val; rw [idx5]; simp
  | ⟨2, _⟩ => show win0_5.index t 2 * 5120 + 1 * k.val = k.val; rw [idx5]; simp

/-! ### The result arrays -/

abbrev G6 (c : Dev nD) : S32768x128.Idx → EReal := ref0 (m (c.tc.loc main_arg0))

theorem flushed6 (c : Dev nD) (t : Fin cfg0.N) (_ : (cfg0.win 6).flush t = true) :
    (dats m 0 c).flushed 6 t = ((cfg0.win 6).blk t).view.read (Elt Ideal) (G6 m c) := by
  show (cfg0.win 6).cut (grid0.coords t) ((dats m 0 c).after 6 t) = _
  rw [after0_6]
  funext j
  obtain ⟨r, k, rfl⟩ : ∃ (r : Fin 1024) (k : Fin 128), j = ix2 r k := ⟨j 0, j 1, eq_ix2 j⟩
  rw [View.read_apply, cast_eq]
  have hi : ((cfg0.win 6).blk t).view.emb (ix2 r k) = ix2 ⟨t.val * 1024 + r.val, by have := t_lt t; omega⟩ k := by
    funext a
    apply Fin.ext
    match a with
    | ⟨0, _⟩ => show win0_6.index t 0 * 1024 + 1 * r.val = t.val * 1024 + r.val; rw [idx6]; simp
    | ⟨1, _⟩ => show win0_6.index t 1 * 128 + 1 * k.val = k.val; rw [idx6]; simp
  rw [hi]
  refine (out6_apply _ _ _ _ _ _ r k).trans ?_
  unfold G6
  rw [ref0_apply, blk0, blk1]

theorem covered6 (i : S32768x128.Idx) (t : Fin cfg0.N) (ht : t.val = (i 0 : Nat) / 1024) : i ∈ ((cfg0.win 6).blk t).view.set := by
  have h0 : (i 0 : Nat) < 32768 := (i 0).isLt
  have h1 : (i 1 : Nat) < 128 := (i 1).isLt
  show i ∈ ((View.whole main_v18_0).slice (win0_6.rect t)).set
  rw [View.set_slice_whole, Rect.mem_set_unit]
  intro a
  match a with
  | ⟨0, _⟩ =>
    show win0_6.index t 0 * 1024 ≤ (i 0 : Nat) ∧ (i 0 : Nat) < win0_6.index t 0 * 1024 + 1024
    rw [idx6]
    show t.val * 1024 ≤ (i 0 : Nat) ∧ (i 0 : Nat) < t.val * 1024 + 1024
    omega
  | ⟨1, _⟩ =>
    show win0_6.index t 1 * 128 ≤ (i 1 : Nat) ∧ (i 1 : Nat) < win0_6.index t 1 * 128 + 128
    rw [idx6]
    show 0 * 128 ≤ (i 1 : Nat) ∧ (i 1 : Nat) < 0 * 128 + 128
    omega

theorem final6 (c : Dev nD) : (dats m 0 c).arrAt 6 cfg0.N = G6 m c :=
  (dats m 0 c).arrAt_eq_of_cover 6 (G6 m c) (flushed6 m c) fun i =>
    ⟨⟨(i 0 : Nat) / 1024, by have h0 : (i 0 : Nat) < 32768 := (i 0).isLt; show (i 0 : Nat) / 1024 < grid0.N; rw [N_0]; omega⟩, flush0_6 _, covered6 i _ rfl⟩

abbrev G7 (c : Dev nD) : S32768x128.Idx → EReal := ref1 (m (c.tc.loc main_arg0))

theorem flushed7 (c : Dev nD) (t : Fin cfg0.N) (_ : (cfg0.win 7).flush t = true) :
    (dats m 0 c).flushed 7 t = ((cfg0.win 7).blk t).view.read (Elt Ideal) (G7 m c) := by
  show (cfg0.win 7).cut (grid0.coords t) ((dats m 0 c).after 7 t) = _
  rw [after0_7]
  funext j
  obtain ⟨r, k, rfl⟩ : ∃ (r : Fin 1024) (k : Fin 128), j = ix2 r k := ⟨j 0, j 1, eq_ix2 j⟩
  rw [View.read_apply, cast_eq]
  have hi : ((cfg0.win 7).blk t).view.emb (ix2 r k) = ix2 ⟨t.val * 1024 + r.val, by have := t_lt t; omega⟩ k := by
    funext a
    apply Fin.ext
    match a with
    | ⟨0, _⟩ => show win0_7.index t 0 * 1024 + 1 * r.val = t.val * 1024 + r.val; rw [idx7]; simp
    | ⟨1, _⟩ => show win0_7.index t 1 * 128 + 1 * k.val = k.val; rw [idx7]; simp
  rw [hi]
  refine (out7_apply _ _ _ _ _ _ r k).trans ?_
  unfold G7
  rw [ref1_apply, blk0, blk1]

theorem covered7 (i : S32768x128.Idx) (t : Fin cfg0.N) (ht : t.val = (i 0 : Nat) / 1024) : i ∈ ((cfg0.win 7).blk t).view.set := by
  have h0 : (i 0 : Nat) < 32768 := (i 0).isLt
  have h1 : (i 1 : Nat) < 128 := (i 1).isLt
  show i ∈ ((View.whole main_v18_1).slice (win0_7.rect t)).set
  rw [View.set_slice_whole, Rect.mem_set_unit]
  intro a
  match a with
  | ⟨0, _⟩ =>
    show win0_7.index t 0 * 1024 ≤ (i 0 : Nat) ∧ (i 0 : Nat) < win0_7.index t 0 * 1024 + 1024
    rw [idx7]
    show t.val * 1024 ≤ (i 0 : Nat) ∧ (i 0 : Nat) < t.val * 1024 + 1024
    omega
  | ⟨1, _⟩ =>
    show win0_7.index t 1 * 128 ≤ (i 1 : Nat) ∧ (i 1 : Nat) < win0_7.index t 1 * 128 + 128
    rw [idx7]
    show 0 * 128 ≤ (i 1 : Nat) ∧ (i 1 : Nat) < 0 * 128 + 128
    omega

theorem final7 (c : Dev nD) : (dats m 0 c).arrAt 7 cfg0.N = G7 m c :=
  (dats m 0 c).arrAt_eq_of_cover 7 (G7 m c) (flushed7 m c) fun i =>
    ⟨⟨(i 0 : Nat) / 1024, by have h0 : (i 0 : Nat) < 32768 := (i 0).isLt; show (i 0 : Nat) / 1024 < grid0.N; rw [N_0]; omega⟩, flush0_7 _, covered7 i _ rfl⟩

abbrev G8 (c : Dev nD) : S2048x5632.Idx → EReal := ref2 (m (c.tc.loc main_arg1))

theorem flushed8 (c : Dev nD) (t : Fin cfg0.N) (_ : (cfg0.win 8).flush t = true) :
    (dats m 0 c).flushed 8 t = ((cfg0.win 8).blk t).view.read (Elt Ideal) (G8 m c) := by
  show (cfg0.win 8).cut (grid0.coords t) ((dats m 0 c).after 8 t) = _
  rw [after0_8]
  funext j
  obtain ⟨r, k, rfl⟩ : ∃ (r : Fin 64) (k : Fin 5632), j = ix2 r k := ⟨j 0, j 1, eq_ix2 j⟩
  rw [View.read_apply, cast_eq]
  have hi : ((cfg0.win 8).blk t).view.emb (ix2 r k) = ix2 ⟨t.val * 64 + r.val, by have := t_lt t; omega⟩ k := by
    funext a
    apply Fin.ext
    match a with
    | ⟨0, _⟩ => show win0_8.index t 0 * 64 + 1 * r.val = t.val * 64 + r.val; rw [idx8]; simp
    | ⟨1, _⟩ => show win0_8.index t 1 * 5632 + 1 * k.val = k.val; rw [idx8]; simp
  rw [hi]
  refine (out8_apply _ _ _ _ _ _ r k).trans ?_
  unfold G8
  rw [ref2_apply, blk2]

theorem covered8 (i : S2048x5632.Idx) (t : Fin cfg0.N) (ht : t.val = (i 0 : Nat) / 64) : i ∈ ((cfg0.win 8).blk t).view.set := by
  have h0 : (i 0 : Nat) < 2048 := (i 0).isLt
  have h1 : (i 1 : Nat) < 5632 := (i 1).isLt
  show i ∈ ((View.whole main_v18_2).slice (win0_8.rect t)).set
  rw [View.set_slice_whole, Rect.mem_set_unit]
  intro a
  match a with
  | ⟨0, _⟩ =>
    show win0_8.index t 0 * 64 ≤ (i 0 : Nat) ∧ (i 0 : Nat) < win0_8.index t 0 * 64 + 64
    rw [idx8]
    show t.val * 64 ≤ (i 0 : Nat) ∧ (i 0 : Nat) < t.val * 64 + 64
    omega
  | ⟨1, _⟩ =>
    show win0_8.index t 1 * 5632 ≤ (i 1 : Nat) ∧ (i 1 : Nat) < win0_8.index t 1 * 5632 + 5632
    rw [idx8]
    show 0 * 5632 ≤ (i 1 : Nat) ∧ (i 1 : Nat) < 0 * 5632 + 5632
    omega

theorem final8 (c : Dev nD) : (dats m 0 c).arrAt 8 cfg0.N = G8 m c :=
  (dats m 0 c).arrAt_eq_of_cover 8 (G8 m c) (flushed8 m c) fun i =>
    ⟨⟨(i 0 : Nat) / 64, by have h0 : (i 0 : Nat) < 2048 := (i 0).isLt; show (i 0 : Nat) / 64 < grid0.N; rw [N_0]; omega⟩, flush0_8 _, covered8 i _ rfl⟩

abbrev G9 (c : Dev nD) : S2048x5632.Idx → EReal := ref3 (m (c.tc.loc main_arg2))

theorem flushed9 (c : Dev nD) (t : Fin cfg0.N) (_ : (cfg0.win 9).flush t = true) :
    (dats m 0 c).flushed 9 t = ((cfg0.win 9).blk t).view.read (Elt Ideal) (G9 m c) := by
  show (cfg0.win 9).cut (grid0.coords t) ((dats m 0 c).after 9 t) = _
  rw [after0_9]
  funext j
  obtain ⟨r, k, rfl⟩ : ∃ (r : Fin 64) (k : Fin 5632), j = ix2 r k := ⟨j 0, j 1, eq_ix2 j⟩
  rw [View.read_apply, cast_eq]
  have hi : ((cfg0.win 9).blk t).view.emb (ix2 r k) = ix2 ⟨t.val * 64 + r.val, by have := t_lt t; omega⟩ k := by
    funext a
    apply Fin.ext
    match a with
    | ⟨0, _⟩ => show win0_9.index t 0 * 64 + 1 * r.val = t.val * 64 + r.val; rw [idx9]; simp
    | ⟨1, _⟩ => show win0_9.index t 1 * 5632 + 1 * k.val = k.val; rw [idx9]; simp
  rw [hi]
  refine (out9_apply _ _ _ _ _ _ r k).trans ?_
  unfold G9
  rw [ref3_apply, blk3]

theorem covered9 (i : S2048x5632.Idx) (t : Fin cfg0.N) (ht : t.val = (i 0 : Nat) / 64) : i ∈ ((cfg0.win 9).blk t).view.set := by
  have h0 : (i 0 : Nat) < 2048 := (i 0).isLt
  have h1 : (i 1 : Nat) < 5632 := (i 1).isLt
  show i ∈ ((View.whole main_v18_3).slice (win0_9.rect t)).set
  rw [View.set_slice_whole, Rect.mem_set_unit]
  intro a
  match a with
  | ⟨0, _⟩ =>
    show win0_9.index t 0 * 64 ≤ (i 0 : Nat) ∧ (i 0 : Nat) < win0_9.index t 0 * 64 + 64
    rw [idx9]
    show t.val * 64 ≤ (i 0 : Nat) ∧ (i 0 : Nat) < t.val * 64 + 64
    omega
  | ⟨1, _⟩ =>
    show win0_9.index t 1 * 5632 ≤ (i 1 : Nat) ∧ (i 1 : Nat) < win0_9.index t 1 * 5632 + 5632
    rw [idx9]
    show 0 * 5632 ≤ (i 1 : Nat) ∧ (i 1 : Nat) < 0 * 5632 + 5632
    omega

theorem final9 (c : Dev nD) : (dats m 0 c).arrAt 9 cfg0.N = G9 m c :=
  (dats m 0 c).arrAt_eq_of_cover 9 (G9 m c) (flushed9 m c) fun i =>
    ⟨⟨(i 0 : Nat) / 64, by have h0 : (i 0 : Nat) < 2048 := (i 0).isLt; show (i 0 : Nat) / 64 < grid0.N; rw [N_0]; omega⟩, flush0_9 _, covered9 i _ rfl⟩

abbrev G10 (c : Dev nD) : S5632x2048.Idx → EReal := ref4 (m (c.tc.loc main_arg3))

theorem flushed10 (c : Dev nD) (t : Fin cfg0.N) (_ : (cfg0.win 10).flush t = true) :
    (dats m 0 c).flushed 10 t = ((cfg0.win 10).blk t).view.read (Elt Ideal) (G10 m c) := by
  show (cfg0.win 10).cut (grid0.coords t) ((dats m 0 c).after 10 t) = _
  rw [after0_10]
  funext j
  obtain ⟨r, k, rfl⟩ : ∃ (r : Fin 176) (k : Fin 2048), j = ix2 r k := ⟨j 0, j 1, eq_ix2 j⟩
  rw [View.read_apply, cast_eq]
  have hi : ((cfg0.win 10).blk t).view.emb (ix2 r k) = ix2 ⟨t.val * 176 + r.val, by have := t_lt t; omega⟩ k := by
    funext a
    apply Fin.ext
    match a with
    | ⟨0, _⟩ => show win0_10.index t 0 * 176 + 1 * r.val = t.val * 176 + r.val; rw [idx10]; simp
    | ⟨1, _⟩ => show win0_10.index t 1 * 2048 + 1 * k.val = k.val; rw [idx10]; simp
  rw [hi]
  refine (out10_apply _ _ _ _ _ _ r k).trans ?_
  unfold G10
  rw [ref4_apply, blk4]

theorem covered10 (i : S5632x2048.Idx) (t : Fin cfg0.N) (ht : t.val = (i 0 : Nat) / 176) : i ∈ ((cfg0.win 10).blk t).view.set := by
  have h0 : (i 0 : Nat) < 5632 := (i 0).isLt
  have h1 : (i 1 : Nat) < 2048 := (i 1).isLt
  show i ∈ ((View.whole main_v18_4).slice (win0_10.rect t)).set
  rw [View.set_slice_whole, Rect.mem_set_unit]
  intro a
  match a with
  | ⟨0, _⟩ =>
    show win0_10.index t 0 * 176 ≤ (i 0 : Nat) ∧ (i 0 : Nat) < win0_10.index t 0 * 176 + 176
    rw [idx10]
    show t.val * 176 ≤ (i 0 : Nat) ∧ (i 0 : Nat) < t.val * 176 + 176
    omega
  | ⟨1, _⟩ =>
    show win0_10.index t 1 * 2048 ≤ (i 1 : Nat) ∧ (i 1 : Nat) < win0_10.index t 1 * 2048 + 2048
    rw [idx10]
    show 0 * 2048 ≤ (i 1 : Nat) ∧ (i 1 : Nat) < 0 * 2048 + 2048
    omega

theorem final10 (c : Dev nD) : (dats m 0 c).arrAt 10 cfg0.N = G10 m c :=
  (dats m 0 c).arrAt_eq_of_cover 10 (G10 m c) (flushed10 m c) fun i =>
    ⟨⟨(i 0 : Nat) / 176, by have h0 : (i 0 : Nat) < 5632 := (i 0).isLt; show (i 0 : Nat) / 176 < grid0.N; rw [N_0]; omega⟩, flush0_10 _, covered10 i _ rfl⟩

abbrev G11 (c : Dev nD) : S2048x5120.Idx → EReal := ref5 (m (c.tc.loc main_arg4))

theorem flushed11 (c : Dev nD) (t : Fin cfg0.N) (_ : (cfg0.win 11).flush t = true) :
    (dats m 0 c).flushed 11 t = ((cfg0.win 11).blk t).view.read (Elt Ideal) (G11 m c) := by
  show (cfg0.win 11).cut (grid0.coords t) ((dats m 0 c).after 11 t) = _
  rw [after0_11]
  funext j
  obtain ⟨r, k, rfl⟩ : ∃ (r : Fin 64) (k : Fin 5120), j = ix2 r k := ⟨j 0, j 1, eq_ix2 j⟩
  rw [View.read_apply, cast_eq]
  have hi : ((cfg0.win 11).blk t).view.emb (ix2 r k) = ix2 ⟨t.val * 64 + r.val, by have := t_lt t; omega⟩ k := by
    funext a
    apply Fin.ext
    match a with
    | ⟨0, _⟩ => show win0_11.index t 0 * 64 + 1 * r.val = t.val * 64 + r.val; rw [idx11]; simp
    | ⟨1, _⟩ => show win0_11.index t 1 * 5120 + 1 * k.val = k.val; rw [idx11]; simp
  rw [hi]
  refine (out11_apply _ _ _ _ _ _ r k).trans ?_
  unfold G11
  rw [ref5_apply, blk5]

theorem covered11 (i : S2048x5120.Idx) (t : Fin cfg0.N) (ht : t.val = (i 0 : Nat) / 64) : i ∈ ((cfg0.win 11).blk t).view.set := by
  have h0 : (i 0 : Nat) < 2048 := (i 0).isLt
  have h1 : (i 1 : Nat) < 5120 := (i 1).isLt
  show i ∈ ((View.whole main_v18_5).slice (win0_11.rect t)).set
  rw [View.set_slice_whole, Rect.mem_set_unit]
  intro a
  match a with
  | ⟨0, _⟩ =>
    show win0_11.index t 0 * 64 ≤ (i 0 : Nat) ∧ (i 0 : Nat) < win0_11.index t 0 * 64 + 64
    rw [idx11]
    show t.val * 64 ≤ (i 0 : Nat) ∧ (i 0 : Nat) < t.val * 64 + 64
    omega
  | ⟨1, _⟩ =>
    show win0_11.index t 1 * 5120 ≤ (i 1 : Nat) ∧ (i 1 : Nat) < win0_11.index t 1 * 5120 + 5120
    rw [idx11]
    show 0 * 5120 ≤ (i 1 : Nat) ∧ (i 1 : Nat) < 0 * 5120 + 5120
    omega

theorem final11 (c : Dev nD) : (dats m 0 c).arrAt 11 cfg0.N = G11 m c :=
  (dats m 0 c).arrAt_eq_of_cover 11 (G11 m c) (flushed11 m c) fun i =>
    ⟨⟨(i 0 : Nat) / 64, by have h0 : (i 0 : Nat) < 2048 := (i 0).isLt; show (i 0 : Nat) / 64 < grid0.N; rw [N_0]; omega⟩, flush0_11 _, covered11 i _ rfl⟩

/-! ### The run -/

variable (ρ : Dev nD → PrngReg)

/-- The kernel's run, with each result array after it named and its arguments unchanged. -/
theorem run_blocks : θ_run (defs (F := Ideal)) (onTc (τ := τ) (main (F := Ideal))) ⟨m, fun _ => 0, ρ⟩ fun r => ∀ c : Dev nD,
      r.2.mem ((c.tc : Thread nD τ).loc main_v18_0) = (dats m 0 c).arrAt 6 cfg0.N
      ∧ r.2.mem ((c.tc : Thread nD τ).loc main_v18_1) = (dats m 0 c).arrAt 7 cfg0.N
      ∧ r.2.mem ((c.tc : Thread nD τ).loc main_v18_2) = (dats m 0 c).arrAt 8 cfg0.N
      ∧ r.2.mem ((c.tc : Thread nD τ).loc main_v18_3) = (dats m 0 c).arrAt 9 cfg0.N
      ∧ r.2.mem ((c.tc : Thread nD τ).loc main_v18_4) = (dats m 0 c).arrAt 10 cfg0.N
      ∧ r.2.mem ((c.tc : Thread nD τ).loc main_v18_5) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono
    (fun _ h c => ⟨(h c).1 6, (h c).1 7, (h c).1 8, (h c).1 9, (h c).1 10, (h c).1 11,
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩)
    (run_main (F := Ideal) m ρ)

/-! ### The claims -/

/-- The reference runs, leaves its arguments as they were, and has no semaphore. -/
theorem frame_r : Cert.quiescent_Reference6Ideal := fun m ρ _ =>
  (θ_run _ _ _).mono (fun r h => ⟨fun c => (h c).2.2.2.2.2.2, sem_eq_zero_of_no_sems (by decide) r.2⟩)
    (Cert.Reference6Ideal.Value.run (F := Ideal) m ρ)

/-- From equal arguments the kernel and its reference end with equal results. -/
theorem algebraic : Cert.algebraic_Kernel6Ideal_Reference6Ideal := fun m ρ m' ρ' _ hag =>
  ⟨fun c => G6 m c, fun c => G7 m c, fun c => G8 m c, fun c => G9 m c, fun c => G10 m c, fun c => G11 m c,
    (θ_run _ _ _).mono
      (fun _ h c => by
        obtain ⟨h6, h7, h8, h9, h10, h11, hr⟩ := h c
        exact ⟨h6.trans (final6 m c), h7.trans (final7 m c), h8.trans (final8 m c), h9.trans (final9 m c), h10.trans (final10 m c),
          h11.trans (final11 m c), hr⟩)
      (run_blocks m ρ),
    (θ_run _ _ _).mono
      (fun _ h c => by
        obtain ⟨e0, e1, e2, e3, e4⟩ := hag c
        obtain ⟨h6, h7, h8, h9, h10, h11, hr⟩ := h c
        refine ⟨h6.trans ?_, h7.trans ?_, h8.trans ?_, h9.trans ?_, h10.trans ?_, h11.trans ?_, hr⟩
        · rw [e0]
          exact Cert.Reference6Ideal.Read.val_main_v21_eq _
        · rw [e0]
          exact Cert.Reference6Ideal.Read.val_main_v23_eq _
        · rw [e1]
          exact Cert.Reference6Ideal.Read.val_main_v26_eq _
        · rw [e2]
          exact Cert.Reference6Ideal.Read.val_main_v29_eq _
        · rw [e3]
          exact Cert.Reference6Ideal.Read.val_main_v32_eq _
        · rw [e4]
          exact Cert.Reference6Ideal.Read.val_main_v35_eq _)
      (Cert.Reference6Ideal.Value.run (F := Ideal) m' ρ')⟩

end Cert.Proof.Rope

end
-- ==== Proof.lean ====
/- The claims about six calls of the layer, put together: that each program runs without fault and leaves its arguments
   as they were, and that each call over the extended reals computes what its reference computes. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Ffn
public import proofs.«01_k».proof.Proof.InProj
public import proofs.«01_k».proof.Proof.OutProj
public import proofs.«01_k».proof.Proof.Attn
public import proofs.«01_k».proof.Proof.S5Prep
public import proofs.«01_k».proof.Proof.Rope
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, AttnPre.facts, S5Prep.facts,
    fun m ρ _ => Cert.Kernel.Gen.frame m ρ,
    fun m ρ _ => Cert.KernelIdeal.Gen.frame m ρ,
    fun m ρ _ => Cert.KernelIdeal.Gen.frame m ρ,
    Attn.frame_r,
    fun m ρ _ => Attn.frame_r m ρ trivial,
    fun m ρ _ => Cert.Kernel2.Gen.frame m ρ,
    fun m ρ _ => Cert.Kernel2Ideal.Gen.frame m ρ,
    Ffn.frame_r,
    fun m ρ _ => Cert.Kernel3.Gen.frame m ρ,
    fun m ρ _ => Cert.Kernel3Ideal.Gen.frame m ρ,
    InProj.frame_r,
    fun m ρ _ => Cert.Kernel4.Gen.frame m ρ,
    fun m ρ _ => Cert.Kernel4Ideal.Gen.frame m ρ,
    OutProj.frame_r,
    fun m ρ _ => Cert.Kernel5.Gen.frame m ρ,
    fun m ρ _ => Cert.Kernel5Ideal.Gen.frame m ρ,
    fun m ρ _ => Cert.Kernel5Ideal.Gen.frame m ρ,
    S5Prep.frame_r,
    fun m ρ _ => S5Prep.frame_r m ρ trivial,
    fun m ρ _ => Cert.Kernel6.Gen.frame m ρ,
    fun m ρ _ => Cert.Kernel6Ideal.Gen.frame m ρ,
    Rope.frame_r,
    trivial,
    @Attn.algebraic AttnPre.facts,
    trivial,
    Ffn.algebraic,
    trivial,
    InProj.algebraic,
    trivial,
    OutProj.algebraic,
    trivial,
    @S5Prep.algebraic S5Prep.facts,
    trivial,
    Rope.algebraic⟩

end Cert.Proof

end
